-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_listed [hPre_listed : Cert.Pre_listed.Facts] (m : (ℓ : Loc Cert.KernelIdeal.nD Cert.KernelIdeal.τ Cert.KernelIdeal.sig) → Buf (Elt Ideal) ℓ) : Prop :=
  ∀ c : Dev Cert.KernelIdeal.nD,
    (Cert.Pre_listed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_listed [hPre_listed : Cert.Pre_listed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_listed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_listed [hKernelIdeal : Cert.KernelIdeal.Facts] [hPre_listed : Cert.Pre_listed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_listed m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_listed [hReferenceIdeal : Cert.ReferenceIdeal.Facts] [hPre_listed : Cert.Pre_listed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_listed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_listed [hKernelIdeal : Cert.KernelIdeal.Facts] [hReferenceIdeal : Cert.ReferenceIdeal.Facts] [hPre_listed : Cert.Pre_listed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_listed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_listed : Cert.Pre_listed.Facts),
    quiescent_Kernel (hKernel := hKernel) (hPre_in_range := hPre_in_range)
    ∧ quiescent_KernelIdeal (hKernelIdeal := hKernelIdeal) (hPre_in_range := hPre_in_range)
    ∧ quiescent_KernelIdeal_pre_listed (hKernelIdeal := hKernelIdeal) (hPre_listed := hPre_listed)
    ∧ quiescent_ReferenceIdeal (hReferenceIdeal := hReferenceIdeal)
    ∧ quiescent_ReferenceIdeal_pre_listed (hReferenceIdeal := hReferenceIdeal) (hPre_listed := hPre_listed)
    ∧ preserves_Kernel_KernelIdeal
    ∧ algebraic_KernelIdeal_ReferenceIdeal_pre_listed (hKernelIdeal := hKernelIdeal) (hReferenceIdeal := hReferenceIdeal) (hPre_listed := hPre_listed)
-- ==== Pre_in_range.lean ====
abbrev S1x2048x1024 : Shape := ⟨3, ![1, 2048, 1024]⟩
abbrev S3072x1024 : Shape := ⟨2, ![3072, 1024]⟩
abbrev S1024x1024 : Shape := ⟨2, ![1024, 1024]⟩
abbrev S16x2048x51 : Shape := ⟨3, ![16, 2048, 51]⟩
abbrev S51 : Shape := ⟨1, ![51]⟩
abbrev S1x1x51 : Shape := ⟨3, ![1, 1, 51]⟩
abbrev S_ : Shape := ⟨0, ![]⟩

class Facts : Prop where
  bcast_S51_S1x1x51_2 : S51.BroadcastsInDim S1x1x51 (![2] : Fin 1 → Fin S1x1x51.rank)
  bcast_S_S1x1x51 : S_.BroadcastsInDim S1x1x51 (![] : Fin 0 → Fin S1x1x51.rank)
  bcast_S1x1x51_S16x2048x51_0_1_2 : S1x1x51.BroadcastsInDim S16x2048x51 (![0, 1, 2] : Fin 3 → Fin S16x2048x51.rank)
  bcast_S_S16x2048x51 : S_.BroadcastsInDim S16x2048x51 (![] : Fin 0 → Fin S16x2048x51.rank)

variable [Facts]

def fn_where {F : FTy → Type} [FloatOps F] (arg0 : IVec S1x1x51 1) (arg1 : IVec S_ 32) (arg2 : IVec S_ 32) : IVec S1x1x51 32 :=
  let v0 : IVec S1x1x51 32 := broadcastInDim S1x1x51 ![] bcast_S_S1x1x51 arg1
  let v1 : IVec S1x1x51 32 := broadcastInDim S1x1x51 ![] bcast_S_S1x1x51 arg2
  let v2 : IVec S1x1x51 32 := select arg0 v0 v1
  v2

def fn {F : FTy → Type} [FloatOps F] (main_arg0 : FVec F S1x2048x1024 .f32) (main_arg1 : FVec F S3072x1024 .f32) (main_arg2 : FVec F S1024x1024 .f32) (main_arg3 : FVec F S1024x1024 .f32) (main_arg4 : IVec S16x2048x51 32) : IVec S16x2048x51 1 :=
  let main_v0 : IVec S51 32 := iotaInDim S51 32 0
  let main_v1 : IVec S1x1x51 32 := broadcastInDim S1x1x51 ![2] bcast_S51_S1x1x51_2 main_v0
  let main_c : IVec S_ 32 := constantI S_ 32 2#32
  let main_v2 : IVec S1x1x51 32 := broadcastInDim S1x1x51 ![] bcast_S_S1x1x51 main_c
  let main_v3 : IVec S1x1x51 1 := cmpi .slt main_v1 main_v2
  let main_c_0 : IVec S_ 32 := constantI S_ 32 0#32
  let main_c_1 : IVec S_ 32 := constantI S_ 32 4294967295#32
  let main_v4 : IVec S1x1x51 32 := fn_where (F := F) main_v3 main_c_0 main_c_1
  let main_v5 : IVec S1x1x51 32 := id main_v4
  let main_v6 : IVec S16x2048x51 32 := broadcastInDim S16x2048x51 ![0, 1, 2] bcast_S1x1x51_S16x2048x51_0_1_2 main_v5
  let main_v7 : IVec S16x2048x51 1 := cmpi .sge main_arg4 main_v6
  let main_c_2 : IVec S_ 32 := constantI S_ 32 2048#32
  let main_v8 : IVec S16x2048x51 32 := broadcastInDim S16x2048x51 ![] bcast_S_S16x2048x51 main_c_2
  let main_v9 : IVec S16x2048x51 1 := cmpi .slt main_arg4 main_v8
  let main_v10 : IVec S16x2048x51 1 := andi main_v7 main_v9
  main_v10
-- ==== Pre_listed.lean ====
abbrev S1x2048x1024 : Shape := ⟨3, ![1, 2048, 1024]⟩
abbrev S3072x1024 : Shape := ⟨2, ![3072, 1024]⟩
abbrev S1024x1024 : Shape := ⟨2, ![1024, 1024]⟩
abbrev S16x2048x51 : Shape := ⟨3, ![16, 2048, 51]⟩
abbrev S2048 : Shape := ⟨1, ![2048]⟩
abbrev S1x2048x1 : Shape := ⟨3, ![1, 2048, 1]⟩
abbrev S1x1x2048 : Shape := ⟨3, ![1, 1, 2048]⟩
abbrev S16x2048x51x1 : Shape := ⟨4, ![16, 2048, 51, 1]⟩
abbrev S1x1x1x2048 : Shape := ⟨4, ![1, 1, 1, 2048]⟩
abbrev S16x2048x51x2048 : Shape := ⟨4, ![16, 2048, 51, 2048]⟩
abbrev S_ : Shape := ⟨0, ![]⟩
abbrev S16x2048x2048 : Shape := ⟨3, ![16, 2048, 2048]⟩
abbrev S1x2048x2048 : Shape := ⟨3, ![1, 2048, 2048]⟩
abbrev S16x2048x1 : Shape := ⟨3, ![16, 2048, 1]⟩
abbrev S51 : Shape := ⟨1, ![51]⟩
abbrev S1x1x51 : Shape := ⟨3, ![1, 1, 51]⟩

class Facts : Prop where
  bcast_S2048_S1x2048x1_1 : S2048.BroadcastsInDim S1x2048x1 (![1] : Fin 1 → Fin S1x2048x1.rank)
  bcast_S2048_S1x1x2048_2 : S2048.BroadcastsInDim S1x1x2048 (![2] : Fin 1 → Fin S1x1x2048.rank)
  bcast_S16x2048x51_S16x2048x51x1_0_1_2 : S16x2048x51.BroadcastsInDim S16x2048x51x1 (![0, 1, 2] : Fin 3 → Fin S16x2048x51x1.rank)
  bcast_S2048_S1x1x1x2048_3 : S2048.BroadcastsInDim S1x1x1x2048 (![3] : Fin 1 → Fin S1x1x1x2048.rank)
  bcast_S16x2048x51x1_S16x2048x51x2048_0_1_2_3 : S16x2048x51x1.BroadcastsInDim S16x2048x51x2048 (![0, 1, 2, 3] : Fin 4 → Fin S16x2048x51x2048.rank)
  bcast_S1x1x1x2048_S16x2048x51x2048_0_1_2_3 : S1x1x1x2048.BroadcastsInDim S16x2048x51x2048 (![0, 1, 2, 3] : Fin 4 → Fin S16x2048x51x2048.rank)
  natLt_1_32 : 1 < 32
  reducesTo_S16x2048x51x2048_S16x2048x2048_d2 : S16x2048x51x2048.ReducesTo [2] S16x2048x2048
  h_S_ : 0 < S_.numel
  bcast_S_S1x2048x1 : S_.BroadcastsInDim S1x2048x1 (![] : Fin 0 → Fin S1x2048x1.rank)
  bcast_S1x1x2048_S1x2048x2048_0_1_2 : S1x1x2048.BroadcastsInDim S1x2048x2048 (![0, 1, 2] : Fin 3 → Fin S1x2048x2048.rank)
  bcast_S1x2048x1_S1x2048x2048_0_1_2 : S1x2048x1.BroadcastsInDim S1x2048x2048 (![0, 1, 2] : Fin 3 → Fin S1x2048x2048.rank)
  bcast_S_S1x1x2048 : S_.BroadcastsInDim S1x1x2048 (![] : Fin 0 → Fin S1x1x2048.rank)
  slices_S16x2048x51_S16x2048x1_0_0_0 : S16x2048x51.Slices ![0, 0, 0] S16x2048x1
  bcast_S16x2048x1_S16x2048x2048_0_1_2 : S16x2048x1.BroadcastsInDim S16x2048x2048 (![0, 1, 2] : Fin 3 → Fin S16x2048x2048.rank)
  bcast_S1x1x2048_S16x2048x2048_0_1_2 : S1x1x2048.BroadcastsInDim S16x2048x2048 (![0, 1, 2] : Fin 3 → Fin S16x2048x2048.rank)
  bcast_S1x2048x2048_S16x2048x2048_0_1_2 : S1x2048x2048.BroadcastsInDim S16x2048x2048 (![0, 1, 2] : Fin 3 → Fin S16x2048x2048.rank)
  slices_S16x2048x51_S16x2048x1_0_0_1 : S16x2048x51.Slices ![0, 0, 1] S16x2048x1
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S3072x1024 : S_.BroadcastsInDim S3072x1024 (![] : Fin 0 → Fin S3072x1024.rank)
  reducesTo_S3072x1024_S_d0_1 : S3072x1024.ReducesTo [0, 1] S_
  bcast_S51_S1x1x51_2 : S51.BroadcastsInDim S1x1x51 (![2] : Fin 1 → Fin S1x1x51.rank)
  bcast_S_S1x1x51 : S_.BroadcastsInDim S1x1x51 (![] : Fin 0 → Fin S1x1x51.rank)
  bcast_S1x1x51_S16x2048x51_0_1_2 : S1x1x51.BroadcastsInDim S16x2048x51 (![0, 1, 2] : Fin 3 → Fin S16x2048x51.rank)
  bcast_S_S16x2048x51 : S_.BroadcastsInDim S16x2048x51 (![] : Fin 0 → Fin S16x2048x51.rank)
  reducesTo_S16x2048x51_S_d0_1_2 : S16x2048x51.ReducesTo [0, 1, 2] S_
  bcast_S_S16x2048x2048 : S_.BroadcastsInDim S16x2048x2048 (![] : Fin 0 → Fin S16x2048x2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1x1x2048 32) (arg1 : IVec S_ 32) : IVec S1x1x2048 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S1x1x2048 32 := broadcastInDim S1x1x2048 ![] bcast_S_S1x1x2048 v2
  let v4 : IVec S1x1x2048 32 := Host.remsi arg0 v3
  let c_1 : IVec S_ 32 := constantI S_ 32 0#32
  let v5 : IVec S1x1x2048 32 := broadcastInDim S1x1x2048 ![] bcast_S_S1x1x2048 c_1
  let v6 : IVec S1x1x2048 1 := cmpi .ne v4 v5
  let c_2 : IVec S_ 32 := constantI S_ 32 0#32
  let v7 : IVec S1x1x2048 32 := broadcastInDim S1x1x2048 ![] bcast_S_S1x1x2048 c_2
  let v8 : IVec S1x1x2048 1 := cmpi .slt v4 v7
  let c_3 : IVec S_ 32 := constantI S_ 32 0#32
  let v9 : IVec S_ 1 := cmpi .slt v2 c_3
  let v10 : IVec S1x1x2048 1 := broadcastInDim S1x1x2048 ![] bcast_S_S1x1x2048 v9
  let v11 : IVec S1x1x2048 1 := cmpi .ne v8 v10
  let v12 : IVec S1x1x2048 1 := andi v11 v6
  let v13 : IVec S1x1x2048 32 := broadcastInDim S1x1x2048 ![] bcast_S_S1x1x2048 v2
  let v14 : IVec S1x1x2048 32 := addi v4 v13
  let v15 : IVec S1x1x2048 32 := select v12 v14 v4
  v15

def fn_where_0 {F : FTy → Type} [FloatOps F] (arg0 : IVec S1x1x51 1) (arg1 : IVec S_ 32) (arg2 : IVec S_ 32) : IVec S1x1x51 32 :=
  let v0 : IVec S1x1x51 32 := broadcastInDim S1x1x51 ![] bcast_S_S1x1x51 arg1
  let v1 : IVec S1x1x51 32 := broadcastInDim S1x1x51 ![] bcast_S_S1x1x51 arg2
  let v2 : IVec S1x1x51 32 := select arg0 v0 v1
  v2

def fn_part4 {F : FTy → Type} [FloatOps F] (main_arg4 : IVec S16x2048x51 32) (main_v69 : IVec S_ 1) (main_v75 : IVec S16x2048x2048 1) (main_v79 : IVec S1x1x51 1) (main_c_12 : IVec S_ 32) (main_c_13 : IVec S_ 32) : IVec S16x2048x2048 1 :=
  let main_v80 : IVec S1x1x51 32 := fn_where_0 (F := F) main_v79 main_c_12 main_c_13
  let main_v81 : IVec S1x1x51 32 := id main_v80
  let main_v82 : IVec S16x2048x51 32 := broadcastInDim S16x2048x51 ![0, 1, 2] bcast_S1x1x51_S16x2048x51_0_1_2 main_v81
  let main_v83 : IVec S16x2048x51 1 := cmpi .sge main_arg4 main_v82
  let main_c_14 : IVec S_ 32 := constantI S_ 32 2048#32
  let main_v84 : IVec S16x2048x51 32 := broadcastInDim S16x2048x51 ![] bcast_S_S16x2048x51 main_c_14
  let main_v85 : IVec S16x2048x51 1 := cmpi .slt main_arg4 main_v84
  let main_v86 : IVec S16x2048x51 1 := andi main_v83 main_v85
  let main_c_15 : IVec S_ 1 := constantI S_ 1 1#1
  let main_v87 : IVec S_ 1 := (fun x v => Host.reduce IntOp.andi x v reducesTo_S16x2048x51_S_d0_1_2 h_S_) main_v86 main_c_15
  let main_v88 : IVec S16x2048x2048 1 := broadcastInDim S16x2048x2048 ![] bcast_S_S16x2048x2048 main_v87
  let main_v89 : IVec S16x2048x2048 1 := andi main_v75 main_v88
  let main_v90 : IVec S16x2048x2048 1 := broadcastInDim S16x2048x2048 ![] bcast_S_S16x2048x2048 main_v69
  let main_v91 : IVec S16x2048x2048 1 := andi main_v89 main_v90
  main_v91

def fn_part3 {F : FTy → Type} [FloatOps F] (main_arg1 : FVec F S3072x1024 .f32) (main_arg4 : IVec S16x2048x51 32) (main_v1 : IVec S1x2048x1 32) (main_v3 : IVec S1x1x2048 32) (main_v11 : IVec S16x2048x2048 32) (main_v60 : IVec S16x2048x2048 32) (main_v61 : FVec F S1x2048x1024 .f32) (main_cst : FVec F S_ .f32) : IVec S16x2048x2048 1 :=
  let main_v62 : FVec F S1x2048x1024 .f32 := broadcastInDim S1x2048x1024 ![] bcast_S_S1x2048x1024 main_cst
  let main_v63 : IVec S1x2048x1024 1 := cmpf .olt main_v61 main_v62
  let main_c_8 : IVec S_ 1 := constantI S_ 1 1#1
  let main_v64 : IVec S_ 1 := (fun x v => Host.reduce IntOp.andi x v reducesTo_S1x2048x1024_S_d0_1_2 h_S_) main_v63 main_c_8
  let main_v65 : FVec F S3072x1024 .f32 := Host.absf main_arg1
  let main_cst_9 : FVec F S_ .f32 := constant S_ .f32 0x7F800000#32
  let main_v66 : FVec F S3072x1024 .f32 := broadcastInDim S3072x1024 ![] bcast_S_S3072x1024 main_cst_9
  let main_v67 : IVec S3072x1024 1 := cmpf .olt main_v65 main_v66
  let main_c_10 : IVec S_ 1 := constantI S_ 1 1#1
  let main_v68 : IVec S_ 1 := (fun x v => Host.reduce IntOp.andi x v reducesTo_S3072x1024_S_d0_1 h_S_) main_v67 main_c_10
  let main_v69 : IVec S_ 1 := andi main_v64 main_v68
  let main_v70 : IVec S1x2048x2048 32 := broadcastInDim S1x2048x2048 ![0, 1, 2] bcast_S1x1x2048_S1x2048x2048_0_1_2 main_v3
  let main_v71 : IVec S1x2048x2048 32 := broadcastInDim S1x2048x2048 ![0, 1, 2] bcast_S1x2048x1_S1x2048x2048_0_1_2 main_v1
  let main_v72 : IVec S1x2048x2048 1 := cmpi .sgt main_v70 main_v71
  let main_v73 : IVec S16x2048x2048 1 := cmpi .eq main_v11 main_v60
  let main_v74 : IVec S16x2048x2048 1 := broadcastInDim S16x2048x2048 ![0, 1, 2] bcast_S1x2048x2048_S16x2048x2048_0_1_2 main_v72
  let main_v75 : IVec S16x2048x2048 1 := ori main_v74 main_v73
  let main_v76 : IVec S51 32 := iotaInDim S51 32 0
  let main_v77 : IVec S1x1x51 32 := broadcastInDim S1x1x51 ![2] bcast_S51_S1x1x51_2 main_v76
  let main_c_11 : IVec S_ 32 := constantI S_ 32 2#32
  let main_v78 : IVec S1x1x51 32 := broadcastInDim S1x1x51 ![] bcast_S_S1x1x51 main_c_11
  let main_v79 : IVec S1x1x51 1 := cmpi .slt main_v77 main_v78
  let main_c_12 : IVec S_ 32 := constantI S_ 32 0#32
  let main_c_13 : IVec S_ 32 := constantI S_ 32 4294967295#32
  fn_part4 (F := F) main_arg4 main_v69 main_v75 main_v79 main_c_12 main_c_13

def fn_part2 {F : FTy → Type} [FloatOps F] (main_arg0 : FVec F S1x2048x1024 .f32) (main_arg1 : FVec F S3072x1024 .f32) (main_arg4 : IVec S16x2048x51 32) (main_v1 : IVec S1x2048x1 32) (main_v3 : IVec S1x1x2048 32) (main_v11 : IVec S16x2048x2048 32) (main_v20 : IVec S1x2048x2048 1) (main_v25 : IVec S1x2048x2048 1) (main_v28 : IVec S1x1x2048 1) (main_v39 : IVec S16x2048x2048 1) (main_c_6 : IVec S_ 32) : IVec S16x2048x2048 1 :=
  let main_v40 : IVec S1x1x2048 32 := fn_remainder (F := F) main_v3 main_c_6
  let main_c_7 : IVec S_ 32 := constantI S_ 32 0#32
  let main_v41 : IVec S1x1x2048 32 := broadcastInDim S1x1x2048 ![] bcast_S_S1x1x2048 main_c_7
  let main_v42 : IVec S1x1x2048 1 := cmpi .ne main_v40 main_v41
  let main_v43 : IVec S1x2048x2048 1 := broadcastInDim S1x2048x2048 ![0, 1, 2] bcast_S1x1x2048_S1x2048x2048_0_1_2 main_v42
  let main_v44 : IVec S1x2048x2048 1 := andi main_v25 main_v43
  let main_v45 : IVec S16x2048x1 32 := (extractStridedSlice S16x2048x1 ![0, 0, 1] · slices_S16x2048x51_S16x2048x1_0_0_1) main_arg4
  let main_v46 : IVec S16x2048x2048 32 := broadcastInDim S16x2048x2048 ![0, 1, 2] bcast_S16x2048x1_S16x2048x2048_0_1_2 main_v45
  let main_v47 : IVec S16x2048x2048 32 := broadcastInDim S16x2048x2048 ![0, 1, 2] bcast_S1x1x2048_S16x2048x2048_0_1_2 main_v3
  let main_v48 : IVec S16x2048x2048 1 := cmpi .eq main_v46 main_v47
  let main_v49 : IVec S16x2048x2048 1 := broadcastInDim S16x2048x2048 ![0, 1, 2] bcast_S1x2048x2048_S16x2048x2048_0_1_2 main_v44
  let main_v50 : IVec S16x2048x2048 1 := andi main_v49 main_v48
  let main_v51 : IVec S1x2048x2048 32 := (extui 32 · natLt_1_32) main_v20
  let main_v52 : IVec S1x2048x2048 1 := broadcastInDim S1x2048x2048 ![0, 1, 2] bcast_S1x1x2048_S1x2048x2048_0_1_2 main_v28
  let main_v53 : IVec S1x2048x2048 1 := andi main_v25 main_v52
  let main_v54 : IVec S1x2048x2048 32 := (extui 32 · natLt_1_32) main_v53
  let main_v55 : IVec S1x2048x2048 32 := addi main_v51 main_v54
  let main_v56 : IVec S16x2048x2048 32 := (extui 32 · natLt_1_32) main_v39
  let main_v57 : IVec S16x2048x2048 32 := broadcastInDim S16x2048x2048 ![0, 1, 2] bcast_S1x2048x2048_S16x2048x2048_0_1_2 main_v55
  let main_v58 : IVec S16x2048x2048 32 := addi main_v57 main_v56
  let main_v59 : IVec S16x2048x2048 32 := (extui 32 · natLt_1_32) main_v50
  let main_v60 : IVec S16x2048x2048 32 := addi main_v58 main_v59
  let main_v61 : FVec F S1x2048x1024 .f32 := Host.absf main_arg0
  let main_cst : FVec F S_ .f32 := constant S_ .f32 0x7F800000#32
  fn_part3 (F := F) main_arg1 main_arg4 main_v1 main_v3 main_v11 main_v60 main_v61 main_cst

def fn_part1 {F : FTy → Type} [FloatOps F] (main_arg0 : FVec F S1x2048x1024 .f32) (main_arg1 : FVec F S3072x1024 .f32) (main_arg4 : IVec S16x2048x51 32) (main_v1 : IVec S1x2048x1 32) (main_v3 : IVec S1x1x2048 32) (main_v11 : IVec S16x2048x2048 32) (main_v20 : IVec S1x2048x2048 1) (main_c_1 : IVec S_ 32) : IVec S16x2048x2048 1 :=
  let main_v21 : IVec S1x2048x1 32 := broadcastInDim S1x2048x1 ![] bcast_S_S1x2048x1 main_c_1
  let main_v22 : IVec S1x2048x1 32 := subi main_v1 main_v21
  let main_v23 : IVec S1x2048x2048 32 := broadcastInDim S1x2048x2048 ![0, 1, 2] bcast_S1x1x2048_S1x2048x2048_0_1_2 main_v3
  let main_v24 : IVec S1x2048x2048 32 := broadcastInDim S1x2048x2048 ![0, 1, 2] bcast_S1x2048x1_S1x2048x2048_0_1_2 main_v22
  let main_v25 : IVec S1x2048x2048 1 := cmpi .slt main_v23 main_v24
  let main_c_2 : IVec S_ 32 := constantI S_ 32 128#32
  let main_v26 : IVec S1x1x2048 32 := fn_remainder (F := F) main_v3 main_c_2
  let main_c_3 : IVec S_ 32 := constantI S_ 32 0#32
  let main_v27 : IVec S1x1x2048 32 := broadcastInDim S1x1x2048 ![] bcast_S_S1x1x2048 main_c_3
  let main_v28 : IVec S1x1x2048 1 := cmpi .eq main_v26 main_v27
  let main_c_4 : IVec S_ 32 := constantI S_ 32 128#32
  let main_v29 : IVec S1x1x2048 32 := fn_remainder (F := F) main_v3 main_c_4
  let main_c_5 : IVec S_ 32 := constantI S_ 32 0#32
  let main_v30 : IVec S1x1x2048 32 := broadcastInDim S1x1x2048 ![] bcast_S_S1x1x2048 main_c_5
  let main_v31 : IVec S1x1x2048 1 := cmpi .ne main_v29 main_v30
  let main_v32 : IVec S1x2048x2048 1 := broadcastInDim S1x2048x2048 ![0, 1, 2] bcast_S1x1x2048_S1x2048x2048_0_1_2 main_v31
  let main_v33 : IVec S1x2048x2048 1 := andi main_v25 main_v32
  let main_v34 : IVec S16x2048x1 32 := (extractStridedSlice S16x2048x1 ![0, 0, 0] · slices_S16x2048x51_S16x2048x1_0_0_0) main_arg4
  let main_v35 : IVec S16x2048x2048 32 := broadcastInDim S16x2048x2048 ![0, 1, 2] bcast_S16x2048x1_S16x2048x2048_0_1_2 main_v34
  let main_v36 : IVec S16x2048x2048 32 := broadcastInDim S16x2048x2048 ![0, 1, 2] bcast_S1x1x2048_S16x2048x2048_0_1_2 main_v3
  let main_v37 : IVec S16x2048x2048 1 := cmpi .eq main_v35 main_v36
  let main_v38 : IVec S16x2048x2048 1 := broadcastInDim S16x2048x2048 ![0, 1, 2] bcast_S1x2048x2048_S16x2048x2048_0_1_2 main_v33
  let main_v39 : IVec S16x2048x2048 1 := andi main_v38 main_v37
  let main_c_6 : IVec S_ 32 := constantI S_ 32 128#32
  fn_part2 (F := F) main_arg0 main_arg1 main_arg4 main_v1 main_v3 main_v11 main_v20 main_v25 main_v28 main_v39 main_c_6

def fn {F : FTy → Type} [FloatOps F] (main_arg0 : FVec F S1x2048x1024 .f32) (main_arg1 : FVec F S3072x1024 .f32) (main_arg2 : FVec F S1024x1024 .f32) (main_arg3 : FVec F S1024x1024 .f32) (main_arg4 : IVec S16x2048x51 32) : IVec S16x2048x2048 1 :=
  let main_v0 : IVec S2048 32 := iotaInDim S2048 32 0
  let main_v1 : IVec S1x2048x1 32 := broadcastInDim S1x2048x1 ![1] bcast_S2048_S1x2048x1_1 main_v0
  let main_v2 : IVec S2048 32 := iotaInDim S2048 32 0
  let main_v3 : IVec S1x1x2048 32 := broadcastInDim S1x1x2048 ![2] bcast_S2048_S1x1x2048_2 main_v2
  let main_v4 : IVec S16x2048x51x1 32 := broadcastInDim S16x2048x51x1 ![0, 1, 2] bcast_S16x2048x51_S16x2048x51x1_0_1_2 main_arg4
  let main_v5 : IVec S2048 32 := iotaInDim S2048 32 0
  let main_v6 : IVec S1x1x1x2048 32 := broadcastInDim S1x1x1x2048 ![3] bcast_S2048_S1x1x1x2048_3 main_v5
  let main_v7 : IVec S16x2048x51x2048 32 := broadcastInDim S16x2048x51x2048 ![0, 1, 2, 3] bcast_S16x2048x51x1_S16x2048x51x2048_0_1_2_3 main_v4
  let main_v8 : IVec S16x2048x51x2048 32 := broadcastInDim S16x2048x51x2048 ![0, 1, 2, 3] bcast_S1x1x1x2048_S16x2048x51x2048_0_1_2_3 main_v6
  let main_v9 : IVec S16x2048x51x2048 1 := cmpi .eq main_v7 main_v8
  let main_v10 : IVec S16x2048x51x2048 32 := (extui 32 · natLt_1_32) main_v9
  let main_c : IVec S_ 32 := constantI S_ 32 0#32
  let main_v11 : IVec S16x2048x2048 32 := (fun x v => Host.reduce IntOp.addi x v reducesTo_S16x2048x51x2048_S16x2048x2048_d2 h_S_) main_v10 main_c
  let main_c_0 : IVec S_ 32 := constantI S_ 32 32#32
  let main_v12 : IVec S1x2048x1 32 := broadcastInDim S1x2048x1 ![] bcast_S_S1x2048x1 main_c_0
  let main_v13 : IVec S1x2048x1 32 := subi main_v1 main_v12
  let main_v14 : IVec S1x2048x2048 32 := broadcastInDim S1x2048x2048 ![0, 1, 2] bcast_S1x1x2048_S1x2048x2048_0_1_2 main_v3
  let main_v15 : IVec S1x2048x2048 32 := broadcastInDim S1x2048x2048 ![0, 1, 2] bcast_S1x2048x1_S1x2048x2048_0_1_2 main_v13
  let main_v16 : IVec S1x2048x2048 1 := cmpi .sge main_v14 main_v15
  let main_v17 : IVec S1x2048x2048 32 := broadcastInDim S1x2048x2048 ![0, 1, 2] bcast_S1x1x2048_S1x2048x2048_0_1_2 main_v3
  let main_v18 : IVec S1x2048x2048 32 := broadcastInDim S1x2048x2048 ![0, 1, 2] bcast_S1x2048x1_S1x2048x2048_0_1_2 main_v1
  let main_v19 : IVec S1x2048x2048 1 := cmpi .sle main_v17 main_v18
  let main_v20 : IVec S1x2048x2048 1 := andi main_v16 main_v19
  let main_c_1 : IVec S_ 32 := constantI S_ 32 32#32
  fn_part1 (F := F) main_arg0 main_arg1 main_arg4 main_v1 main_v3 main_v11 main_v20 main_c_1
-- ==== Kernel.lean ====
abbrev S1x2048x1024 : Shape := ⟨3, ![1, 2048, 1024]⟩
abbrev S3072x1024 : Shape := ⟨2, ![3072, 1024]⟩
abbrev S1024x1024 : Shape := ⟨2, ![1024, 1024]⟩
abbrev S16x2048x51 : Shape := ⟨3, ![16, 2048, 51]⟩
abbrev S2048x1024 : Shape := ⟨2, ![2048, 1024]⟩
abbrev S2048x3072 : Shape := ⟨2, ![2048, 3072]⟩
abbrev S32768x128 : Shape := ⟨2, ![32768, 128]⟩
abbrev S256x1024 : Shape := ⟨2, ![256, 1024]⟩
abbrev S256x3072 : Shape := ⟨2, ![256, 3072]⟩
abbrev S4096x128 : Shape := ⟨2, ![4096, 128]⟩
abbrev S256x16x64 : Shape := ⟨3, ![256, 16, 64]⟩
abbrev S256x16x128 : Shape := ⟨3, ![256, 16, 128]⟩
abbrev S16x1024 : Shape := ⟨2, ![16, 1024]⟩
abbrev S16x2048x2 : Shape := ⟨3, ![16, 2048, 2]⟩
abbrev S2048 : Shape := ⟨1, ![2048]⟩
abbrev S1x2048x1 : Shape := ⟨3, ![1, 2048, 1]⟩
abbrev S_ : Shape := ⟨0, ![]⟩
abbrev S16x2048x8 : Shape := ⟨3, ![16, 2048, 8]⟩
abbrev S16 : Shape := ⟨1, ![16]⟩
abbrev S16x1x1 : Shape := ⟨3, ![16, 1, 1]⟩
abbrev S2x16x2048 : Shape := ⟨3, ![2, 16, 2048]⟩
abbrev S1x65536 : Shape := ⟨2, ![1, 65536]⟩
abbrev S65536x128 : Shape := ⟨2, ![65536, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S2x16x2048x128 : Shape := ⟨4, ![2, 16, 2048, 128]⟩
abbrev S128x1024 : Shape := ⟨2, ![128, 1024]⟩
abbrev S2x16x128x128 : Shape := ⟨4, ![2, 16, 128, 128]⟩
abbrev S16x128x8 : Shape := ⟨3, ![16, 128, 8]⟩
abbrev S128x256 : Shape := ⟨2, ![128, 256]⟩
abbrev S128x16 : Shape := ⟨2, ![128, 16]⟩
abbrev S128x64 : Shape := ⟨2, ![128, 64]⟩
abbrev S256x64 : Shape := ⟨2, ![256, 64]⟩
abbrev S16x64 : Shape := ⟨2, ![16, 64]⟩
abbrev S1x1x128x64 : Shape := ⟨4, ![1, 1, 128, 64]⟩
abbrev S1x128x8 : Shape := ⟨3, ![1, 128, 8]⟩
abbrev S128x8 : Shape := ⟨2, ![128, 8]⟩
abbrev S128x1 : Shape := ⟨2, ![128, 1]⟩

abbrev nBuf : Table → Nat
  | .hbm => 73
  | .local .tc .vmem => 30
  | .local .scVector .vmem => 2
  | _ => 0

abbrev bufTy : (tb : Table) → Fin (nBuf tb) → BufTy
  | .hbm, ⟨0, _⟩ => ⟨S1x2048x1024, .f32⟩
  | .hbm, ⟨1, _⟩ => ⟨S3072x1024, .f32⟩
  | .hbm, ⟨2, _⟩ => ⟨S1024x1024, .f32⟩
  | .hbm, ⟨3, _⟩ => ⟨S1024x1024, .f32⟩
  | .hbm, ⟨4, _⟩ => ⟨S16x2048x51, .i32⟩
  | .hbm, ⟨5, _⟩ => ⟨S2048x1024, .f32⟩
  | .hbm, ⟨6, _⟩ => ⟨S2048x1024, .bf16⟩
  | .hbm, ⟨7, _⟩ => ⟨S3072x1024, .bf16⟩
  | .hbm, ⟨8, _⟩ => ⟨S2048x3072, .bf16⟩
  | .hbm, ⟨9, _⟩ => ⟨S32768x128, .f32⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S16x1024, .bf16⟩
  | .hbm, ⟨14, _⟩ => ⟨S16x1024, .bf16⟩
  | .hbm, ⟨15, _⟩ => ⟨S16x2048x2, .i32⟩
  | .hbm, ⟨16, _⟩ => ⟨S2048, .i32⟩
  | .hbm, ⟨17, _⟩ => ⟨S1x2048x1, .i32⟩
  | .hbm, ⟨18, _⟩ => ⟨S_, .i32⟩
  | .hbm, ⟨19, _⟩ => ⟨S1x2048x1, .i32⟩
  | .hbm, ⟨20, _⟩ => ⟨S1x2048x1, .i32⟩
  | .hbm, ⟨21, _⟩ => ⟨S16x2048x2, .i32⟩
  | .hbm, ⟨22, _⟩ => ⟨S16x2048x2, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16x2048x2, .i32⟩
  | .hbm, ⟨30, _⟩ => ⟨S16x2048x2, .i32⟩
  | .hbm, ⟨31, _⟩ => ⟨S_, .i32⟩
  | .hbm, ⟨32, _⟩ => ⟨S16x2048x2, .i32⟩
  | .hbm, ⟨33, _⟩ => ⟨S16x2048x2, .i1⟩
  | .hbm, ⟨34, _⟩ => ⟨S_, .i32⟩
  | .hbm, ⟨35, _⟩ => ⟨S16x2048x2, .i32⟩
  | .hbm, ⟨36, _⟩ => ⟨S16x2048x2, .i1⟩
  | .hbm, ⟨37, _⟩ => ⟨S_, .i32⟩
  | .hbm, ⟨38, _⟩ => ⟨S_, .i1⟩
  | .hbm, ⟨39, _⟩ => ⟨S16x2048x2, .i1⟩
  | .hbm, ⟨40, _⟩ => ⟨S16x2048x2, .i1⟩
  | .hbm, ⟨41, _⟩ => ⟨S16x2048x2, .i1⟩
  | .hbm, ⟨42, _⟩ => ⟨S16x2048x2, .i32⟩
  | .hbm, ⟨43, _⟩ => ⟨S16x2048x2, .i32⟩
  | .hbm, ⟨44, _⟩ => ⟨S16x2048x2, .i32⟩
  | .hbm, ⟨45, _⟩ => ⟨S_, .i32⟩
  | .hbm, ⟨46, _⟩ => ⟨S16x2048x2, .i32⟩
  | .hbm, ⟨47, _⟩ => ⟨S16x2048x2, .i1⟩
  | .hbm, ⟨48, _⟩ => ⟨S16x2048x2, .i1⟩
  | .hbm, ⟨49, _⟩ => ⟨S_, .f32⟩
  | .hbm, ⟨50, _⟩ => ⟨S_, .f32⟩
  | .hbm, ⟨51, _⟩ => ⟨S16x2048x2, .f32⟩
  | .hbm, ⟨52, _⟩ => ⟨S16x2048x2, .f32⟩
  | .hbm, ⟨53, _⟩ => ⟨S16x2048x2, .f32⟩
  | .hbm, ⟨54, _⟩ => ⟨S16x2048x2, .f32⟩
  | .hbm, ⟨55, _⟩ => ⟨S_, .i32⟩
  | .hbm, ⟨56, _⟩ => ⟨S_, .f32⟩
  | .hbm, ⟨57, _⟩ => ⟨S16x2048x8, .f32⟩
  | .hbm, ⟨58, _⟩ => ⟨S16, .i32⟩
  | .hbm, ⟨59, _⟩ => ⟨S16x1x1, .i32⟩
  | .hbm, ⟨60, _⟩ => ⟨S_, .i32⟩
  | .hbm, ⟨61, _⟩ => ⟨S16x2048x2, .i32⟩
  | .hbm, ⟨62, _⟩ => ⟨S16x2048x2, .i32⟩
  | .hbm, ⟨63, _⟩ => ⟨S16x2048x2, .i32⟩
  | .hbm, ⟨64, _⟩ => ⟨S16x2048x2, .i32⟩
  | .hbm, ⟨65, _⟩ => ⟨S2x16x2048, .i32⟩
  | .hbm, ⟨66, _⟩ => ⟨S1x65536, .i32⟩
  | .hbm, ⟨67, _⟩ => ⟨S65536x128, .f32⟩
  | .hbm, ⟨68, _⟩ => ⟨S2x16x2048x128, .f32⟩
  | .hbm, ⟨69, _⟩ => ⟨S2048x1024, .bf16⟩
  | .hbm, ⟨70, _⟩ => ⟨S1024x1024, .bf16⟩
  | .hbm, ⟨71, _⟩ => ⟨S2048x1024, .f32⟩
  | .hbm, ⟨72, _⟩ => ⟨S1x2048x1024, .f32⟩
  | .local .tc .vmem, ⟨0, _⟩ => ⟨S256x1024, .bf16⟩
  | .local .tc .vmem, ⟨1, _⟩ => ⟨S256x1024, .bf16⟩
  | .local .tc .vmem, ⟨2, _⟩ => ⟨S3072x1024, .bf16⟩
  | .local .tc .vmem, ⟨3, _⟩ => ⟨S256x3072, .bf16⟩
  | .local .tc .vmem, ⟨4, _⟩ => ⟨S256x3072, .bf16⟩
  | .local .tc .vmem, ⟨5, _⟩ => ⟨S4096x128, .f32⟩
  | .local .tc .vmem, ⟨6, _⟩ => ⟨S4096x128, .f32⟩
  | .local .tc .vmem, ⟨7, _⟩ => ⟨S128x1024, .bf16⟩
  | .local .tc .vmem, ⟨8, _⟩ => ⟨S128x1024, .bf16⟩
  | .local .tc .vmem, ⟨9, _⟩ => ⟨S128x1024, .bf16⟩
  | .local .tc .vmem, ⟨10, _⟩ => ⟨S128x1024, .bf16⟩
  | .local .tc .vmem, ⟨11, _⟩ => ⟨S128x1024, .bf16⟩
  | .local .tc .vmem, ⟨12, _⟩ => ⟨S128x1024, .bf16⟩
  | .local .tc .vmem, ⟨13, _⟩ => ⟨S16x1024, .bf16⟩
  | .local .tc .vmem, ⟨14, _⟩ => ⟨S128x1024, .bf16⟩
  | .local .tc .vmem, ⟨15, _⟩ => ⟨S128x1024, .bf16⟩
  | .local .tc .vmem, ⟨16, _⟩ => ⟨S128x1024, .bf16⟩
  | .local .tc .vmem, ⟨17, _⟩ => ⟨S128x1024, .bf16⟩
  | .local .tc .vmem, ⟨18, _⟩ => ⟨S16x1024, .bf16⟩
  | .local .tc .vmem, ⟨19, _⟩ => ⟨S2x16x128x128, .f32⟩
  | .local .tc .vmem, ⟨20, _⟩ => ⟨S2x16x128x128, .f32⟩
  | .local .tc .vmem, ⟨21, _⟩ => ⟨S16x128x8, .f32⟩
  | .local .tc .vmem, ⟨22, _⟩ => ⟨S16x128x8, .f32⟩
  | .local .tc .vmem, ⟨23, _⟩ => ⟨S128x1024, .bf16⟩
  | .local .tc .vmem, ⟨24, _⟩ => ⟨S128x1024, .bf16⟩
  | .local .tc .vmem, ⟨25, _⟩ => ⟨S256x1024, .bf16⟩
  | .local .tc .vmem, ⟨26, _⟩ => ⟨S256x1024, .bf16⟩
  | .local .tc .vmem, ⟨27, _⟩ => ⟨S1024x1024, .bf16⟩
  | .local .tc .vmem, ⟨28, _⟩ => ⟨S256x1024, .f32⟩
  | .local .tc .vmem, ⟨29, _⟩ => ⟨S256x1024, .f32⟩
  | .local .scVector .vmem, ⟨0, _⟩ => ⟨S2x1x128, .i32⟩
  | .local .scVector .vmem, ⟨1, _⟩ => ⟨S2x128x128, .f32⟩
  | _, _ => ⟨S1x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_cst_2 : Ref sig .tc := ⟨.hbm, 50, rfl⟩
abbrev main_call1_v0 : Ref sig .tc := ⟨.hbm, 51, rfl⟩
abbrev main_call1_v1 : Ref sig .tc := ⟨.hbm, 52, rfl⟩
abbrev main_v20 : Ref sig .tc := ⟨.hbm, 53, rfl⟩
abbrev main_v21 : Ref sig .tc := ⟨.hbm, 54, rfl⟩
abbrev main_c_3 : Ref sig .tc := ⟨.hbm, 55, rfl⟩
abbrev main_call2_v0 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v3_1_scv : Ref sig .scVector := ⟨.hbm, 9, rfl⟩
abbrev main_v30_scv : Ref sig .scVector := ⟨.hbm, 66, rfl⟩
abbrev main_v31_scv : Ref sig .scVector := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc2_stg8_0 : Ref sig .tc := ⟨.vmem, 21, rfl⟩
abbrev cc2_stg8_1 : Ref sig .tc := ⟨.vmem, 22, rfl⟩
abbrev cc2_stg9_0 : Ref sig .tc := ⟨.vmem, 23, rfl⟩
abbrev cc2_stg9_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem7_0 : DmaSem sig := 24
abbrev cc2_sem7_1 : DmaSem sig := 25
abbrev cc2_sem8_0 : DmaSem sig := 26
abbrev cc2_sem8_1 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k1_off2 (i : grid1.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k1_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k1_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k1_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k1_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k1_off5 (i : grid1.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k1_off6 (arg6_r0 : BitVec 32) : Fin 1 → Nat :=
  let c2_i32_100_r0 : BitVec 32 := 2#32
  let v144_r0 : BitVec 32 := Scalar.remui arg6_r0 c2_i32_100_r0
  ![v144_r0.toNat]
def k1_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k1_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k1_off8 (i : grid1.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k1_off9 (arg7_r0 : BitVec 32) : Fin 1 → Nat :=
  let c2_i32_101_r0 : BitVec 32 := 2#32
  let v145_r0 : BitVec 32 := Scalar.remui arg7_r0 c2_i32_101_r0
  ![v145_r0.toNat]
def k1_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k1_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k1_off13 (i : grid1.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k1_off14 (arg8_r0 : BitVec 32) : Fin 1 → Nat :=
  let c2_i32_100_r0 : BitVec 32 := 2#32
  let v144_r0 : BitVec 32 := Scalar.remui arg8_r0 c2_i32_100_r0
  ![v144_r0.toNat]
def k1_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k1_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k1_off16 (i : grid1.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k1_off17 (arg9_r0 : BitVec 32) : Fin 1 → Nat :=
  let c2_i32_100_r0 : BitVec 32 := 2#32
  let v144_r0 : BitVec 32 := Scalar.remui arg9_r0 c2_i32_100_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x65536.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x65536.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S65536x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S65536x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x65536.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x65536.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S65536x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S65536x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k1_off19 (i : grid1.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k1_chk5 (i : grid1.Coords) (v33_4_r0 : BitVec 32) : Prop :=
  (∀ a, (k1_off19 i v33_4_r0) a + S128x128.size a ≤ S65536x128.size a)
theorem k1_off19_inb : ∀ (i : grid1.Coords) (v33_4_r0 : BitVec 32) (k1_hw5 : k1_chk5 i v33_4_r0), ∀ a, (k1_off19 i v33_4_r0) a + S128x128.size a ≤ S65536x128.size a := fun i v33_4_r0 k1_hw5 => k1_hw5

def k1_off20 (v33_3_r0 : BitVec 32) : Fin 1 → Nat :=
  let c2_i32_47_r0 : BitVec 32 := 2#32
  let v54_r0 : BitVec 32 := Scalar.remui v33_3_r0 c2_i32_47_r0
  ![v54_r0.toNat]
def k1_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S16x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2x16x128x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S16x128x8 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S128x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S3072x1024 : Shape := ⟨2, ![3072, 1024]⟩
abbrev S1024x1024 : Shape := ⟨2, ![1024, 1024]⟩
abbrev S16x2048x51 : Shape := ⟨3, ![16, 2048, 51]⟩
abbrev S1024x3072 : Shape := ⟨2, ![1024, 3072]⟩
abbrev S1x2048x3072 : Shape := ⟨3, ![1, 2048, 3072]⟩
abbrev S1x2048x16x64 : Shape := ⟨4, ![1, 2048, 16, 64]⟩
abbrev S1x16x2048x64 : Shape := ⟨4, ![1, 16, 2048, 64]⟩
abbrev S_ : Shape := ⟨0, ![]⟩
abbrev S2048 : Shape := ⟨1, ![2048]⟩
abbrev S1x2048x1 : Shape := ⟨3, ![1, 2048, 1]⟩
abbrev S16 : Shape := ⟨1, ![16]⟩
abbrev S16x1x1 : Shape := ⟨3, ![16, 1, 1]⟩
abbrev S16x2048x51x1 : Shape := ⟨4, ![16, 2048, 51, 1]⟩
abbrev S16x2048x51x2 : Shape := ⟨4, ![16, 2048, 51, 2]⟩
abbrev S1x16x2048x51x64 : Shape := ⟨5, ![1, 16, 2048, 51, 64]⟩
abbrev S1x16x2048x51 : Shape := ⟨4, ![1, 16, 2048, 51]⟩
abbrev S1x16x2048 : Shape := ⟨3, ![1, 16, 2048]⟩
abbrev S1x16x2048x1 : Shape := ⟨4, ![1, 16, 2048, 1]⟩

abbrev nBuf : Space → Nat
  | .hbm => 101
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S3072x1024, .f32⟩
  | .hbm, ⟨2, _⟩ => ⟨S1024x1024, .f32⟩
  | .hbm, ⟨3, _⟩ => ⟨S1024x1024, .f32⟩
  | .hbm, ⟨4, _⟩ => ⟨S16x2048x51, .i32⟩
  | .hbm, ⟨5, _⟩ => ⟨S1024x3072, .f32⟩
  | .hbm, ⟨6, _⟩ => ⟨S1x2048x3072, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x16x64, .f32⟩
  | .hbm, ⟨11, _⟩ => ⟨S1x16x2048x64, .f32⟩
  | .hbm, ⟨12, _⟩ => ⟨S1x2048x16x64, .f32⟩
  | .hbm, ⟨13, _⟩ => ⟨S1x16x2048x64, .f32⟩
  | .hbm, ⟨14, _⟩ => ⟨S1x2048x16x64, .f32⟩
  | .hbm, ⟨15, _⟩ => ⟨S1x16x2048x64, .f32⟩
  | .hbm, ⟨16, _⟩ => ⟨S_, .i32⟩
  | .hbm, ⟨17, _⟩ => ⟨S16x2048x51, .i32⟩
  | .hbm, ⟨18, _⟩ => ⟨S16x2048x51, .i1⟩
  | .hbm, ⟨19, _⟩ => ⟨S_, .i32⟩
  | .hbm, ⟨20, _⟩ => ⟨S16x2048x51, .i32⟩
  | .hbm, ⟨21, _⟩ => ⟨S16x2048x51, .i32⟩
  | .hbm, ⟨22, _⟩ => ⟨S2048, .i32⟩
  | .hbm, ⟨23, _⟩ => ⟨S1x2048x1, .i32⟩
  | .hbm, ⟨24, _⟩ => ⟨S16x2048x51, .i32⟩
  | .hbm, ⟨25, _⟩ => ⟨S16x2048x51, .i1⟩
  | .hbm, ⟨26, _⟩ => ⟨S16x2048x51, .i1⟩
  | .hbm, ⟨27, _⟩ => ⟨S16, .i32⟩
  | .hbm, ⟨28, _⟩ => ⟨S16x1x1, .i32⟩
  | .hbm, ⟨29, _⟩ => ⟨S_, .i32⟩
  | .hbm, ⟨30, _⟩ => ⟨S16x1x1, .i32⟩
  | .hbm, ⟨31, _⟩ => ⟨S16x1x1, .i1⟩
  | .hbm, ⟨32, _⟩ => ⟨S_, .i32⟩
  | .hbm, ⟨33, _⟩ => ⟨S16x1x1, .i32⟩
  | .hbm, ⟨34, _⟩ => ⟨S16x1x1, .i32⟩
  | .hbm, ⟨35, _⟩ => ⟨S16x1x1, .i32⟩
  | .hbm, ⟨36, _⟩ => ⟨S_, .i32⟩
  | .hbm, ⟨37, _⟩ => ⟨S16x2048x51, .i32⟩
  | .hbm, ⟨38, _⟩ => ⟨S16x2048x51, .i1⟩
  | .hbm, ⟨39, _⟩ => ⟨S_, .i32⟩
  | .hbm, ⟨40, _⟩ => ⟨S16x2048x51, .i32⟩
  | .hbm, ⟨41, _⟩ => ⟨S16x2048x51, .i32⟩
  | .hbm, ⟨42, _⟩ => ⟨S16x2048x51, .i32⟩
  | .hbm, ⟨43, _⟩ => ⟨S16x2048x51, .i32⟩
  | .hbm, ⟨44, _⟩ => ⟨S16x2048x51x1, .i32⟩
  | .hbm, ⟨45, _⟩ => ⟨S16x2048x51x1, .i32⟩
  | .hbm, ⟨46, _⟩ => ⟨S16x2048x51x2, .i32⟩
  | .hbm, ⟨47, _⟩ => ⟨S1x16x2048x51x64, .f32⟩
  | .hbm, ⟨48, _⟩ => ⟨S_, .i32⟩
  | .hbm, ⟨49, _⟩ => ⟨S16x1x1, .i32⟩
  | .hbm, ⟨50, _⟩ => ⟨S16x1x1, .i1⟩
  | .hbm, ⟨51, _⟩ => ⟨S_, .i32⟩
  | .hbm, ⟨52, _⟩ => ⟨S16x1x1, .i32⟩
  | .hbm, ⟨53, _⟩ => ⟨S16x1x1, .i32⟩
  | .hbm, ⟨54, _⟩ => ⟨S16x1x1, .i32⟩
  | .hbm, ⟨55, _⟩ => ⟨S_, .i32⟩
  | .hbm, ⟨56, _⟩ => ⟨S16x2048x51, .i32⟩
  | .hbm, ⟨57, _⟩ => ⟨S16x2048x51, .i1⟩
  | .hbm, ⟨58, _⟩ => ⟨S_, .i32⟩
  | .hbm, ⟨59, _⟩ => ⟨S16x2048x51, .i32⟩
  | .hbm, ⟨60, _⟩ => ⟨S16x2048x51, .i32⟩
  | .hbm, ⟨61, _⟩ => ⟨S16x2048x51, .i32⟩
  | .hbm, ⟨62, _⟩ => ⟨S16x2048x51, .i32⟩
  | .hbm, ⟨63, _⟩ => ⟨S16x2048x51x1, .i32⟩
  | .hbm, ⟨64, _⟩ => ⟨S16x2048x51x1, .i32⟩
  | .hbm, ⟨65, _⟩ => ⟨S16x2048x51x2, .i32⟩
  | .hbm, ⟨66, _⟩ => ⟨S1x16x2048x51x64, .f32⟩
  | .hbm, ⟨67, _⟩ => ⟨S1x16x2048x51, .f32⟩
  | .hbm, ⟨68, _⟩ => ⟨S_, .f32⟩
  | .hbm, ⟨69, _⟩ => ⟨S_, .f32⟩
  | .hbm, ⟨70, _⟩ => ⟨S1x16x2048x51, .f32⟩
  | .hbm, ⟨71, _⟩ => ⟨S1x16x2048x51, .f32⟩
  | .hbm, ⟨72, _⟩ => ⟨S1x16x2048x51, .i1⟩
  | .hbm, ⟨73, _⟩ => ⟨S_, .f32⟩
  | .hbm, ⟨74, _⟩ => ⟨S_, .f32⟩
  | .hbm, ⟨75, _⟩ => ⟨S1x16x2048x51, .f32⟩
  | .hbm, ⟨76, _⟩ => ⟨S1x16x2048x51, .f32⟩
  | .hbm, ⟨77, _⟩ => ⟨S_, .f32⟩
  | .hbm, ⟨78, _⟩ => ⟨S1x16x2048, .f32⟩
  | .hbm, ⟨79, _⟩ => ⟨S_, .f32⟩
  | .hbm, ⟨80, _⟩ => ⟨S1x16x2048, .f32⟩
  | .hbm, ⟨81, _⟩ => ⟨S1x16x2048, .f32⟩
  | .hbm, ⟨82, _⟩ => ⟨S1x16x2048x1, .f32⟩
  | .hbm, ⟨83, _⟩ => ⟨S1x16x2048x51, .f32⟩
  | .hbm, ⟨84, _⟩ => ⟨S1x16x2048x51, .f32⟩
  | .hbm, ⟨85, _⟩ => ⟨S1x16x2048x51, .f32⟩
  | .hbm, ⟨86, _⟩ => ⟨S_, .f32⟩
  | .hbm, ⟨87, _⟩ => ⟨S1x16x2048, .f32⟩
  | .hbm, ⟨88, _⟩ => ⟨S1x16x2048x1, .f32⟩
  | .hbm, ⟨89, _⟩ => ⟨S1x16x2048x51, .f32⟩
  | .hbm, ⟨90, _⟩ => ⟨S1x16x2048x51, .f32⟩
  | .hbm, ⟨91, _⟩ => ⟨S1x16x2048x51, .i1⟩
  | .hbm, ⟨92, _⟩ => ⟨S_, .f32⟩
  | .hbm, ⟨93, _⟩ => ⟨S_, .f32⟩
  | .hbm, ⟨94, _⟩ => ⟨S1x16x2048x51, .f32⟩
  | .hbm, ⟨95, _⟩ => ⟨S1x16x2048x51, .f32⟩
  | .hbm, ⟨96, _⟩ => ⟨S1x16x2048x64, .f32⟩
  | .hbm, ⟨97, _⟩ => ⟨S1x2048x16x64, .f32⟩
  | .hbm, ⟨98, _⟩ => ⟨S1x2048x1024, .f32⟩
  | .hbm, ⟨99, _⟩ => ⟨S1024x1024, .f32⟩
  | .hbm, ⟨100, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_7 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_call0_v0 : Ref sig .tc := ⟨.hbm, 74, rfl⟩
abbrev main_call0_v1 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Proof.WordsI.lean ====
/- The loop's carried words of the gather kernel: what they are at each trip, the offsets and conditions computed from
   them in closed form, and the side conditions at them. -/
module

public import proofs.«01_k».proof.Proof.Gen.KernelIdeal
public import proofs.«01_k».proof.Proof.Gen.KernelIdeal.Skeleton

@[expose] public section

noncomputable section

namespace Cert.Proof.TileI

open Cert.KernelIdeal Cert.KernelIdeal.Gen
open Idealize.ShloMosaic

/-- The words the loop carries when trip `k` starts: the blocks whose fetch is issued, the trip (twice), the blocks
    whose write-out is waited for, and the trip again, wrapped at the end. -/
def carry (k : ℕ) : BitVec 32 × BitVec 32 × BitVec 32 × BitVec 32 × BitVec 32 :=
  (BitVec.ofNat 32 (min (k + 1) 16), BitVec.ofNat 32 k, BitVec.ofNat 32 k, BitVec.ofNat 32 (k - 1), BitVec.ofNat 32 (k % 16))

theorem trips_eq : k1_t1_loop.trips = 16 := by decide +kernel

/-- The block of the index list that tile `i` handles in trip `b`. -/
abbrev blkNo (i : grid1.Coords) (b : ℕ) : ℕ := 256 * (i 0).val + 16 * (i 1).val + b

theorem chk1_ok : ∀ (i : grid1.Coords) (k : Fin k1_t1_loop.trips),
    k1_chk1 i k (carry k.val).1 (carry k.val).2.1 (carry k.val).2.2.1 (carry k.val).2.2.2.1 (carry k.val).2.2.2.2 := by
  decide +kernel
theorem chk2_ok : ∀ k : Fin 16, k1_chk2 (carry k.val).2.2.1 := by decide +kernel
theorem chk3_ok : ∀ k : Fin 16, k1_chk3 (carry k.val).2.1 := by decide +kernel
theorem chk4_ok : k1_chk4 (carry 16).2.2.2.1 := by decide +kernel
theorem chk5_ok : ∀ i : grid1.Coords, k1_chk5 i (carry 16).2.2.2.2 := by decide +kernel

theorem cond1_iff : ∀ (i : grid1.Coords) (k : Fin k1_t1_loop.trips), k1_cond1 i k (carry k.val).2.2.2.2 = 1#1 ↔ k.val < 15 := by decide +kernel
theorem cond2_ok : ∀ (i : grid1.Coords) (k : Fin k1_t1_loop.trips), k1_cond2 i k (carry k.val).2.2.2.2 = 1#1 := by decide +kernel
theorem cond5_ok : ∀ (i : grid1.Coords) (k : Fin k1_t1_loop.trips), k1_cond5 i k (carry k.val).2.2.2.2 = 1#1 := by decide +kernel
theorem cond7_iff : ∀ (i : grid1.Coords) (k : Fin k1_t1_loop.trips), k1_cond7 i k (carry k.val).2.2.2.2 = 1#1 ↔ 0 < k.val := by decide +kernel

theorem off2_eq : ∀ i : grid1.Coords, k1_off2 i = ![0, 128 * blkNo i 0] := by decide +kernel
theorem off4_eq : ∀ k : Fin 16, k.val < 15 → k1_off4 (carry k.val).1 = ![(k.val + 1) % 2, 0, 0] := by decide +kernel
theorem off5_eq : ∀ (i : grid1.Coords) (k : Fin 16), k.val < 15 → k1_off5 i (carry k.val).2.2.2.2 = ![0, 128 * blkNo i (k.val + 1)] := by decide +kernel
theorem off6_eq : ∀ k : Fin 16, k.val < 15 → k1_off6 (carry k.val).1 = ![(k.val + 1) % 2] := by decide +kernel
theorem off9_eq : ∀ k : Fin 16, k1_off9 (carry k.val).2.1 = ![k.val % 2] := by decide +kernel
theorem off10_eq : ∀ k : Fin 16, k1_off10 (carry k.val).2.2.1 = ![k.val % 2, 0, 0] := by decide +kernel
theorem off11_eq : ∀ k : Fin 16, k1_off11 (carry k.val).2.1 = ![k.val % 2, 0, 0] := by decide +kernel
theorem off12_eq : ∀ k : Fin 16, k1_off12 (carry k.val).2.2.1 = ![k.val % 2, 0, 0] := by decide +kernel
theorem off13_eq : ∀ (i : grid1.Coords) (k : Fin 16), k1_off13 i (carry k.val).2.2.2.2 = ![128 * blkNo i k.val, 0] := by decide +kernel
theorem off14_eq : ∀ k : Fin 16, k1_off14 (carry k.val).2.2.1 = ![k.val % 2] := by decide +kernel
theorem off17_eq : ∀ k : Fin 16, 0 < k.val → k1_off17 (carry k.val).2.2.2.1 = ![(k.val - 1) % 2] := by decide +kernel
theorem off20_eq : k1_off20 (carry 16).2.2.2.1 = ![1] := by decide +kernel

end Cert.Proof.TileI

end
-- ==== Proof.StepsI.lean ====
/- The gather kernel's tile: the buffers it holds, piece by piece, and each of its transfers as one step over them. -/
module

public import proofs.«01_k».proof.Proof.WordsI
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore

@[expose] public section

set_option maxRecDepth 16384

noncomputable section

namespace Cert.Proof.TileI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := UR sig nD τ
abbrev UU : Type := UH × (UP × Counters)

local notation "𝕄" => MT nD τ sig (HIx 1) (Elt F) ℕ UU ℕ

/-- What a TensorCore region's body may use and need not describe: the scoped buffers that are no staging buffer, and the
    generator register. -/
def ΦR {gr W : ℕ} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

/-- Where the calls from counter `n` on begin, in the handshakes' levels. -/
abbrev bnd (n : ℕ) : ℕ := SparseCore.Cfg.Blocks.fst (Q := 1) (N := 1) n
abbrev EH : Emb UH (MT nD τ sig (HIx 1) (Elt F) ℕ UU ℕ) := embL

/-! ## The buffers and their pieces -/

abbrev tLoc (d : Dev nD) : Loc nD τ sig := (SparseCore.T d).loc main_v3_1
abbrev iLoc (d : Dev nD) : Loc nD τ sig := (SparseCore.T d).loc main_v30
abbrev oLoc (d : Dev nD) : Loc nD τ sig := (SparseCore.T d).loc main_v31

abbrev tV : Memref sig .scVector .hbm S32768x128 .f32 := Memref.whole main_v3_1_scv
abbrev iV : Memref sig .scVector .hbm S1x65536 .i32 := Memref.whole main_v30_scv
abbrev oV : Memref sig .scVector .hbm S65536x128 .f32 := Memref.whole main_v31_scv
abbrev sV : Memref sig .scVector .vmem S2x1x128 .i32 := Memref.whole cc1_scoped0
abbrev rV : Memref sig .scVector .vmem S2x128x128 .f32 := Memref.whole cc1_scoped2

theorem iSlot_inb (j : Fin 2) : ∀ a, (![j.val, 0, 0] : Fin 3 → ℕ) a + S1x1x128.size a ≤ S2x1x128.size a := by revert j; decide
theorem oSlot_inb (j : Fin 2) : ∀ a, (![j.val, 0, 0] : Fin 3 → ℕ) a + S1x128x128.size a ≤ S2x128x128.size a := by revert j; decide
theorem sem_inb (j : Fin 2) : ∀ a, (![j.val] : Fin 1 → ℕ) a + S1.size a ≤ S2.size a := by revert j; decide
theorem iBlk_inb (B : Fin 512) : ∀ a, (![0, 128 * B.val] : Fin 2 → ℕ) a + S1x128.size a ≤ S1x65536.size a := by revert B; decide +kernel
theorem oBlk_inb (B : Fin 512) : ∀ a, (![128 * B.val, 0] : Fin 2 → ℕ) a + S128x128.size a ≤ S65536x128.size a := by revert B; decide +kernel

/-- Slot `j` of the list's scratch, and of the rows' scratch; block `B` of the index list, and of the result. -/
abbrev iSlot (j : Fin 2) : Memref sig .scVector .vmem S1x128 .i32 :=
  (sV.slice (Rect.unit (s := S2x1x128) ![j.val, 0, 0] S1x1x128.size (iSlot_inb j)) (fun _ => rfl)).squeeze S1x128 squeezes_S1x1x128_S1x128
abbrev oSlot (j : Fin 2) : Memref sig .scVector .vmem S128x128 .f32 :=
  (rV.slice (Rect.unit (s := S2x128x128) ![j.val, 0, 0] S1x128x128.size (oSlot_inb j)) (fun _ => rfl)).squeeze S128x128 squeezes_S1x128x128_S128x128
abbrev iBlk (B : Fin 512) : Memref sig .scVector .hbm S1x128 .i32 :=
  iV.slice (Rect.unit (s := S1x65536) ![0, 128 * B.val] S1x128.size (iBlk_inb B)) (fun _ => rfl)
abbrev oBlk (B : Fin 512) : Memref sig .scVector .hbm S128x128 .f32 :=
  oV.slice (Rect.unit (s := S65536x128) ![128 * B.val, 0] S128x128.size (oBlk_inb B)) (fun _ => rfl)
abbrev iSem (j : Fin 2) : DmaSem sig := ((cc1_scoped1.slice (Rect.unit (s := S2) ![j.val] S1.size (sem_inb j))).squeeze S_ squeezes_S1_S_).sem
abbrev oSem (j : Fin 2) : DmaSem sig := ((cc1_scoped3.slice (Rect.unit (s := S2) ![j.val] S1.size (sem_inb j))).squeeze S_ squeezes_S1_S_).sem
abbrev gSem : DmaSem sig := cc1_scoped4.sem

/-- The list as the gather addresses it: slot `j`, its only row, as a vector; and the table, all of it. -/
abbrev lst (j : Fin 2) : Memref sig .scVector .vmem S128 .i32 :=
  ((iSlot j).slice (Rect.unit (s := S1x128) ![0, 0] S1x128.size inb_S1x128_S1x128_0_0) (fun _ => rfl)).squeeze S128 squeezes_S1x128_S128
abbrev tAll : Memref sig .scVector .hbm S32768x128 .f32 :=
  tV.slice (Rect.unit (s := S32768x128) ![0, 0] S32768x128.size inb_S32768x128_S32768x128_0_0) (fun _ => rfl)

abbrev iBlkSet (B : Fin 512) : Finset S1x65536.Idx := (iBlk B).view.set
abbrev oBlkSet (B : Fin 512) : Finset S65536x128.Idx := (oBlk B).view.set

/-- The gathered rows: row `x 0` of the result is the row of the table that entry `x 0` of the list names (an entry
    naming none, which the precondition excludes, taken modulo the table's rows). -/
def gath (tb : S32768x128.Idx → Elt F .f32) (ix : S1x65536.Idx → Elt F .i32) : S65536x128.Idx → Elt F .f32 :=
  fun x => tb (ix2 ⟨(ix (ix2 (0 : Fin 1) (x 0 : Fin 65536))).toNat % 32768, Nat.mod_lt _ (by decide)⟩ (x 1 : Fin 128))

section Steps

variable [FloatOps F] [Named F] (d : Dev nD) (L : grid1.Coords)
variable (tb : S32768x128.Idx → Elt F .f32) (ix : S1x65536.Idx → Elt F .i32)

abbrev cV (L : grid1.Coords) : Fin τ.nSC := (L 0).castLE hcore1
abbrev jV (L : grid1.Coords) : Fin τ.nSub := (L 1).castLE hsub1
/-- The tile's thread. -/
abbrev tile : Thread nD τ := V d (cV L) (jV L)

abbrev iBlkPts (B : Fin 512) : sProp 𝕄 := iLoc d ↦[iBlkSet B]{fullShare} (show Buf (Elt F) (iLoc d) from ix)
abbrev oBlkPts (B : Fin 512) (f : Buf (Elt F) (oLoc d)) : sProp 𝕄 := oLoc d ↦[oBlkSet B]{fullShare} f
abbrev tPts (q : PosShare TreeShare) : sProp 𝕄 := tLoc d ↦{q} (show Buf (Elt F) (tLoc d) from tb)

/-- A slot at any contents; the list's slot holding block `B`'s list; the rows' slot holding block `B`'s rows. -/
def iFree (j : Fin 2) : sProp 𝕄 := iprop(∃ f, (iSlot j).view.loc (tile d L) ↦[(iSlot j).view.set]{fullShare} f)
def oFree (j : Fin 2) : sProp 𝕄 := iprop(∃ f, (oSlot j).view.loc (tile d L) ↦[(oSlot j).view.set]{fullShare} f)
def iHas (j : Fin 2) (B : Fin 512) : sProp 𝕄 :=
  iprop(∃ f, ⌜(iSlot j).view.read (Elt F) f = (iBlk B).view.read (Elt F) ix⌝ ∗ (iSlot j).view.loc (tile d L) ↦[(iSlot j).view.set]{fullShare} f)
def oHas (j : Fin 2) (B : Fin 512) : sProp 𝕄 :=
  iprop(∃ f, ⌜(oSlot j).view.read (Elt F) f = (oBlk B).view.read (Elt F) (gath tb ix)⌝
    ∗ (oSlot j).view.loc (tile d L) ↦[(oSlot j).view.set]{fullShare} f)

abbrev nIn : ℕ := (iSlot 0).view.dmaCredit
abbrev nOut : ℕ := (oBlk 0).view.dmaCredit
abbrev nGa : ℕ := (oSlot 0).view.dmaCredit

abbrev inFlight (j : Fin 2) (B : Fin 512) : sProp 𝕄 :=
  Transfers.Flight countersEmb (tile d L) (.dma (iSem j)) (default : HIx 1) nIn iprop(iHas d L ix j B ∗ iBlkPts d ix B)
abbrev outFlight (j : Fin 2) (B : Fin 512) : sProp 𝕄 :=
  Transfers.Flight countersEmb (tile d L) (.dma (oSem j)) (default : HIx 1) nOut iprop(oBlkPts d B (gath tb ix) ∗ oFree (F := F) d L j)

variable {α : Type} {Q : α → sProp (MT nD τ sig (HIx 1) (Elt F) ℕ UU ℕ)} (k : PUnit → Prog (TpuEff nD τ sig (Elt F) Λ₀ (.scVector (cV L) (jV L))) α)

/-- What a fetch delivers: the slot holding the block's list. -/
theorem in_landed (j : Fin 2) (B : Fin 512) (f : Buf (Elt F) ((iSlot j).view.loc (tile d L))) :
    iprop(((iSlot j).view.loc (tile d L) ↦[(iSlot j).view.set]{fullShare}
          (iSlot j).view.write (Elt F) f (ReadAs.same.apply ((iBlk B).view.read (Elt F) ix)) Finset.univ) ∗ iBlkPts d ix B)
      ⊢ iprop(iHas d L ix j B ∗ iBlkPts d ix B) := by
  unfold iHas
  iintro ⟨Hs, Hb⟩
  isplitl [Hs]
  · iexists _
    isplitr
    swap; · iexact Hs
    ipureintro
    exact View.read_write_univ _ _
  · iexact Hb

/-- What a write-out delivers: the block of the result at the gathered rows. -/
theorem out_landed (j : Fin 2) (B : Fin 512) (f : Buf (Elt F) ((oSlot j).view.loc (tile d L))) (f₀ : Buf (Elt F) (oLoc d))
    (hf : (oSlot j).view.read (Elt F) f = (oBlk B).view.read (Elt F) (gath tb ix)) :
    iprop((oLoc d ↦[oBlkSet B]{fullShare} (oBlk B).view.write (Elt F) f₀ (ReadAs.same.apply ((oSlot j).view.read (Elt F) f)) Finset.univ)
        ∗ (oSlot j).view.loc (tile d L) ↦[(oSlot j).view.set]{fullShare} f)
      ⊢ iprop(oBlkPts d B (gath tb ix) ∗ oFree (F := F) d L j) := by
  have e : (oLoc d ↦[oBlkSet B]{fullShare} (oBlk B).view.write (Elt F) f₀ (ReadAs.same.apply ((oSlot j).view.read (Elt F) f)) Finset.univ : sProp 𝕄)
      = oBlkPts d B (gath tb ix) := by
    refine pointsTo_congr (ℓ := oLoc d) (I := oBlkSet B) (q := fullShare) fun y hy => ?_
    obtain ⟨x, -, rfl⟩ := Finset.mem_map.mp hy
    refine (View.write_emb_of_mem _ _ (Finset.mem_univ x)).trans ?_
    exact congrFun hf x
  rw [e]
  unfold oFree
  iintro ⟨Hb, Hs⟩
  isplitl [Hb]; · iexact Hb
  iexists _; iexact Hs

/-- A slot, a block and a semaphore at the offsets the program computes. -/
abbrev iSlotAt (o : Fin 3 → ℕ) (h : ∀ a, o a + S1x1x128.size a ≤ S2x1x128.size a) : Memref sig .scVector .vmem S1x128 .i32 :=
  (sV.slice (Rect.unit (s := S2x1x128) o S1x1x128.size h) (fun _ => rfl)).squeeze S1x128 squeezes_S1x1x128_S1x128
abbrev oSlotAt (o : Fin 3 → ℕ) (h : ∀ a, o a + S1x128x128.size a ≤ S2x128x128.size a) : Memref sig .scVector .vmem S128x128 .f32 :=
  (rV.slice (Rect.unit (s := S2x128x128) o S1x128x128.size h) (fun _ => rfl)).squeeze S128x128 squeezes_S1x128x128_S128x128
abbrev iBlkAt (o : Fin 2 → ℕ) (h : ∀ a, o a + S1x128.size a ≤ S1x65536.size a) : Memref sig .scVector .hbm S1x128 .i32 :=
  iV.slice (Rect.unit (s := S1x65536) o S1x128.size h) (fun _ => rfl)
abbrev oBlkAt (o : Fin 2 → ℕ) (h : ∀ a, o a + S128x128.size a ≤ S65536x128.size a) : Memref sig .scVector .hbm S128x128 .f32 :=
  oV.slice (Rect.unit (s := S65536x128) o S128x128.size h) (fun _ => rfl)
abbrev iSemAt (o : Fin 1 → ℕ) (h : ∀ a, o a + S1.size a ≤ S2.size a) : DmaSem sig := ((cc1_scoped1.slice (Rect.unit (s := S2) o S1.size h)).squeeze S_ squeezes_S1_S_).sem
abbrev oSemAt (o : Fin 1 → ℕ) (h : ∀ a, o a + S1.size a ≤ S2.size a) : DmaSem sig := ((cc1_scoped3.slice (Rect.unit (s := S2) o S1.size h)).squeeze S_ squeezes_S1_S_).sem

/-- The fetch of a block of the list into a slot. -/
theorem step_in (j : Fin 2) (B : Fin 512) {o4 : Fin 3 → ℕ} {o5 : Fin 2 → ℕ} {o6 : Fin 1 → ℕ}
    (h4 : o4 = ![j.val, 0, 0]) (h5 : o5 = ![0, 128 * B.val]) (h6 : o6 = ![j.val])
    (i4 : ∀ a, o4 a + S1x1x128.size a ≤ S2x1x128.size a) (i5 : ∀ a, o5 a + S1x128.size a ≤ S1x65536.size a)
    (i6 : ∀ a, o6 a + S1.size a ≤ S2.size a)
    {w1 : (iBlkAt o5 i5).view.WordExact} {w2 : (iSlotAt o4 i4).view.WordExact} {w3} :
    iprop(iBlkPts d ix B ∗ iFree (F := F) d L j ∗ semVal (tile d L, SemLoc.dma (iSem j)) 0)
      ⊢ iprop((inFlight d L ix j B -∗ wp frame (wpE (defs₀ (F := F)) 𝒱₀ (tile d L) none) Set.univ (k ⟨⟩) Q)
        -∗ wp frame (wpE (defs₀ (F := F)) 𝒱₀ (tile d L) none) Set.univ
          (.op (.enqueueDma (iBlkAt o5 i5)
            (.here (iSlotAt o4 i4))
            (.dma (iSemAt o6 i6)) w1 w2 w3) k) Q) := by
  subst h4 h5 h6
  unfold iFree inFlight
  iintro ⟨Hb, ⟨%f, Hs⟩, Hv⟩ Hk
  iapply (Transfers.wp_dmaLocal countersEmb 𝒱₀ (tile d L) none (src := iBlk B) (dst := iSlot j) (default : HIx 1) nIn rfl (by decide)
    (Finset.Subset.refl _)) $$ [Hb Hs Hv]
  · isplitl [Hb]; · iexact Hb
    isplitl [Hs]; · iexact Hs
    iexact Hv
  iintro Hf
  iapply Hk
  iapply (Transfers.Flight_mono (EC := countersEmb) (tile d L) (in_landed d L ix j B f)) $$ Hf

/-- The wait for a block of the list. -/
theorem step_inwait (j : Fin 2) (B : Fin 512) {o6 : Fin 1 → ℕ} (h6 : o6 = ![j.val]) (i6 : ∀ a, o6 a + S1.size a ≤ S2.size a)
    {o4 : Fin 3 → ℕ} {o5 : Fin 2 → ℕ} (i4 : ∀ a, o4 a + S1x1x128.size a ≤ S2x1x128.size a) (i5 : ∀ a, o5 a + S1x128.size a ≤ S1x65536.size a)
    {O : CellTallies nD τ sig (HIx 1)} {W : Waits sig (HIx 1)}
    {w1 : (iBlkAt o5 i5).view.WordExact} {w2 : (iSlotAt o4 i4).view.WordExact} :
    iprop(inFlight d L ix j B ∗ owes (tile d L) O W ∗ Transfers.MayWaits (tile d L) (default : HIx 1) O)
      ⊢ iprop((iprop((iHas d L ix j B ∗ iBlkPts d ix B) ∗ semVal (tile d L, SemLoc.dma (iSem j)) 0
            ∗ owes (tile d L) O (insert (SemLoc.dma (iSem j), (default : HIx 1)) W)) -∗ wp frame (wpE (defs₀ (F := F)) 𝒱₀ (tile d L) none) Set.univ (k ⟨⟩) Q)
        -∗ wp frame (wpE (defs₀ (F := F)) 𝒱₀ (tile d L) none) Set.univ
          (.op (.waitDma2 (iSemAt o6 i6)
            (iBlkAt o5 i5)
            (iSlotAt o4 i4) w1 w2) k) Q) := by
  subst h6
  iintro ⟨Hf, HO, Hmw⟩ Hk
  iapply (Transfers.wp_waitLocalO countersEmb 𝒱₀ (tile d L) none (hsrc := w1) (hdst := w2) (default : HIx 1) (N := nIn) rfl) $$ [Hf HO Hmw]
  · isplitl [Hf]; · iexact Hf
    isplitl [HO]; · iexact HO
    iapply (Transfers.MayWaits.elim (SemLoc.dma (iSem j))) $$ Hmw
  iexact Hk

/-- The write-out of a slot's rows to their block of the result. -/
theorem step_out (j : Fin 2) (B : Fin 512) {o4 : Fin 3 → ℕ} {o5 : Fin 2 → ℕ} {o6 : Fin 1 → ℕ}
    (h4 : o4 = ![j.val, 0, 0]) (h5 : o5 = ![128 * B.val, 0]) (h6 : o6 = ![j.val])
    (i4 : ∀ a, o4 a + S1x128x128.size a ≤ S2x128x128.size a) (i5 : ∀ a, o5 a + S128x128.size a ≤ S65536x128.size a)
    (i6 : ∀ a, o6 a + S1.size a ≤ S2.size a) (f₀ : Buf (Elt F) (oLoc d))
    {w1 : (oSlotAt o4 i4).view.WordExact} {w2 : (oBlkAt o5 i5).view.WordExact} {w3} :
    iprop(oBlkPts d B f₀ ∗ oHas d L tb ix j B ∗ semVal (tile d L, SemLoc.dma (oSem j)) 0)
      ⊢ iprop((outFlight d L tb ix j B -∗ wp frame (wpE (defs₀ (F := F)) 𝒱₀ (tile d L) none) Set.univ (k ⟨⟩) Q)
        -∗ wp frame (wpE (defs₀ (F := F)) 𝒱₀ (tile d L) none) Set.univ
          (.op (.enqueueDma (oSlotAt o4 i4)
            (.here (oBlkAt o5 i5))
            (.dma (oSemAt o6 i6)) w1 w2 w3) k) Q) := by
  subst h4 h5 h6
  unfold oHas outFlight
  iintro ⟨Hb, ⟨%f, %hf, Hs⟩, Hv⟩ Hk
  iapply (Transfers.wp_dmaLocal countersEmb 𝒱₀ (tile d L) none (src := oSlot j) (dst := oBlk B) (default : HIx 1) nOut rfl (by decide)
    (Finset.Subset.refl _)) $$ [Hb Hs Hv]
  · isplitl [Hs]; · iexact Hs
    isplitl [Hb]; · iexact Hb
    iexact Hv
  iintro Hf
  iapply Hk
  iapply (Transfers.Flight_mono (EC := countersEmb) (tile d L) (out_landed d L tb ix j B f f₀ hf)) $$ Hf

/-- The wait for a block's write-out. -/
theorem step_outwait (j : Fin 2) (B : Fin 512) {o6 : Fin 1 → ℕ} (h6 : o6 = ![j.val]) (i6 : ∀ a, o6 a + S1.size a ≤ S2.size a)
    {o4 : Fin 3 → ℕ} {o5 : Fin 2 → ℕ} (i4 : ∀ a, o4 a + S1x128x128.size a ≤ S2x128x128.size a) (i5 : ∀ a, o5 a + S128x128.size a ≤ S65536x128.size a)
    {O : CellTallies nD τ sig (HIx 1)} {W : Waits sig (HIx 1)}
    {w1 : (oSlotAt o4 i4).view.WordExact} {w2 : (oBlkAt o5 i5).view.WordExact} :
    iprop(outFlight d L tb ix j B ∗ owes (tile d L) O W ∗ Transfers.MayWaits (tile d L) (default : HIx 1) O)
      ⊢ iprop((iprop((oBlkPts d B (gath tb ix) ∗ oFree (F := F) d L j) ∗ semVal (tile d L, SemLoc.dma (oSem j)) 0
            ∗ owes (tile d L) O (insert (SemLoc.dma (oSem j), (default : HIx 1)) W)) -∗ wp frame (wpE (defs₀ (F := F)) 𝒱₀ (tile d L) none) Set.univ (k ⟨⟩) Q)
        -∗ wp frame (wpE (defs₀ (F := F)) 𝒱₀ (tile d L) none) Set.univ
          (.op (.waitDma2 (oSemAt o6 i6)
            (oSlotAt o4 i4)
            (oBlkAt o5 i5) w1 w2) k) Q) := by
  subst h6
  iintro ⟨Hf, HO, Hmw⟩ Hk
  iapply (Transfers.wp_waitLocalO countersEmb 𝒱₀ (tile d L) none (hsrc := w1) (hdst := w2) (default : HIx 1) (N := nOut) rfl) $$ [Hf HO Hmw]
  · isplitl [Hf]; · iexact Hf
    isplitl [HO]; · iexact HO
    iapply (Transfers.MayWaits.elim (SemLoc.dma (oSem j))) $$ Hmw
  iexact Hk

/-! ### The gather -/

theorem lst_set (j : Fin 2) : (lst j).view.set = (iSlot j).view.set := by
  show (((iSlot j).view.slice _).reshape S128 _).set = _
  rw [View.set_reshape, View.set_slice]
  rw [show (Rect.unit (s := S1x128) ![0, 0] S1x128.size inb_S1x128_S1x128_0_0).set = Finset.univ from by decide +kernel]
  rfl

theorem tAll_set : tAll.view.set = Finset.univ := by
  show (tV.view.slice _).set = _
  rw [View.set_slice]
  ext y
  simp only [Finset.mem_univ, iff_true]
  refine Finset.mem_map.mpr ⟨y, ?_, rfl⟩
  refine Rect.mem_set_unit.mpr fun a => ?_
  revert a
  intro a
  match a with
  | 0 => exact ⟨Nat.zero_le _, (y 0).isLt.trans_eq (Nat.zero_add _).symm⟩
  | 1 => exact ⟨Nat.zero_le _, (y 1).isLt.trans_eq (Nat.zero_add _).symm⟩

theorem lst_idx : ∀ r : Fin 128, Shape.reshapeEquiv (s := S1x128) (s' := S128) (by decide) (S128.rowMajor.symm r) = ix2 (0 : Fin 1) r := by
  decide +kernel

/-- Entry `r` of the list in slot `j`, holding block `B`. -/
theorem lst_read (j : Fin 2) (B : Fin 512) (f : Buf (Elt F) ((iSlot j).view.loc (tile d L)))
    (hf : (iSlot j).view.read (Elt F) f = (iBlk B).view.read (Elt F) ix) (r : Fin 128) :
    (lst j).view.read (Elt F) f (S128.rowMajor.symm r) = ix (ix2 (0 : Fin 1) (⟨128 * B.val + r.val, by omega⟩ : Fin 65536)) := by
  have e : (lst j).view.read (Elt F) f (S128.rowMajor.symm r)
      = (iSlot j).view.read (Elt F) f ((Rect.unit (s := S1x128) ![0, 0] S1x128.size inb_S1x128_S1x128_0_0).emb
          (Shape.reshapeEquiv (s := S1x128) (s' := S128) (by decide) (S128.rowMajor.symm r))) := rfl
  rw [e, hf, lst_idx]
  show ix _ = ix _
  congr 1
  funext a
  match a with
  | 0 => rfl
  | 1 =>
    apply Fin.ext
    show 128 * B.val + 1 * (0 + 1 * r.val) = 128 * B.val + r.val
    omega

/-- The list's entries name rows of the table. -/
abbrev PreIx : Prop := ∀ x, (ix x).toNat < 32768

theorem lst_in (hix : PreIx ix) (j : Fin 2) (B : Fin 512) (f : Buf (Elt F) ((iSlot j).view.loc (tile d L)))
    (hf : (iSlot j).view.read (Elt F) f = (iBlk B).view.read (Elt F) ix) (x : S128.Idx) :
    ((lst j).view.read (Elt F) f x).toNat < S32768x128.size gathers_S32768x128_S128x128.axis := by
  obtain ⟨r, rfl⟩ := S128.rowMajor.symm.surjective x
  exact (congrArg BitVec.toNat (lst_read d L ix j B f hf r)).trans_lt (hix _)

/-- What the gather leaves in the slot: block `B` of the gathered rows. -/
theorem gather_value (hix : PreIx ix) (j : Fin 2) (B : Fin 512) (f : Buf (Elt F) ((iSlot j).view.loc (tile d L)))
    (hf : (iSlot j).view.read (Elt F) f = (iBlk B).view.read (Elt F) ix)
    (hn : S128.numel = S128x128.size gathers_S32768x128_S128x128.axis')
    (hin : ∀ x, ((lst j).view.read (Elt F) f x).toNat < S32768x128.size gathers_S32768x128_S128x128.axis) :
    SparseCore.gatherPayload gathers_S32768x128_S128x128 (tAll.view.read (Elt F) tb) (SparseCore.rows ((lst j).view.read (Elt F) f) hn hin)
      = (oBlk B).view.read (Elt F) (gath tb ix) := by
  funext x
  have hx0 : (x 0).val < 128 := (x 0).isLt
  have hrow : (SparseCore.rows ((lst j).view.read (Elt F) f) hn hin (x gathers_S32768x128_S128x128.axis')).val
      = (ix (ix2 (0 : Fin 1) (⟨128 * B.val + (x 0).val, by omega⟩ : Fin 65536))).toNat := by
    show ((lst j).view.read (Elt F) f (S128.rowMajor.symm (Fin.cast _ (x 0)))).toNat = _
    exact congrArg BitVec.toNat (lst_read d L ix j B f hf (x 0))
  show tb (tAll.view.emb (gathers_S32768x128_S128x128.idx _ x)) = gath tb ix ((oBlk B).view.emb x)
  unfold gath
  congr 1
  have e0 : ((oBlk B).view.emb x 0 : Fin 65536) = (⟨128 * B.val + (x 0).val, by omega⟩ : Fin 65536) := by
    apply Fin.ext
    show 128 * B.val + 1 * (x 0).val = 128 * B.val + (x 0).val
    rw [Nat.one_mul]
  funext a
  apply Fin.ext
  match a with
  | 0 =>
    show 0 + 1 * (gathers_S32768x128_S128x128.idx _ x 0).val = (ix (ix2 (0 : Fin 1) ((oBlk B).view.emb x 0 : Fin 65536))).toNat % 32768
    rw [e0, Nat.mod_eq_of_lt (hix _), ← hrow, Nat.zero_add, Nat.one_mul]
    exact congrArg Fin.val (Shape.Gathers.idx_axis gathers_S32768x128_S128x128 _ x)
  | 1 =>
    show 0 + 1 * (gathers_S32768x128_S128x128.idx _ x 1).val = 0 + 1 * (x 1).val
    rw [Nat.zero_add, Nat.one_mul, Nat.zero_add, Nat.one_mul]
    exact Shape.Gathers.idx_of_ne gathers_S32768x128_S128x128 _ x 1 (by decide)

abbrev gaFlight (j : Fin 2) (B : Fin 512) (q : PosShare TreeShare) : sProp 𝕄 :=
  Transfers.Flight countersEmb (tile d L) (.dma gSem) (default : HIx 1) nGa iprop(oHas d L tb ix j B ∗ tPts d tb q ∗ iFree (F := F) d L j)

theorem ga_landed (hix : PreIx ix) (j : Fin 2) (B : Fin 512) (q : PosShare TreeShare) (f : Buf (Elt F) ((iSlot j).view.loc (tile d L)))
    (g : Buf (Elt F) ((oSlot j).view.loc (tile d L)))
    (hf : (iSlot j).view.read (Elt F) f = (iBlk B).view.read (Elt F) ix)
    (hn : S128.numel = S128x128.size gathers_S32768x128_S128x128.axis')
    (hin : ∀ x, ((lst j).view.read (Elt F) f x).toNat < S32768x128.size gathers_S32768x128_S128x128.axis) :
    iprop(((oSlot j).view.loc (tile d L) ↦[(oSlot j).view.set]{fullShare} (oSlot j).view.write (Elt F) g
          (SparseCore.gatherPayload gathers_S32768x128_S128x128 (tAll.view.read (Elt F) tb) (SparseCore.rows ((lst j).view.read (Elt F) f) hn hin)) Finset.univ)
        ∗ (tAll.view.loc (tile d L) ↦[tAll.view.set]{q} tb) ∗ ((lst j).view.loc (tile d L) ↦[(lst j).view.set]{fullShare} f))
      ⊢ iprop(oHas d L tb ix j B ∗ tPts d tb q ∗ iFree (F := F) d L j) := by
  rw [lst_set, tAll_set, gather_value d L tb ix hix j B f hf hn hin]
  unfold oHas iFree
  iintro ⟨Ho, Ht, Hs⟩
  isplitl [Ho]
  · iexists _
    isplitr
    swap; · iexact Ho
    ipureintro
    exact View.read_write_univ _ _
  isplitl [Ht]; · iexact Ht
  iexists f; iexact Hs

/-- The gather of a block's rows into a slot. -/
theorem step_gather (hix : PreIx ix) (j : Fin 2) (B : Fin 512) (q : PosShare TreeShare) {o4 o4' : Fin 3 → ℕ}
    (h4 : o4 = ![j.val, 0, 0]) (h4' : o4' = ![j.val, 0, 0])
    (i4 : ∀ a, o4 a + S1x1x128.size a ≤ S2x1x128.size a) (i4' : ∀ a, o4' a + S1x128x128.size a ≤ S2x128x128.size a)
    {w1 : tAll.view.WordExact} {w3 w4 w5 w6} :
    iprop(iHas d L ix j B ∗ oFree (F := F) d L j ∗ tPts d tb q ∗ semVal (tile d L, SemLoc.dma gSem) 0)
      ⊢ iprop((gaFlight d L tb ix j B q -∗ wp frame (wpE (defs₀ (F := F)) 𝒱₀ (tile d L) none) Set.univ (k ⟨⟩) Q)
        -∗ wp frame (wpE (defs₀ (F := F)) 𝒱₀ (tile d L) none) Set.univ
          (SparseCore.enqueueIndirectGather rfl tAll (oSlotAt o4' i4') gathers_S32768x128_S128x128
              (((iSlotAt o4 i4).slice (Rect.unit (s := S1x128) ![0, 0] S1x128.size inb_S1x128_S1x128_0_0) (fun _ => rfl)).squeeze S128 squeezes_S1x128_S128)
              w3 gSem w1 w4 w5 w6
            >>= k) Q) := by
  subst h4 h4'
  iintro ⟨Hi, Ho, Ht, Hv⟩ Hk
  unfold iHas oFree
  icases Hi with ⟨%f, %hf, Hs⟩
  icases Ho with ⟨%g, Ho⟩
  have hin := lst_in d L ix hix j B f hf
  ihave Hs' := (Entails.of_eq (show ((iSlot j).view.loc (tile d L) ↦[(iSlot j).view.set]{fullShare} f : sProp 𝕄)
    = ((lst j).view.loc (tile d L) ↦[(lst j).view.set]{fullShare} f) by rw [lst_set])) $$ Hs
  ihave Ht' := (Entails.of_eq (show (tPts d tb q : sProp 𝕄)
    = (tAll.view.loc (tile d L) ↦[tAll.view.set]{q} tb) by rw [tAll_set])) $$ Ht
  iapply (SparseCore.wp_indirectGatherLocal countersEmb 𝒱₀ (tile d L) none (src := tAll) (dst := oSlot j) (offs := lst j)
      (hg := gathers_S32768x128_S128x128) (sem := gSem) (default : HIx 1) nGa
      (SparseCore.sum_rowCredit_eq_dmaCredit (oSlot j) _ (fun _ => rfl)) (by decide) hin) $$ [Hs' Ho Ht' Hv]
  · isplitl [Ht']; · iexact Ht'
    isplitl [Ho]; · iexact Ho
    isplitl [Hs']; · iexact Hs'
    iexact Hv
  iintro Hf
  iapply Hk
  iapply (Transfers.Flight_mono (EC := countersEmb) (tile d L) (ga_landed d L tb ix hix j B q f g hf w3 hin)) $$ Hf

/-- The wait for the gather. -/
theorem step_gwait (j : Fin 2) (B : Fin 512) (q : PosShare TreeShare) {o4' : Fin 3 → ℕ}
    (i4' : ∀ a, o4' a + S1x128x128.size a ≤ S2x128x128.size a)
    {O : CellTallies nD τ sig (HIx 1)} {W : Waits sig (HIx 1)}
    {w1 : tAll.view.WordExact} {w2 : (oSlotAt o4' i4').view.WordExact} :
    iprop(gaFlight d L tb ix j B q ∗ owes (tile d L) O W ∗ Transfers.MayWaits (tile d L) (default : HIx 1) O)
      ⊢ iprop((iprop((oHas d L tb ix j B ∗ tPts d tb q ∗ iFree (F := F) d L j) ∗ semVal (tile d L, SemLoc.dma gSem) 0
            ∗ owes (tile d L) O (insert (SemLoc.dma gSem, (default : HIx 1)) W)) -∗ wp frame (wpE (defs₀ (F := F)) 𝒱₀ (tile d L) none) Set.univ (k ⟨⟩) Q)
        -∗ wp frame (wpE (defs₀ (F := F)) 𝒱₀ (tile d L) none) Set.univ
          (.op (.waitDma2 gSem tAll (oSlotAt o4' i4') w1 w2) k) Q) := by
  iintro ⟨Hf, HO, Hmw⟩ Hk
  iapply (Transfers.wp_waitLocalO countersEmb 𝒱₀ (tile d L) none (hsrc := w1) (hdst := w2) (default : HIx 1) (N := nGa) rfl) $$ [Hf HO Hmw]
  · isplitl [Hf]; · iexact Hf
    isplitl [HO]; · iexact HO
    iapply (Transfers.MayWaits.elim (SemLoc.dma gSem)) $$ Hmw
  iexact Hk

end Steps

end Cert.Proof.TileI

end
-- ==== Proof.TileI.lean ====
/- The tile's program: the loop of sixteen trips at its invariant, and the whole body. -/
module

public import proofs.«01_k».proof.Proof.StepsI

@[expose] public section

set_option synthInstance.maxSize 4096
set_option maxRecDepth 16384

noncomputable section

namespace Cert.Proof.TileI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Body

variable [FloatOps F] [Named F] (d : Dev nD) (L : grid1.Coords)
variable (tb : S32768x128.Idx → Elt F .f32) (ix : S1x65536.Idx → Elt F .i32) (f₀ : Buf (Elt F) (oLoc d))

/-- The slot of trip `n`, and the block of it. -/
abbrev sl (n : ℕ) : Fin 2 := ⟨n % 2, Nat.mod_lt _ (by decide)⟩
abbrev bk (n : ℕ) : Fin 512 := ⟨blkNo L n % 512, Nat.mod_lt _ (by decide)⟩

theorem bk_val {n : ℕ} (h : n < 16) : (bk L n).val = blkNo L n := by
  have h0 : (L 0).val < 2 := (L 0).isLt
  have h1 : (L 1).val < 16 := (L 1).isLt
  exact Nat.mod_eq_of_lt (show 256 * (L 0).val + 16 * (L 1).val + n < 512 by omega)

theorem sl_add_two (n : ℕ) : sl (n + 2) = sl n := Fin.ext (Nat.add_mod_right n 2)

/-! ### The blocks -/

/-- The blocks of the list but the one in flight before trip `n`; the same but the two in flight during trip `n`. -/
def ins (n : ℕ) : sProp 𝕄 := bigSep Finset.univ fun b : Fin 16 => if b.val = n then iprop(emp) else iBlkPts d ix (bk L b.val)
def ins2 (n : ℕ) : sProp 𝕄 := bigSep Finset.univ fun b : Fin 16 => if b.val = n ∨ b.val = n + 1 then iprop(emp) else iBlkPts d ix (bk L b.val)
/-- The blocks of the result before trip `n`, written up to it, but the one in flight; the same but the two in flight. -/
def outs (n : ℕ) : sProp 𝕄 := bigSep Finset.univ fun b : Fin 16 =>
  if b.val + 1 = n then iprop(emp) else if b.val < n then oBlkPts d (bk L b.val) (gath tb ix) else oBlkPts d (bk L b.val) f₀
def outs2 (n : ℕ) : sProp 𝕄 := bigSep Finset.univ fun b : Fin 16 =>
  if b.val + 1 = n ∨ b.val = n then iprop(emp) else if b.val < n then oBlkPts d (bk L b.val) (gath tb ix) else oBlkPts d (bk L b.val) f₀

/-- A summand comes out of a `bigSep`, leaving nothing in its place. -/
theorem big_take {Φ Ψ : Fin 16 → sProp (MT nD τ sig (HIx 1) (Elt F) ℕ UU ℕ)} (i : Fin 16) (hi : Ψ i = iprop(emp)) (h : ∀ j, j ≠ i → Ψ j = Φ j) :
    bigSep Finset.univ Φ ⊢ iprop(Φ i ∗ bigSep Finset.univ Ψ) := by
  refine (bigSep_univ_update (Φ := Φ) (Ψ := Ψ) i h).trans ?_
  rw [hi]
  iintro ⟨H, Hk⟩
  isplitl [H]; · iexact H
  iapply Hk
  iempintro

/-- A summand goes where nothing was. -/
theorem big_put {Φ Ψ : Fin 16 → sProp (MT nD τ sig (HIx 1) (Elt F) ℕ UU ℕ)} (i : Fin 16) (hi : Φ i = iprop(emp)) (h : ∀ j, j ≠ i → Ψ j = Φ j) :
    iprop(Ψ i ∗ bigSep Finset.univ Φ) ⊢ bigSep Finset.univ Ψ := by
  iintro ⟨H, HΦ⟩
  ihave H2 := (bigSep_univ_update (Φ := Φ) (Ψ := Ψ) i h) $$ HΦ
  rw [hi]
  icases H2 with ⟨-, Hk⟩
  iapply Hk; iexact H

theorem ins_take {n : ℕ} (h : n < 15) : ins d L ix n ⊢ iprop(iBlkPts d ix (bk L (n + 1)) ∗ ins2 (F := F) d L ix n) := by
  refine (big_take (F := F) (Ψ := fun b : Fin 16 => if b.val = n ∨ b.val = n + 1 then iprop(emp) else iBlkPts d ix (bk L b.val))
    ⟨n + 1, by omega⟩ (if_pos (Or.inr rfl)) ?_).trans (Entails.of_eq ?_)
  · intro j hj
    have : j.val ≠ n + 1 := fun e => hj (Fin.ext e)
    simp [this]
  · rw [if_neg (show ¬ n + 1 = n by omega)]; rfl

theorem ins_last : ins d L ix 15 = ins2 (F := F) d L ix 15 := by
  unfold ins ins2
  refine bigSep_congr fun b _ => ?_
  have : b.val ≠ 15 + 1 := by omega
  simp [this]

theorem ins_put {n : ℕ} (h : n < 16) : iprop(iBlkPts d ix (bk L n) ∗ ins2 (F := F) d L ix n) ⊢ ins d L ix (n + 1) := by
  refine (Entails.of_eq ?_).trans (big_put (F := F) (Ψ := fun b : Fin 16 => if b.val = n + 1 then iprop(emp) else iBlkPts d ix (bk L b.val))
    (Φ := fun b : Fin 16 => if b.val = n ∨ b.val = n + 1 then iprop(emp) else iBlkPts d ix (bk L b.val)) ⟨n, h⟩ (if_pos (Or.inl rfl)) ?_)
  · rw [if_neg (show ¬ n = n + 1 by omega)]; rfl
  · intro j hj
    have : j.val ≠ n := fun e => hj (Fin.ext e)
    simp [this]

theorem outs_take {n : ℕ} (h : n < 16) : outs d L tb ix f₀ n ⊢ iprop(oBlkPts d (bk L n) f₀ ∗ outs2 (F := F) d L tb ix f₀ n) := by
  refine (big_take (F := F) (Ψ := fun b : Fin 16 => if b.val + 1 = n ∨ b.val = n then iprop(emp)
    else if b.val < n then oBlkPts d (bk L b.val) (gath tb ix) else oBlkPts d (bk L b.val) f₀) ⟨n, h⟩ (if_pos (Or.inr rfl)) ?_).trans (Entails.of_eq ?_)
  · intro j hj
    have : j.val ≠ n := fun e => hj (Fin.ext e)
    simp [this]
  · rw [if_neg (show ¬ n + 1 = n by omega), if_neg (show ¬ n < n by omega)]; rfl

theorem outs_first : outs2 (F := F) d L tb ix f₀ 0 = outs d L tb ix f₀ 1 := by
  unfold outs outs2
  refine bigSep_congr fun b _ => ?_
  by_cases hb : b.val = 0 <;> simp [hb]

theorem outs_put {n : ℕ} (h : n < 15) :
    iprop(oBlkPts d (bk L n) (gath tb ix) ∗ outs2 (F := F) d L tb ix f₀ (n + 1)) ⊢ outs d L tb ix f₀ (n + 2) := by
  refine (Entails.of_eq ?_).trans (big_put (F := F) (Ψ := fun b : Fin 16 => if b.val + 1 = n + 2 then iprop(emp)
      else if b.val < n + 2 then oBlkPts d (bk L b.val) (gath tb ix) else oBlkPts d (bk L b.val) f₀)
    (Φ := fun b : Fin 16 => if b.val + 1 = n + 1 ∨ b.val = n + 1 then iprop(emp)
      else if b.val < n + 1 then oBlkPts d (bk L b.val) (gath tb ix) else oBlkPts d (bk L b.val) f₀) ⟨n, by omega⟩ (if_pos (Or.inl rfl)) ?_)
  · rw [if_neg (show ¬ n + 1 = n + 2 by omega), if_pos (show n < n + 2 by omega)]; rfl
  · intro j hj
    have h1 : j.val ≠ n := fun e => hj (Fin.ext e)
    have h2 : (j.val < n + 2) = (j.val < n + 1 ∨ j.val = n + 1) := by
      apply propext; omega
    by_cases h3 : j.val = n + 1 <;> simp [h1, h2, h3]

theorem outs_put' {n : ℕ} (h0 : 0 < n) (h : n < 16) :
    iprop(oBlkPts d (bk L (n - 1)) (gath tb ix) ∗ outs2 (F := F) d L tb ix f₀ n) ⊢ outs d L tb ix f₀ (n + 1) := by
  obtain ⟨m, rfl⟩ : ∃ m, n = m + 1 := ⟨n - 1, by omega⟩
  exact outs_put d L tb ix f₀ (show m < 15 by omega)

theorem outs_first' {n : ℕ} (h : n = 0) : outs2 (F := F) d L tb ix f₀ n = outs d L tb ix f₀ (n + 1) := by
  subst h; exact outs_first d L tb ix f₀

theorem ins_last' {n : ℕ} (h : n = 15) : ins d L ix n = ins2 (F := F) d L ix n := by
  subst h; exact ins_last d L ix

theorem outs_end :
    iprop(oBlkPts d (bk L 15) (gath tb ix) ∗ outs (F := F) d L tb ix f₀ 16) ⊢ bigSep Finset.univ fun b : Fin 16 => oBlkPts d (bk L b.val) (gath tb ix) := by
  refine big_put (F := F) (Ψ := fun b : Fin 16 => oBlkPts d (bk L b.val) (gath tb ix))
    (Φ := fun b : Fin 16 => if b.val + 1 = 16 then iprop(emp)
      else if b.val < 16 then oBlkPts d (bk L b.val) (gath tb ix) else oBlkPts d (bk L b.val) f₀) 15 (if_pos rfl) ?_
  intro j hj
  have h1 : j.val + 1 ≠ 16 := fun e => hj (Fin.ext (by omega))
  have h2 : j.val < 16 := j.isLt
  simp [h1, h2]

theorem outs_zero : (bigSep Finset.univ fun b : Fin 16 => oBlkPts d (bk L b.val) f₀) = outs (F := F) d L tb ix f₀ 0 := by
  unfold outs
  refine bigSep_congr fun b _ => ?_
  simp

theorem ins_zero : (bigSep Finset.univ fun b : Fin 16 => iBlkPts d ix (bk L b.val)) ⊢ iprop(iBlkPts d ix (bk L 0) ∗ ins (F := F) d L ix 0) := by
  refine big_take (F := F) (Φ := fun b : Fin 16 => iBlkPts d ix (bk L b.val)) (Ψ := fun b : Fin 16 => if b.val = 0 then iprop(emp) else iBlkPts d ix (bk L b.val))
    0 (if_pos rfl) ?_
  intro j hj
  have h1 : j.val ≠ 0 := fun e => hj (Fin.ext e)
  simp [h1]

theorem ins_end : ins (F := F) d L ix 16 = bigSep Finset.univ fun b : Fin 16 => iBlkPts d ix (bk L b.val) := by
  unfold ins
  refine bigSep_congr fun b _ => ?_
  have h1 : b.val ≠ 16 := by omega
  simp [h1]

/-! ### The loop -/

/-- The list's slots before trip `n`: the block of the trip in flight to its slot, the other slot free; at the end both free. -/
def inSt (n : ℕ) : sProp 𝕄 :=
  if n < 16 then iprop(inFlight d L ix (sl n) (bk L n) ∗ iFree (F := F) d L (sl (n + 1)) ∗ semVal (tile d L, SemLoc.dma (iSem (sl (n + 1)))) 0)
  else iprop((iFree (F := F) d L (sl n) ∗ semVal (tile d L, SemLoc.dma (iSem (sl n))) 0)
    ∗ iFree (F := F) d L (sl (n + 1)) ∗ semVal (tile d L, SemLoc.dma (iSem (sl (n + 1)))) 0)
/-- The rows' slots before trip `n`: the block of the trip before in flight from its slot, the other slot free. -/
def outSt (n : ℕ) : sProp 𝕄 :=
  iprop((if n = 0 then iprop(oFree (F := F) d L (sl (n + 1)) ∗ semVal (tile d L, SemLoc.dma (oSem (sl (n + 1)))) 0)
      else outFlight d L tb ix (sl (n + 1)) (bk L (n - 1)))
    ∗ oFree (F := F) d L (sl n) ∗ semVal (tile d L, SemLoc.dma (oSem (sl n))) 0)

/-- What holds before trip `n`. -/
def inv (q : PosShare TreeShare) (O : CellTallies nD τ sig (HIx 1)) (W : Waits sig (HIx 1)) (n : ℕ)
    (a : BitVec 32 × BitVec 32 × BitVec 32 × BitVec 32 × BitVec 32) : sProp 𝕄 :=
  iprop(⌜a = carry n⌝ ∗ inSt d L ix n ∗ outSt d L tb ix n ∗ ins d L ix n ∗ outs d L tb ix f₀ n
    ∗ tPts d tb q ∗ semVal (tile d L, SemLoc.dma gSem) 0
    ∗ ∃ W', ⌜∀ p ∈ W', p ∈ W ∨ p.2 = none⌝ ∗ owes (tile d L) O W')

/-- The tile's first block, as the program computes it. -/
abbrev base (i : grid1.Coords) : BitVec 32 :=
  Scalar.muli (Scalar.addi (Scalar.addi 0#32 (Scalar.muli (BitVec.ofNat 32 (i 1).val) 1#32)) (Scalar.muli (BitVec.ofNat 32 (i 0).val) 16#32)) 16#32

set_option maxHeartbeats 400000 in
theorem trip (hix : PreIx ix) (q : PosShare TreeShare) (O : CellTallies nD τ sig (HIx 1)) (W : Waits sig (HIx 1)) (k : Fin k1_t1_loop.trips)
    (a6 a7 a8 a9 a10 : BitVec 32) (e : (a6, a7, a8, a9, a10) = carry k.val) :
    iprop(Transfers.MayWaits (tile d L) (default : HIx 1) O ∗ inv d L tb ix f₀ q O W k.val (a6, a7, a8, a9, a10))
      ⊢ wp frame (wpE (defs₀ (F := F)) 𝒱₀ (tile d L) none) Set.univ
          (k1_t1_body L tV (Memref.isWhole_whole _) iV (Memref.isWhole_whole _) oV (Memref.isWhole_whole _)
            sV (Memref.isWhole_whole _) cc1_scoped1 rV (Memref.isWhole_whole _) cc1_scoped3 cc1_scoped4 (base L) k (a6, a7, a8, a9, a10))
          fun a => inv d L tb ix f₀ q O W (k.val + 1) a := by
  have hk16 : k.val < 16 := k.isLt.trans_eq trips_eq
  have e6 : a6 = (carry k.val).1 := congrArg (fun x => x.1) e
  have e7 : a7 = (carry k.val).2.1 := congrArg (fun x => x.2.1) e
  have e8 : a8 = (carry k.val).2.2.1 := congrArg (fun x => x.2.2.1) e
  have e9 : a9 = (carry k.val).2.2.2.1 := congrArg (fun x => x.2.2.2.1) e
  have e10 : a10 = (carry k.val).2.2.2.2 := congrArg (fun x => x.2.2.2.2) e
  have hc1 : k1_chk1 L k a6 a7 a8 a9 a10 := by rw [e6, e7, e8, e9, e10]; exact chk1_ok L k
  have hc2 : k1_chk2 a8 := by rw [e8]; exact chk2_ok ⟨k.val, hk16⟩
  have hc3 : k1_chk3 a7 := by rw [e7]; exact chk3_ok ⟨k.val, hk16⟩
  have k1_h2 : k1_cond2 L k a10 = 1#1 := by rw [e10]; exact cond2_ok L k
  have k1_h5 : k1_cond5 L k a10 = 1#1 := by rw [e10]; exact cond5_ok L k
  unfold k1_t1_body
  rw [k1_part1_eq_skeleton, k1_part2_eq_skeleton]
  unfold k1_part1_skel k1_part2_skel
  have h9 : k1_off9 a7 = ![(sl k.val).val] := by rw [e7]; exact off9_eq ⟨k.val, hk16⟩
  have h10 : k1_off10 a8 = ![(sl k.val).val, 0, 0] := by rw [e8]; exact off10_eq ⟨k.val, hk16⟩
  have h11 : k1_off11 a7 = ![(sl k.val).val, 0, 0] := by rw [e7]; exact off11_eq ⟨k.val, hk16⟩
  have h12 : k1_off12 a8 = ![(sl k.val).val, 0, 0] := by rw [e8]; exact off12_eq ⟨k.val, hk16⟩
  have h13 : k1_off13 L a10 = ![128 * (bk L k.val).val, 0] := by rw [e10, bk_val L hk16]; exact off13_eq L ⟨k.val, hk16⟩
  have h14 : k1_off14 a8 = ![(sl k.val).val] := by rw [e8]; exact off14_eq ⟨k.val, hk16⟩
  unfold inv
  rw [show inSt (F := F) d L ix k.val = iprop(inFlight d L ix (sl k.val) (bk L k.val) ∗ iFree (F := F) d L (sl (k.val + 1))
    ∗ semVal (tile d L, SemLoc.dma (iSem (sl (k.val + 1)))) 0) from if_pos hk16]
  unfold outSt
  iintro ⟨#Hmw, -, ⟨Hfl, Hi1, Hsi1⟩, ⟨Hoth, Ho, Hso⟩, Hins, Houts, Ht, Hg, %W', %hW', HO⟩
  by_cases h15 : k.val < 15
  · by_cases hk0 : k.val = 0
    · -- the first trip: nothing is being written out yet
      have k1_h7 : ¬ k1_cond7 L k a10 = 1#1 := by
        rw [e10]; exact fun h => absurd ((cond7_iff L k).mp h) (by omega)
      have k1_h1 : k1_cond1 L k a10 = 1#1 := by rw [e10]; exact (cond1_iff L k).mpr h15
      have h4 : k1_off4 a6 = ![(sl (k.val + 1)).val, 0, 0] := by rw [e6]; exact off4_eq ⟨k.val, hk16⟩ h15
      have h5 : k1_off5 L a10 = ![0, 128 * (bk L (k.val + 1)).val] := by rw [e10, bk_val L (by omega)]; exact off5_eq L ⟨k.val, hk16⟩ h15
      have h6 : k1_off6 a6 = ![(sl (k.val + 1)).val] := by rw [e6]; exact off6_eq ⟨k.val, hk16⟩ h15
      sl_exec
      ihave Hins' := (ins_take (F := F) d L ix h15) $$ Hins
      icases Hins' with ⟨Hib, Hins⟩
      iapply (step_in (F := F) d L ix _ (sl (k.val + 1)) (bk L (k.val + 1)) h4 h5 h6) $$ [Hib Hi1 Hsi1]
      · isplitl [Hib]; · iexact Hib
        isplitl [Hi1]; · iexact Hi1
        iexact Hsi1
      iintro Hfl2
      sl_exec
      iapply (step_inwait (F := F) d L ix _ (sl k.val) (bk L k.val) h9) $$ [Hfl HO]
      · isplitl [Hfl]; · iexact Hfl
        isplitl [HO]; · iexact HO
        iexact Hmw
      iintro ⟨⟨Hi, Hib⟩, Hsi, HO⟩
      ihave Hins' := (ins_put (F := F) d L ix hk16) $$ [Hib Hins]
      · isplitl [Hib]; · iexact Hib
        iexact Hins
      sl_exec
      iapply (step_gather (F := F) d L tb ix _ hix (sl k.val) (bk L k.val) q h11 h10) $$ [Hi Ho Ht Hg]
      · isplitl [Hi]; · iexact Hi
        isplitl [Ho]; · iexact Ho
        isplitl [Ht]; · iexact Ht
        iexact Hg
      iintro Hga
      sl_exec
      iapply (step_gwait (F := F) d L tb ix _ (sl k.val) (bk L k.val) q) $$ [Hga HO]
      · isplitl [Hga]; · iexact Hga
        isplitl [HO]; · iexact HO
        iexact Hmw
      iintro ⟨⟨Ho, Ht, Hi⟩, Hg, HO⟩
      sl_exec
      ihave Houts' := (outs_take (F := F) d L tb ix f₀ hk16) $$ Houts
      icases Houts' with ⟨Hob, Houts⟩
      iapply (step_out (F := F) d L tb ix _ (sl k.val) (bk L k.val) h12 h13 h14 _ _ _ f₀) $$ [Hob Ho Hso]
      · isplitl [Hob]; · iexact Hob
        isplitl [Ho]; · iexact Ho
        iexact Hso
      iintro Hofl
      ihave Hoth' := (Entails.of_eq (if_pos hk0 : _ = iprop(oFree (F := F) d L (sl (k.val + 1)) ∗ semVal (tile d L, SemLoc.dma (oSem (sl (k.val + 1)))) 0))) $$ Hoth
      icases Hoth' with ⟨Ho1, Hso1⟩
      ihave Houts' := (Entails.of_eq (outs_first' (F := F) d L tb ix f₀ hk0)) $$ Houts
      sl_exec
      sl_step
      isplitr
      · ipureintro; subst e6 e7 e8 e9 e10; clear * -; revert L k; decide +kernel
      isplitl [Hi Hsi Hfl2]
      · iapply (Entails.of_eq (show iprop(inFlight d L ix (sl (k.val + 1)) (bk L (k.val + 1)) ∗ iFree (F := F) d L (sl (k.val + 2))
            ∗ semVal (tile d L, SemLoc.dma (iSem (sl (k.val + 2)))) 0) = inSt (F := F) d L ix (k.val + 1)
          from (if_pos (show k.val + 1 < 16 by omega)).symm))
        rw [sl_add_two]
        isplitl [Hfl2]; · iexact Hfl2
        isplitl [Hi]; · iexact Hi
        iexact Hsi
      isplitl [Hofl Ho1 Hso1]
      · isplitl [Hofl]
        · rw [if_neg (show ¬ k.val + 1 = 0 by omega), sl_add_two]
          iexact Hofl
        isplitl [Ho1]; · iexact Ho1
        iexact Hso1
      isplitl [Hins']; · iexact Hins'
      isplitl [Houts']; · iexact Houts'
      isplitl [Ht]; · iexact Ht
      isplitl [Hg]; · iexact Hg
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW' p hp
    · -- a trip in the middle
      have k1_h7 : k1_cond7 L k a10 = 1#1 := by rw [e10]; exact (cond7_iff L k).mpr (by omega)
      have h17 : k1_off17 a9 = ![(sl (k.val + 1)).val] := by
        rw [e9, show (sl (k.val + 1)).val = (k.val - 1) % 2 from by show (k.val + 1) % 2 = _; omega]
        exact off17_eq ⟨k.val, hk16⟩ (show 0 < k.val by omega)
      have k1_h1 : k1_cond1 L k a10 = 1#1 := by rw [e10]; exact (cond1_iff L k).mpr h15
      have h4 : k1_off4 a6 = ![(sl (k.val + 1)).val, 0, 0] := by rw [e6]; exact off4_eq ⟨k.val, hk16⟩ h15
      have h5 : k1_off5 L a10 = ![0, 128 * (bk L (k.val + 1)).val] := by rw [e10, bk_val L (by omega)]; exact off5_eq L ⟨k.val, hk16⟩ h15
      have h6 : k1_off6 a6 = ![(sl (k.val + 1)).val] := by rw [e6]; exact off6_eq ⟨k.val, hk16⟩ h15
      sl_exec
      ihave Hins' := (ins_take (F := F) d L ix h15) $$ Hins
      icases Hins' with ⟨Hib, Hins⟩
      iapply (step_in (F := F) d L ix _ (sl (k.val + 1)) (bk L (k.val + 1)) h4 h5 h6) $$ [Hib Hi1 Hsi1]
      · isplitl [Hib]; · iexact Hib
        isplitl [Hi1]; · iexact Hi1
        iexact Hsi1
      iintro Hfl2
      sl_exec
      iapply (step_inwait (F := F) d L ix _ (sl k.val) (bk L k.val) h9) $$ [Hfl HO]
      · isplitl [Hfl]; · iexact Hfl
        isplitl [HO]; · iexact HO
        iexact Hmw
      iintro ⟨⟨Hi, Hib⟩, Hsi, HO⟩
      ihave Hins' := (ins_put (F := F) d L ix hk16) $$ [Hib Hins]
      · isplitl [Hib]; · iexact Hib
        iexact Hins
      sl_exec
      iapply (step_gather (F := F) d L tb ix _ hix (sl k.val) (bk L k.val) q h11 h10) $$ [Hi Ho Ht Hg]
      · isplitl [Hi]; · iexact Hi
        isplitl [Ho]; · iexact Ho
        isplitl [Ht]; · iexact Ht
        iexact Hg
      iintro Hga
      sl_exec
      iapply (step_gwait (F := F) d L tb ix _ (sl k.val) (bk L k.val) q) $$ [Hga HO]
      · isplitl [Hga]; · iexact Hga
        isplitl [HO]; · iexact HO
        iexact Hmw
      iintro ⟨⟨Ho, Ht, Hi⟩, Hg, HO⟩
      sl_exec
      ihave Houts' := (outs_take (F := F) d L tb ix f₀ hk16) $$ Houts
      icases Houts' with ⟨Hob, Houts⟩
      iapply (step_out (F := F) d L tb ix _ (sl k.val) (bk L k.val) h12 h13 h14 _ _ _ f₀) $$ [Hob Ho Hso]
      · isplitl [Hob]; · iexact Hob
        isplitl [Ho]; · iexact Ho
        iexact Hso
      iintro Hofl
      sl_exec
      ihave Hoth' := (Entails.of_eq (if_neg (show ¬ k.val = 0 by omega) : _ = outFlight d L tb ix (sl (k.val + 1)) (bk L (k.val - 1)))) $$ Hoth
      iapply (step_outwait (F := F) d L tb ix _ (sl (k.val + 1)) (bk L (k.val - 1)) h17) $$ [Hoth' HO]
      · isplitl [Hoth']; · iexact Hoth'
        isplitl [HO]; · iexact HO
        iexact Hmw
      iintro ⟨⟨Hob, Ho1⟩, Hso1, HO⟩
      ihave Houts' := (outs_put' (F := F) d L tb ix f₀ (by omega) hk16) $$ [Hob Houts]
      · isplitl [Hob]; · iexact Hob
        iexact Houts
      sl_exec
      sl_step
      isplitr
      · ipureintro; subst e6 e7 e8 e9 e10; clear * -; revert L k; decide +kernel
      isplitl [Hi Hsi Hfl2]
      · iapply (Entails.of_eq (show iprop(inFlight d L ix (sl (k.val + 1)) (bk L (k.val + 1)) ∗ iFree (F := F) d L (sl (k.val + 2))
            ∗ semVal (tile d L, SemLoc.dma (iSem (sl (k.val + 2)))) 0) = inSt (F := F) d L ix (k.val + 1)
          from (if_pos (show k.val + 1 < 16 by omega)).symm))
        rw [sl_add_two]
        isplitl [Hfl2]; · iexact Hfl2
        isplitl [Hi]; · iexact Hi
        iexact Hsi
      isplitl [Hofl Ho1 Hso1]
      · isplitl [Hofl]
        · rw [if_neg (show ¬ k.val + 1 = 0 by omega), sl_add_two]
          iexact Hofl
        isplitl [Ho1]; · iexact Ho1
        iexact Hso1
      isplitl [Hins']; · iexact Hins'
      isplitl [Houts']; · iexact Houts'
      isplitl [Ht]; · iexact Ht
      isplitl [Hg]; · iexact Hg
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
  · -- the last trip: no block is left to fetch
    have k1_h7 : k1_cond7 L k a10 = 1#1 := by rw [e10]; exact (cond7_iff L k).mpr (by omega)
    have h17 : k1_off17 a9 = ![(sl (k.val + 1)).val] := by
      rw [e9, show (sl (k.val + 1)).val = (k.val - 1) % 2 from by show (k.val + 1) % 2 = _; omega]
      exact off17_eq ⟨k.val, hk16⟩ (show 0 < k.val by omega)
    have k1_h1 : ¬ k1_cond1 L k a10 = 1#1 := by rw [e10]; exact fun h => h15 ((cond1_iff L k).mp h)
    ihave Hins := (Entails.of_eq (ins_last' (F := F) d L ix (show k.val = 15 by omega))) $$ Hins
    sl_exec
    iapply (step_inwait (F := F) d L ix _ (sl k.val) (bk L k.val) h9) $$ [Hfl HO]
    · isplitl [Hfl]; · iexact Hfl
      isplitl [HO]; · iexact HO
      iexact Hmw
    iintro ⟨⟨Hi, Hib⟩, Hsi, HO⟩
    ihave Hins' := (ins_put (F := F) d L ix hk16) $$ [Hib Hins]
    · isplitl [Hib]; · iexact Hib
      iexact Hins
    sl_exec
    iapply (step_gather (F := F) d L tb ix _ hix (sl k.val) (bk L k.val) q h11 h10) $$ [Hi Ho Ht Hg]
    · isplitl [Hi]; · iexact Hi
      isplitl [Ho]; · iexact Ho
      isplitl [Ht]; · iexact Ht
      iexact Hg
    iintro Hga
    sl_exec
    iapply (step_gwait (F := F) d L tb ix _ (sl k.val) (bk L k.val) q) $$ [Hga HO]
    · isplitl [Hga]; · iexact Hga
      isplitl [HO]; · iexact HO
      iexact Hmw
    iintro ⟨⟨Ho, Ht, Hi⟩, Hg, HO⟩
    sl_exec
    ihave Houts' := (outs_take (F := F) d L tb ix f₀ hk16) $$ Houts
    icases Houts' with ⟨Hob, Houts⟩
    iapply (step_out (F := F) d L tb ix _ (sl k.val) (bk L k.val) h12 h13 h14 _ _ _ f₀) $$ [Hob Ho Hso]
    · isplitl [Hob]; · iexact Hob
      isplitl [Ho]; · iexact Ho
      iexact Hso
    iintro Hofl
    sl_exec
    ihave Hoth' := (Entails.of_eq (if_neg (show ¬ k.val = 0 by omega) : _ = outFlight d L tb ix (sl (k.val + 1)) (bk L (k.val - 1)))) $$ Hoth
    iapply (step_outwait (F := F) d L tb ix _ (sl (k.val + 1)) (bk L (k.val - 1)) h17) $$ [Hoth' HO]
    · isplitl [Hoth']; · iexact Hoth'
      isplitl [HO]; · iexact HO
      iexact Hmw
    iintro ⟨⟨Hob, Ho1⟩, Hso1, HO⟩
    ihave Houts' := (outs_put' (F := F) d L tb ix f₀ (by omega) hk16) $$ [Hob Houts]
    · isplitl [Hob]; · iexact Hob
      iexact Houts
    sl_exec
    sl_step
    isplitr
    · ipureintro; subst e6 e7 e8 e9 e10; clear * -; revert L k; decide +kernel
    isplitl [Hi Hsi Hi1 Hsi1]
    · iapply (Entails.of_eq (show iprop((iFree (F := F) d L (sl (k.val + 1)) ∗ semVal (tile d L, SemLoc.dma (iSem (sl (k.val + 1)))) 0)
          ∗ iFree (F := F) d L (sl (k.val + 2)) ∗ semVal (tile d L, SemLoc.dma (iSem (sl (k.val + 2)))) 0) = inSt (F := F) d L ix (k.val + 1)
        from (if_neg (show ¬ k.val + 1 < 16 by omega)).symm))
      rw [sl_add_two]
      isplitl [Hi1 Hsi1]
      · isplitl [Hi1]; · iexact Hi1
        iexact Hsi1
      · isplitl [Hi]; · iexact Hi
        iexact Hsi
    isplitl [Hofl Ho1 Hso1]
    · isplitl [Hofl]
      · rw [if_neg (show ¬ k.val + 1 = 0 by omega), sl_add_two]
        iexact Hofl
      isplitl [Ho1]; · iexact Ho1
      iexact Hso1
    isplitl [Hins']; · iexact Hins'
    isplitl [Houts']; · iexact Houts'
    isplitl [Ht]; · iexact Ht
    isplitl [Hg]; · iexact Hg
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

/-! ### The slots are the scratch -/

theorem iSlot_mem (j : Fin 2) (y : S2x1x128.Idx) : y ∈ (iSlot j).view.set ↔ (y 0).val = j.val := by
  have e : (iSlot j).view.set = (Rect.unit (s := S2x1x128) ![j.val, 0, 0] S1x1x128.size (iSlot_inb j)).set := by
    show (((sV).view.slice _).reshape S1x128 _).set = _
    rw [View.set_reshape, View.set_slice]
    exact Finset.map_refl
  rw [e, Rect.mem_set_unit]
  have h0 : (y 0).val < 2 := (y 0).isLt
  have h1 : (y 1).val < 1 := (y 1).isLt
  have h2 : (y 2).val < 128 := (y 2).isLt
  constructor
  · intro h
    have := h 0
    change j.val ≤ (y 0).val ∧ (y 0).val < j.val + 1 at this
    omega
  · intro h a
    match a with
    | 0 => show j.val ≤ (y 0).val ∧ (y 0).val < j.val + 1; omega
    | 1 => show 0 ≤ (y 1).val ∧ (y 1).val < 0 + 1; omega
    | 2 => show 0 ≤ (y 2).val ∧ (y 2).val < 0 + 128; omega

theorem oSlot_mem (j : Fin 2) (y : S2x128x128.Idx) : y ∈ (oSlot j).view.set ↔ (y 0).val = j.val := by
  have e : (oSlot j).view.set = (Rect.unit (s := S2x128x128) ![j.val, 0, 0] S1x128x128.size (oSlot_inb j)).set := by
    show (((rV).view.slice _).reshape S128x128 _).set = _
    rw [View.set_reshape, View.set_slice]
    exact Finset.map_refl
  rw [e, Rect.mem_set_unit]
  have h0 : (y 0).val < 2 := (y 0).isLt
  have h1 : (y 1).val < 128 := (y 1).isLt
  have h2 : (y 2).val < 128 := (y 2).isLt
  constructor
  · intro h
    have := h 0
    change j.val ≤ (y 0).val ∧ (y 0).val < j.val + 1 at this
    omega
  · intro h a
    match a with
    | 0 => show j.val ≤ (y 0).val ∧ (y 0).val < j.val + 1; omega
    | 1 => show 0 ≤ (y 1).val ∧ (y 1).val < 0 + 128; omega
    | 2 => show 0 ≤ (y 2).val ∧ (y 2).val < 0 + 128; omega

abbrev sLoc : Loc nD τ sig := (tile d L).loc cc1_scoped0
abbrev rLoc : Loc nD τ sig := (tile d L).loc cc1_scoped2
abbrev iSlotSet (j : Fin 2) : Finset S2x1x128.Idx := (iSlot j).view.set
abbrev oSlotSet (j : Fin 2) : Finset S2x128x128.Idx := (oSlot j).view.set

theorem iSlots_disjoint : ∀ i ∈ (Finset.univ : Finset (Fin 2)), ∀ j ∈ (Finset.univ : Finset (Fin 2)), i ≠ j → Disjoint (iSlotSet i) (iSlotSet j) :=
  fun i _ j _ h => Finset.disjoint_left.mpr fun y hi hj => h (Fin.ext (((iSlot_mem i y).mp hi).symm.trans ((iSlot_mem j y).mp hj)))
theorem oSlots_disjoint : ∀ i ∈ (Finset.univ : Finset (Fin 2)), ∀ j ∈ (Finset.univ : Finset (Fin 2)), i ≠ j → Disjoint (oSlotSet i) (oSlotSet j) :=
  fun i _ j _ h => Finset.disjoint_left.mpr fun y hi hj => h (Fin.ext (((oSlot_mem i y).mp hi).symm.trans ((oSlot_mem j y).mp hj)))
theorem iSlots_cover : (Finset.univ : Finset (Fin 2)).biUnion iSlotSet = Finset.univ := by
  ext y
  simp only [Finset.mem_biUnion, Finset.mem_univ, true_and, iff_true]
  exact ⟨⟨(y 0).val, (y 0).isLt⟩, (iSlot_mem _ y).mpr rfl⟩
theorem oSlots_cover : (Finset.univ : Finset (Fin 2)).biUnion oSlotSet = Finset.univ := by
  ext y
  simp only [Finset.mem_biUnion, Finset.mem_univ, true_and, iff_true]
  exact ⟨⟨(y 0).val, (y 0).isLt⟩, (oSlot_mem _ y).mpr rfl⟩

theorem iSlots_split (f : Buf (Elt F) (sLoc d L)) :
    (sLoc d L ↦{fullShare} f : sProp 𝕄) ⊢ iprop(iFree (F := F) d L 0 ∗ iFree (F := F) d L 1) := by
  rw [show (sLoc d L ↦{fullShare} f : sProp 𝕄) = bigSep Finset.univ fun j : Fin 2 => sLoc d L ↦[iSlotSet j]{fullShare} f by
    rw [← pointsTo_biUnion Finset.univ (ℓ := sLoc d L) iSlotSet iSlots_disjoint, iSlots_cover]; try rfl, bigSep_univ_two]
  unfold iFree
  iintro ⟨H0, H1⟩
  isplitl [H0]; · iexists f; iexact H0
  iexists f; iexact H1
theorem oSlots_split (f : Buf (Elt F) (rLoc d L)) :
    (rLoc d L ↦{fullShare} f : sProp 𝕄) ⊢ iprop(oFree (F := F) d L 0 ∗ oFree (F := F) d L 1) := by
  rw [show (rLoc d L ↦{fullShare} f : sProp 𝕄) = bigSep Finset.univ fun j : Fin 2 => rLoc d L ↦[oSlotSet j]{fullShare} f by
    rw [← pointsTo_biUnion Finset.univ (ℓ := rLoc d L) oSlotSet oSlots_disjoint, oSlots_cover]; try rfl, bigSep_univ_two]
  unfold oFree
  iintro ⟨H0, H1⟩
  isplitl [H0]; · iexists f; iexact H0
  iexists f; iexact H1

theorem iSlots_join : iprop(iFree (F := F) d L 0 ∗ iFree (F := F) d L 1) ⊢ (iprop(∃ f, sLoc d L ↦{fullShare} f) : sProp 𝕄) := by
  refine (Entails.of_eq (bigSep_univ_two (fun j : Fin 2 => iprop(∃ f : Buf (Elt F) (sLoc d L), sLoc d L ↦[iSlotSet j]{fullShare} f))).symm).trans ?_
  refine (bigSep_exists_pi Finset.univ (fun (j : Fin 2) (f : Buf (Elt F) (sLoc d L)) => (sLoc d L ↦[iSlotSet j]{fullShare} f : sProp 𝕄))).trans ?_
  iintro ⟨%fs, H⟩
  have : Nonempty (Buf (Elt F) (sLoc d L)) := ⟨fs 0⟩
  ihave H' := (pointsTo_biUnion_join (ℓ := sLoc d L) (q := fullShare) (Val := Elt F) Finset.univ iSlotSet fs (fs 0) iSlots_disjoint) $$ H
  icases H' with ⟨%g, -, Hg⟩
  rw [iSlots_cover]
  iexists g; iexact Hg
theorem oSlots_join : iprop(oFree (F := F) d L 0 ∗ oFree (F := F) d L 1) ⊢ (iprop(∃ f, rLoc d L ↦{fullShare} f) : sProp 𝕄) := by
  refine (Entails.of_eq (bigSep_univ_two (fun j : Fin 2 => iprop(∃ f : Buf (Elt F) (rLoc d L), rLoc d L ↦[oSlotSet j]{fullShare} f))).symm).trans ?_
  refine (bigSep_exists_pi Finset.univ (fun (j : Fin 2) (f : Buf (Elt F) (rLoc d L)) => (rLoc d L ↦[oSlotSet j]{fullShare} f : sProp 𝕄))).trans ?_
  iintro ⟨%fs, H⟩
  have : Nonempty (Buf (Elt F) (rLoc d L)) := ⟨fs 0⟩
  ihave H' := (pointsTo_biUnion_join (ℓ := rLoc d L) (q := fullShare) (Val := Elt F) Finset.univ oSlotSet fs (fs 0) oSlots_disjoint) $$ H
  icases H' with ⟨%g, -, Hg⟩
  rw [oSlots_cover]
  iexists g; iexact Hg

/-! ### The tile's own cells and buffers -/

/-- The five cells the program uses, as the thread's. -/
abbrev cells (n : Fin 5) : SemLoc sig := match n with
  | 0 => .dma (iSem 0) | 1 => .dma (iSem 1) | 2 => .dma (oSem 0) | 3 => .dma (oSem 1) | 4 => .dma gSem

abbrev restCells : Finset (GSem nD τ sig) :=
  (((((ownCells (tile d L)).erase (tile d L, cells 0)).erase (tile d L, cells 1)).erase (tile d L, cells 2)).erase (tile d L, cells 3)).erase (tile d L, cells 4)

theorem ownSems0_V :
    (ownSems0 (tile d L) : sProp 𝕄)
      = iprop(semVal (tile d L, cells 0) 0 ∗ semVal (tile d L, cells 1) 0 ∗ semVal (tile d L, cells 2) 0 ∗ semVal (tile d L, cells 3) 0
          ∗ semVal (tile d L, cells 4) 0 ∗ bigSep (restCells d L) fun g => semVal g 0) := by
  have hne : ∀ i j : Fin 5, i ≠ j → ((tile d L, cells i) : GSem nD τ sig) ≠ (tile d L, cells j) := by
    intro i j h e
    have e' : cells i = cells j := congrArg Prod.snd e
    clear e; revert e' h; revert i j; decide
  have hm : ∀ i : Fin 5, ((tile d L, cells i) : GSem nD τ sig) ∈ ownCells (tile d L) := fun i =>
    (mem_ownCells (g := (tile d L, cells i))).mpr ⟨rfl, by revert i; show ∀ i, (cells i).isScoped .scVector = true; decide⟩
  unfold SparseCore.Cfg.ownSems0
  rw [SparseCore.bigSep_erase' (hm 0),
    SparseCore.bigSep_erase' (Finset.mem_erase.mpr ⟨hne 1 0 (by decide), hm 1⟩),
    SparseCore.bigSep_erase' (Finset.mem_erase.mpr ⟨hne 2 1 (by decide), Finset.mem_erase.mpr ⟨hne 2 0 (by decide), hm 2⟩⟩),
    SparseCore.bigSep_erase' (Finset.mem_erase.mpr ⟨hne 3 2 (by decide), Finset.mem_erase.mpr ⟨hne 3 1 (by decide),
      Finset.mem_erase.mpr ⟨hne 3 0 (by decide), hm 3⟩⟩⟩),
    SparseCore.bigSep_erase' (Finset.mem_erase.mpr ⟨hne 4 3 (by decide), Finset.mem_erase.mpr ⟨hne 4 2 (by decide),
      Finset.mem_erase.mpr ⟨hne 4 1 (by decide), Finset.mem_erase.mpr ⟨hne 4 0 (by decide), hm 4⟩⟩⟩⟩)]

theorem ownBufs_V :
    (ownBufs (tile d L) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-! ### The body -/

/-- What a tile takes, and what it brings back. -/
def goT (q : PosShare TreeShare) : sProp 𝕄 := iprop((bigSep Finset.univ fun b : Fin 16 => iBlkPts d ix (bk L b.val)) ∗ tPts d tb q
  ∗ bigSep Finset.univ fun b : Fin 16 => oBlkPts d (bk L b.val) f₀)
def tdT (q : PosShare TreeShare) : sProp 𝕄 := iprop((bigSep Finset.univ fun b : Fin 16 => iBlkPts d ix (bk L b.val)) ∗ tPts d tb q
  ∗ bigSep Finset.univ fun b : Fin 16 => oBlkPts d (bk L b.val) (gath tb ix))

set_option maxHeartbeats 1000000 in
theorem tile_body (hF : (K (F := F)).Facts) (hix : PreIx ix) (q : PosShare TreeShare) (O : CellTallies nD τ sig (HIx 1)) (W : Waits sig (HIx 1))
    (hO : ∀ g, O g none = 0) :
    iprop(levAts (K (F := F)).L (K (F := F)).lev ∗ emp ∗ goT d L tb ix f₀ q
        ∗ scopedBufs (tile d L) ∗ scopedSems0 (tile d L) ∗ owes (tile d L) O W)
      ⊢ wp frame (wpE (defs₀ (F := F)) 𝒱₀ (tile d L) none) Set.univ
          (cc1_gather_kernel L tV (Memref.isWhole_whole _) iV (Memref.isWhole_whole _) oV (Memref.isWhole_whole _)
            sV (Memref.isWhole_whole _) cc1_scoped1 rV (Memref.isWhole_whole _) cc1_scoped3 cc1_scoped4)
          fun _ => iprop(tdT d L tb ix q ∗ scopedBufs (tile d L) ∗ scopedSems0 (tile d L)
            ∗ ∃ W', ⌜∀ p ∈ W', p ∈ W ∨ p.2 = none⌝ ∗ owes (tile d L) O W') := by
  have hc4 : k1_chk4 (carry 16).2.2.2.1 := chk4_ok
  have hc5 : k1_chk5 L (carry 16).2.2.2.2 := chk5_ok L
  rw [cc1_gather_kernel_eq_skeleton]; unfold cc1_gather_kernel_skel
  rw [k1_part3_eq_skeleton, k1_part4_eq_skeleton]; unfold k1_part3_skel k1_part4_skel
  rw [(K (F := F)).scopedBufs_V hF d (cV L) (jV L), SparseCore.Cfg.scopedSems0_V (Val := Elt F) d (cV L) (jV L), ownSems0_V, ownBufs_V]
  unfold goT tdT
  iintro ⟨#Hlv, -, ⟨Hib, Ht, Hob⟩, ⟨⟨%fs, Hs⟩, ⟨%fr, Hr⟩, Hbufs⟩, ⟨Hc0, Hc1, Hc2, Hc3, Hc4, Hsems⟩, HO⟩
  ihave #Hmw := (show levAts (K (F := F)).L (K (F := F)).lev ⊢ Transfers.MayWaits (tile d L) (default : HIx 1) O from
    (K (F := F)).mayWaits_none (thr := tile d L) hO) $$ Hlv
  ihave Hs' := (iSlots_split (F := F) d L fs) $$ Hs
  icases Hs' with ⟨Hi0, Hi1⟩
  ihave Hr' := (oSlots_split (F := F) d L fr) $$ Hr
  icases Hr' with ⟨Ho0, Ho1⟩
  ihave Hib' := (ins_zero (F := F) d L ix) $$ Hib
  icases Hib' with ⟨Hb0, Hins⟩
  ihave Houts := (Entails.of_eq (outs_zero (F := F) d L tb ix f₀)) $$ Hob
  sl_exec
  iapply (step_in (F := F) d L ix _ (sl 0) (bk L 0) (o4 := k1_off1) (o5 := k1_off2 L) (o6 := k1_off3) (by decide)
    (by rw [bk_val L (by decide)]; exact off2_eq L) (by decide)) $$ [Hb0 Hi0 Hc0]
  · isplitl [Hb0]; · iexact Hb0
    isplitl [Hi0]; · iexact Hi0
    iexact Hc0
  iintro Hfl
  sl_exec
  rw [wp_bind]
  sl_for (fun n a => iprop(Transfers.MayWaits (tile d L) (default : HIx 1) O ∗ inv d L tb ix f₀ q O W n a)) $$ [Hfl Hi1 Hc1 Ho0 Ho1 Hc2 Hc3 Hc4 Hins Houts Ht HO]
  case region =>
    intro k a
    obtain ⟨a6, a7, a8, a9, a10⟩ := a
    iintro ⟨#Hmw, HI⟩
    icases (show inv d L tb ix f₀ q O W k.val (a6, a7, a8, a9, a10) ⊢ iprop(⌜(a6, a7, a8, a9, a10) = carry k.val⌝ ∗ inv d L tb ix f₀ q O W k.val (a6, a7, a8, a9, a10)) from by
      unfold inv
      iintro ⟨%h, H⟩
      isplitr; · ipureintro; exact h
      isplitr; · ipureintro; exact h
      iexact H) $$ HI with ⟨%hk, HI⟩
    iapply (wp_frame_l frame _) $$ [HI]
    isplitr; · iexact Hmw
    iapply (trip d L tb ix f₀ hix q O W k a6 a7 a8 a9 a10 hk) $$ [HI]
    isplitr; · iexact Hmw
    iexact HI
  · isplitr; · iexact Hmw
    unfold inv inSt outSt
    rw [if_pos (show (0 : ℕ) < 16 by decide), if_pos rfl]
    isplitr; · ipureintro; decide
    isplitl [Hfl Hi1 Hc1]
    · isplitl [Hfl]; · iexact Hfl
      isplitl [Hi1]; · iexact Hi1
      iexact Hc1
    isplitl [Ho0 Ho1 Hc2 Hc3]
    · isplitl [Ho1 Hc3]
      · isplitl [Ho1]; · iexact Ho1
        iexact Hc3
      isplitl [Ho0]; · iexact Ho0
      iexact Hc2
    isplitl [Hins]; · iexact Hins
    isplitl [Houts]; · iexact Houts
    isplitl [Ht]; · iexact Ht
    isplitl [Hc4]; · iexact Hc4
    iexists W
    isplitr; · ipureintro; exact fun p hp => .inl hp
    iexact HO
  iintro %acc ⟨-, HI⟩
  rw [show Scf.trips k1_t1_loop.lb k1_t1_loop.ub k1_t1_loop.st = 16 from trips_eq]
  unfold inv inSt outSt
  rw [if_neg (show ¬ (16 : ℕ) < 16 by decide), if_neg (show ¬ (16 : ℕ) = 0 by decide)]
  icases HI with ⟨%hacc, ⟨⟨Hi0, Hc0⟩, Hi1, Hc1⟩, ⟨Hof, Ho0, Hc2⟩, Hins, Houts, Ht, Hc4, %W', %hW', HO⟩
  subst hacc
  sl_exec
  iapply (step_outwait (F := F) d L tb ix _ (sl 17) (bk L 15) (o6 := k1_off20 (carry 16).2.2.2.1) off20_eq) $$ [Hof HO]
  · isplitl [Hof]; · iexact Hof
    isplitl [HO]; · iexact HO
    iexact Hmw
  iintro ⟨⟨Hb15, Ho1⟩, Hc3, HO⟩
  sl_step
  ihave Hibs := (Entails.of_eq (ins_end (F := F) d L ix)) $$ Hins
  ihave Hobs := (outs_end (F := F) d L tb ix f₀) $$ [Hb15 Houts]
  · isplitl [Hb15]; · iexact Hb15
    iexact Houts
  isplitl [Hibs Hobs Ht]
  · isplitl [Hibs]; · iexact Hibs
    isplitl [Ht]; · iexact Ht
    iexact Hobs
  isplitl [Hi0 Hi1 Ho0 Ho1 Hbufs]
  · isplitl [Hi0 Hi1]
    · iapply (iSlots_join (F := F) d L) $$ [Hi0 Hi1]
      isplitl [Hi0]; · iexact Hi0
      iexact Hi1
    isplitl [Ho0 Ho1]
    · iapply (oSlots_join (F := F) d L) $$ [Ho0 Ho1]
      isplitl [Ho0]; · iexact Ho0
      iexact Ho1
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iexists _
  isplitr
  swap; · iexact HO
  ipureintro
  intro p hp
  rcases Finset.mem_insert.mp hp with h | h
  · subst h; exact .inr rfl
  · exact hW' p h

end Body

end Cert.Proof.TileI

end
-- ==== Proof.RegionsI.lean ====
/- The two projections around the attention: what their bodies leave in the output blocks, and their triples. -/
module

public import proofs.«01_k».proof.Proof.StepsI
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F] [Named F]

local notation "𝕄" => MT nD τ sig (HIx 1) (Elt F) ℕ UU ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S256x3072 := Rect.unit (s := S256x3072) ![0, 0] S256x3072.size inb_S256x3072_S256x3072_0_0
abbrev r0_3 : Rect S4096x128 := Rect.unit (s := S4096x128) ![0, 0] S4096x128.size inb_S4096x128_S4096x128_0_0

def out0_2 (x0 : Vec F S256x1024 .bf16) (x1 : Vec F S3072x1024 .bf16) : Vec F S256x3072 .bf16 :=
  View.canon [⟨r0_2, k0_pay2 (View.ld x0 r0_0) (View.ld x1 r0_1)⟩]

theorem cover0_2 (p0 : Vec F S256x3072 .bf16) (y : S256x3072.Idx) :
    ∃ pc ∈ ([⟨r0_2, p0⟩] : List (View.Piece (Elt F) S256x3072 .bf16)), y ∈ pc.1.set :=
  View.cover_of_tiled [⟨r0_2, p0⟩] S256x3072.size (by rfl) y

def out0_3 (x0 : Vec F S256x1024 .bf16) (x1 : Vec F S3072x1024 .bf16) : Vec F S4096x128 .f32 :=
  View.canon [⟨r0_3, k0_pay3 (View.ld x0 r0_0) (View.ld x1 r0_1)⟩]

theorem cover0_3 (p0 : Vec F S4096x128 .f32) (y : S4096x128.Idx) :
    ∃ pc ∈ ([⟨r0_3, p0⟩] : List (View.Piece (Elt F) S4096x128 .f32)), y ∈ pc.1.set :=
  View.cover_of_tiled [⟨r0_3, p0⟩] S4096x128.size (by rfl) y

set_option maxHeartbeats 1000000 in

theorem sound_kernel0 (c : Dev nD) (E : Set ℕ) (i : grid0.Coords) (arg1 : Memref sig .tc .vmem S256x1024 .bf16) (harg1 : arg1.IsWhole) (arg2 : Memref sig .tc .vmem S3072x1024 .bf16) (harg2 : arg2.IsWhole) (arg3 : Memref sig .tc .vmem S256x3072 .bf16) (harg3 : arg3.IsWhole) (arg4 : Memref sig .tc .vmem S4096x128 .f32) (harg4 : arg4.IsWhole)
    (x0 : Vec F S256x1024 .bf16) (x1 : Vec F S3072x1024 .bf16) (Kt : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ Kt ⟨⟩))
      ⊢ wp frame (wpE (defs₀ (F := F)) 𝒱₀ c none) E (cc0__qkv_body i arg1 harg1 arg2 harg2 arg3 harg3 arg4 harg4) Kt := by
  simp only [cc0__qkv_body_eq_skeleton]; unfold cc0__qkv_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := ΦR spec0 c
  q _ := fullShare
  owed _ := (K (F := F)).Otc c 0
  recorded _ := {p | (K (F := F)).lev ((c : Thread nD τ), p.1) p.2 ≤ 8 * bnd 0}

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt none t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt none t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) 𝒱₀ c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt none t.succ = (dat0 V c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  rfl

theorem body_obligation0 (c : Dev nD) : BodyObligation (dat0 (F := F) V c) (defs₀ (F := F)) 𝒱₀ none Set.univ := fun t => by
  rw [bigSep_W0, bigSep_W0, defs₀_row0]
  exact triple_restated (sound_body0 V c t) rfl .rfl fun _ => .rfl

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S256x1024 := Rect.unit (s := S256x1024) ![0, 0] S256x1024.size inb_S256x1024_S256x1024_0_0
abbrev r3_1 : Rect S1024x1024 := Rect.unit (s := S1024x1024) ![0, 0] S1024x1024.size inb_S1024x1024_S1024x1024_0_0

def out3_2 (x0 : Vec F S256x1024 .bf16) (x1 : Vec F S1024x1024 .bf16) : Vec F S256x1024 .f32 :=
  View.canon [⟨r3_0, k3_pay1 (View.ld x0 r3_0) (View.ld x1 r3_1)⟩]

theorem cover3_2 (p0 : Vec F S256x1024 .f32) (y : S256x1024.Idx) :
    ∃ pc ∈ ([⟨r3_0, p0⟩] : List (View.Piece (Elt F) S256x1024 .f32)), y ∈ pc.1.set :=
  View.cover_of_tiled [⟨r3_0, p0⟩] S256x1024.size (by rfl) y

set_option maxHeartbeats 1000000 in

theorem sound_kernel3 (c : Dev nD) (E : Set ℕ) (i : grid3.Coords) (arg1 : Memref sig .tc .vmem S256x1024 .bf16) (harg1 : arg1.IsWhole) (arg2 : Memref sig .tc .vmem S1024x1024 .bf16) (harg2 : arg2.IsWhole) (arg3 : Memref sig .tc .vmem S256x1024 .f32) (harg3 : arg3.IsWhole)
    (x0 : Vec F S256x1024 .bf16) (x1 : Vec F S1024x1024 .bf16) (Kt : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ Kt ⟨⟩))
      ⊢ wp frame (wpE (defs₀ (F := F)) 𝒱₀ c none) E (cc3__matmul_body i arg1 harg1 arg2 harg2 arg3 harg3) Kt := by
  simp only [cc3__matmul_body_eq_skeleton]; unfold cc3__matmul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := ΦR spec3 c
  q _ := fullShare
  owed _ := (K (F := F)).Otc c 1
  recorded _ := {p | (K (F := F)).lev ((c : Thread nD τ), p.1) p.2 ≤ 8 * bnd 1}

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt none t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt none t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) 𝒱₀ c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt none t.succ = (dat3 V c).owesAt none t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row3 (t : Fin cfg3.N) :
    defs₀ (F := F) .tc cfg3.body (cfg3.bodyArgs t (cfg3.slots t)) = bodyAt3 t := by
  rfl

theorem body_obligation3 (c : Dev nD) : BodyObligation (dat3 (F := F) V c) (defs₀ (F := F)) 𝒱₀ none Set.univ := fun t => by
  rw [bigSep_W3, bigSep_W3, defs₀_row3]
  exact triple_restated (sound_body3 V c t) rfl .rfl fun _ => .rfl

end Regions

end Cert.Proof.TileI

end
-- ==== Proof.AttnI.lean ====
/- The attention body: what it leaves in its output block, head by head, and its triple. -/
module

public import proofs.«01_k».proof.Proof.StepsI
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F] [Named F]

local notation "𝕄" => MT nD τ sig (HIx 1) (Elt F) ℕ UU ℕ

section Regions

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## One head -/

/-- The filler of the masked scores. -/
abbrev maskC : F .f32 := Named.named κ "mask" 0xF149F2CA#32
/-- The scale of the scores, an eighth. -/
abbrev sclC : F .f32 := Scalar.ofBits .f32 0x3E000000#32

/-- The head's keys (or values) of the previous block and of the current one, one below the other. -/
def band (a b : Vec F S128x64 .bf16) : FVec F S256x64 .bf16 :=
  concatenate S256x64 0 [⟨S128x64, shapeCast S128x64 a shapeCasts_S128x64_S128x64⟩, ⟨S128x64, shapeCast S128x64 b shapeCasts_S128x64_S128x64⟩] concatenates_S128x64_S128x64_S256x64_d0

/-- The scores against the band's 256 rows, masked; -/
def scB (i : grid2.Coords) (q kp kc : Vec F S128x64 .bf16) : FVec F S128x256 .f32 :=
  select (k2_pay2 i)
    (mulf (matmul dot_S128x64_S256x64_S128x256_1_1_0_0_n_n none (shapeCast S128x64 q shapeCasts_S128x64_S128x64) (band kp kc) (constant S128x256 .f32 0x00000000#32)) (broadcast S128x256 sclC))
    (broadcast S128x256 maskC)

/-- against the sixteen landmarks, masked; -/
def scL (i : grid2.Coords) (q : Vec F S128x64 .bf16) (kl : Vec F S16x64 .bf16) : FVec F S128x16 .f32 :=
  select (k2_pay3 i)
    (mulf (matmul dot_S128x64_S16x64_S128x16_1_1_0_0_n_n none (shapeCast S128x64 q shapeCasts_S128x64_S128x64) (shapeCast S16x64 kl shapeCasts_S16x64_S16x64) (constant S128x16 .f32 0x00000000#32)) (broadcast S128x16 sclC))
    (broadcast S128x16 maskC)

/-- against a gathered row each, before its bias, -/
def dotC (q : Vec F S128x64 .bf16) (k : Vec F S1x1x128x64 .f32) : FVec F S128 .f32 :=
  mulf (multiReduction .add [1] S128 (mulf (extf .f32 (shapeCast S128x64 q shapeCasts_S128x64_S128x64) bitsLt_bf16_f32) (shapeCast S128x64 k shapeCasts_S1x1x128x64_S128x64)) 0x00000000#32 reduces_S128x64_S128 (.inl rfl) rfl)
    (broadcast S128 sclC)
/-- and with the first bias, or the second. -/
def sc0 (q : Vec F S128x64 .bf16) (k : Vec F S1x1x128x64 .f32) (b : Vec F S1x128x8 .f32) : FVec F S128 .f32 :=
  addf (dotC q k) (shapeCast S128 (extractStridedSlice S128x1 ![0, 0] (shapeCast S128x8 b shapeCasts_S1x128x8_S128x8) slices_S128x8_o0_0_S128x1) shapeCasts_S128x1_S128)
def sc1 (q : Vec F S128x64 .bf16) (k : Vec F S1x1x128x64 .f32) (b : Vec F S1x128x8 .f32) : FVec F S128 .f32 :=
  addf (dotC q k) (shapeCast S128 (extractStridedSlice S128x1 ![0, 1] (shapeCast S128x8 b shapeCasts_S1x128x8_S128x8) slices_S128x8_o0_1_S128x1) shapeCasts_S128x1_S128)

/-- The largest of a row's scores. -/
def scMax (sB : FVec F S128x256 .f32) (sL : FVec F S128x16 .f32) (s0 s1 : FVec F S128 .f32) : FVec F S128 .f32 :=
  maximumf (maximumf (multiReduction .maximumf [1] S128 sB 0xFF800000#32 reduces_S128x256_S128 (.inl rfl) rfl)
      (multiReduction .maximumf [1] S128 sL 0xFF800000#32 reduces_S128x16_S128 (.inl rfl) rfl))
    (maximumf s0 s1)

def exB (s : FVec F S128x256 .f32) (m : FVec F S128 .f32) : FVec F S128x256 .f32 :=
  exp (subf s (broadcastTo S128x256 (shapeCast S128x1 m shapeCasts_S128_S128x1) broadcasts_S128x1_S128x256))
def exL (s : FVec F S128x16 .f32) (m : FVec F S128 .f32) : FVec F S128x16 .f32 :=
  exp (subf s (broadcastTo S128x16 (shapeCast S128x1 m shapeCasts_S128_S128x1) broadcasts_S128x1_S128x16))

/-- The sum of the weights, -/
def wDen (eB : FVec F S128x256 .f32) (eL : FVec F S128x16 .f32) (e0 e1 : FVec F S128 .f32) : FVec F S128 .f32 :=
  addf (addf (addf (multiReduction .add [1] S128 eB 0x00000000#32 reduces_S128x256_S128 (.inl rfl) rfl)
    (multiReduction .add [1] S128 eL 0x00000000#32 reduces_S128x16_S128 (.inl rfl) rfl)) e0) e1
/-- and the weighted sum of the values. -/
def wNum (eB : FVec F S128x256 .f32) (eL : FVec F S128x16 .f32) (e0 e1 : FVec F S128 .f32)
    (vb : FVec F S256x64 .bf16) (vl : Vec F S16x64 .bf16) (v0 v1 : Vec F S1x1x128x64 .f32) : FVec F S128x64 .f32 :=
  addf (addf (addf (matmul dot_S128x256_S256x64_S128x64_1_0_0_1_n_n none (truncf .bf16 eB bitsLt_bf16_f32) vb (constant S128x64 .f32 0x00000000#32))
      (matmul dot_S128x16_S16x64_S128x64_1_0_0_1_n_n none (truncf .bf16 eL bitsLt_bf16_f32) (shapeCast S16x64 vl shapeCasts_S16x64_S16x64) (constant S128x64 .f32 0x00000000#32)))
      (mulf (broadcastTo S128x64 (shapeCast S128x1 e0 shapeCasts_S128_S128x1) broadcasts_S128x1_S128x64) (shapeCast S128x64 v0 shapeCasts_S1x1x128x64_S128x64)))
    (mulf (broadcastTo S128x64 (shapeCast S128x1 e1 shapeCasts_S128_S128x1) broadcasts_S128x1_S128x64) (shapeCast S128x64 v1 shapeCasts_S1x1x128x64_S128x64))

/-- The head's output from its scores. -/
def headOut (sB : FVec F S128x256 .f32) (sL : FVec F S128x16 .f32) (s0 s1 m : FVec F S128 .f32)
    (vb : FVec F S256x64 .bf16) (vl : Vec F S16x64 .bf16) (v0 v1 : Vec F S1x1x128x64 .f32) : FVec F S128x64 .bf16 :=
  truncf .bf16 (divf (wNum (exB sB m) (exL sL m) (exp (subf s0 m)) (exp (subf s1 m)) vb vl v0 v1)
    (broadcastTo S128x64 (shapeCast S128x1 (wDen (exB sB m) (exL sL m) (exp (subf s0 m)) (exp (subf s1 m))) shapeCasts_S128_S128x1) broadcasts_S128x1_S128x64)) bitsLt_bf16_f32

/-- One head's output block, from its blocks of the inputs. -/
def headBlk (i : grid2.Coords) (q kp kc : Vec F S128x64 .bf16) (kl : Vec F S16x64 .bf16) (vp vc : Vec F S128x64 .bf16) (vl : Vec F S16x64 .bf16)
    (k0 k1 v0 v1 : Vec F S1x1x128x64 .f32) (b : Vec F S1x128x8 .f32) : FVec F S128x64 .bf16 :=
  headOut (scB i q kp kc) (scL i q kl) (sc0 q k0 b) (sc1 q k1 b) (scMax (scB i q kp kc) (scL i q kl) (sc0 q k0 b) (sc1 q k1 b))
    (band vp vc) vl v0 v1

/-! ## The heads' places -/

/-- Head `h`'s columns of a 128-row block, -/
abbrev rQ (h : Fin 16) : Rect S128x1024 := Rect.unit (s := S128x1024) ![0, 64 * h.val] S128x64.size (by revert h; decide)
/-- of the landmarks; -/
abbrev rL (h : Fin 16) : Rect S16x1024 := Rect.unit (s := S16x1024) ![0, 64 * h.val] S16x64.size (by revert h; decide)
/-- its gathered keys and its gathered values, of the first cycle neighbour and of the second, -/
abbrev rC (k : Fin 2) (h : Fin 16) (o : Fin 2) : Rect S2x16x128x128 := Rect.unit (s := S2x16x128x128) ![k.val, h.val, 0, 64 * o.val] S1x1x128x64.size (by revert k h o; decide)
/-- and its biases. -/
abbrev rB (h : Fin 16) : Rect S16x128x8 := Rect.unit (s := S16x128x8) ![h.val, 0, 0] S1x128x8.size (by revert h; decide)

/-- Head `h`'s output block from the input windows' blocks. -/
def hd (i : grid2.Coords) (x0 : Vec F S128x1024 .bf16) (x1 : Vec F S128x1024 .bf16) (x2 : Vec F S128x1024 .bf16) (x3 : Vec F S16x1024 .bf16) (x4 : Vec F S128x1024 .bf16) (x5 : Vec F S128x1024 .bf16) (x6 : Vec F S16x1024 .bf16) (x7 : Vec F S2x16x128x128 .f32) (x8 : Vec F S16x128x8 .f32) (h : Fin 16) : FVec F S128x64 .bf16 :=
  headBlk i (View.ld x0 (rQ h)) (View.ld x1 (rQ h)) (View.ld x2 (rQ h)) (View.ld x3 (rL h)) (View.ld x4 (rQ h)) (View.ld x5 (rQ h)) (View.ld x6 (rL h))
    (View.ld x7 (rC 0 h 0)) (View.ld x7 (rC 1 h 0)) (View.ld x7 (rC 0 h 1)) (View.ld x7 (rC 1 h 1)) (View.ld x8 (rB h))

/-- The sixteen blocks as pieces of the output, the last first. -/
abbrev pieces (p : Fin 16 → Vec F S128x64 .bf16) : List (View.Piece (Elt F) S128x1024 .bf16) :=
  [⟨rQ 15, p 15⟩, ⟨rQ 14, p 14⟩, ⟨rQ 13, p 13⟩, ⟨rQ 12, p 12⟩, ⟨rQ 11, p 11⟩, ⟨rQ 10, p 10⟩, ⟨rQ 9, p 9⟩, ⟨rQ 8, p 8⟩, ⟨rQ 7, p 7⟩, ⟨rQ 6, p 6⟩, ⟨rQ 5, p 5⟩, ⟨rQ 4, p 4⟩, ⟨rQ 3, p 3⟩, ⟨rQ 2, p 2⟩, ⟨rQ 1, p 1⟩, ⟨rQ 0, p 0⟩]

/-- The output block after the body: each head's in its columns. -/
def out2_9 (i : grid2.Coords) (x0 : Vec F S128x1024 .bf16) (x1 : Vec F S128x1024 .bf16) (x2 : Vec F S128x1024 .bf16) (x3 : Vec F S16x1024 .bf16) (x4 : Vec F S128x1024 .bf16) (x5 : Vec F S128x1024 .bf16) (x6 : Vec F S16x1024 .bf16) (x7 : Vec F S2x16x128x128 .f32) (x8 : Vec F S16x128x8 .f32) : Vec F S128x1024 .bf16 :=
  View.canon (pieces (hd i x0 x1 x2 x3 x4 x5 x6 x7 x8))

theorem cover2_9 (p0 p1 p2 p3 p4 p5 p6 p7 p8 p9 p10 p11 p12 p13 p14 p15 : Vec F S128x64 .bf16) (y : S128x1024.Idx) :
    ∃ pc ∈ ([⟨rQ 15, p0⟩, ⟨rQ 14, p1⟩, ⟨rQ 13, p2⟩, ⟨rQ 12, p3⟩, ⟨rQ 11, p4⟩, ⟨rQ 10, p5⟩, ⟨rQ 9, p6⟩, ⟨rQ 8, p7⟩, ⟨rQ 7, p8⟩, ⟨rQ 6, p9⟩, ⟨rQ 5, p10⟩, ⟨rQ 4, p11⟩, ⟨rQ 3, p12⟩, ⟨rQ 2, p13⟩, ⟨rQ 1, p14⟩, ⟨rQ 0, p15⟩] : List (View.Piece (Elt F) S128x1024 .bf16)), y ∈ pc.1.set :=
  View.cover_of_tiled [⟨rQ 15, p0⟩, ⟨rQ 14, p1⟩, ⟨rQ 13, p2⟩, ⟨rQ 12, p3⟩, ⟨rQ 11, p4⟩, ⟨rQ 10, p5⟩, ⟨rQ 9, p6⟩, ⟨rQ 8, p7⟩, ⟨rQ 7, p8⟩, ⟨rQ 6, p9⟩, ⟨rQ 5, p10⟩, ⟨rQ 4, p11⟩, ⟨rQ 3, p12⟩, ⟨rQ 2, p13⟩, ⟨rQ 1, p14⟩, ⟨rQ 0, p15⟩] S128x64.size (by rfl) y

set_option maxHeartbeats 1604000 in

theorem sound_kernel2 (c : Dev nD) (E : Set ℕ) (i : grid2.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S16x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S16x1024 .bf16) (harg7 : arg7.IsWhole) (arg8 : Memref sig .tc .vmem S2x16x128x128 .f32) (harg8 : arg8.IsWhole) (arg9 : Memref sig .tc .vmem S16x128x8 .f32) (harg9 : arg9.IsWhole) (arg10 : Memref sig .tc .vmem S128x1024 .bf16) (harg10 : arg10.IsWhole)
    (x0 : Vec F S128x1024 .bf16) (x1 : Vec F S128x1024 .bf16) (x2 : Vec F S128x1024 .bf16) (x3 : Vec F S16x1024 .bf16) (x4 : Vec F S128x1024 .bf16) (x5 : Vec F S128x1024 .bf16) (x6 : Vec F S16x1024 .bf16) (x7 : Vec F S2x16x128x128 .f32) (x8 : Vec F S16x128x8 .f32) (Kt : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 i x0 x1 x2 x3 x4 x5 x6 x7 x8)) -∗ Kt ⟨⟩))
      ⊢ wp frame (wpE (defs₀ (F := F)) 𝒱₀ c none) E (cc2__attn_body i arg1 harg1 arg2 harg2 arg3 harg3 arg4 harg4 arg5 harg5 arg6 harg6 arg7 harg7 arg8 harg8 arg9 harg9 arg10 harg10) Kt := by
  simp only [cc2__attn_body_eq_skeleton]; unfold cc2__attn_body_skel
  simp only [k2_part39_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover2_9 _ _ _ _ _ _ _ _ _ _ _ _ _ _ _ _)).trans ?_
  rfl

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := ΦR spec2 c
  q w := Pipeline.shareOf spec2 w
  owed _ := (K (F := F)).Otc c 1
  recorded _ := {p | (K (F := F)).lev ((c : Thread nD τ), p.1) p.2 ≤ 8 * bnd 1}

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) 𝒱₀ c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row2 (t : Fin cfg2.N) :
    defs₀ (F := F) .tc cfg2.body (cfg2.bodyArgs t (cfg2.slots t)) = bodyAt2 t := by
  rfl

theorem body_obligation2 (c : Dev nD) : BodyObligation (dat2 (F := F) V c) (defs₀ (F := F)) 𝒱₀ none Set.univ := fun t => by
  rw [bigSep_W2, bigSep_W2, defs₀_row2]
  exact triple_restated (sound_body2 V c t) rfl .rfl fun _ => .rfl

end Regions

end Cert.Proof.TileI

end
-- ==== Proof.HostI.lean ====
/- The host operations around the four calls, and what every buffer holds at each boundary of the program. -/
module

public import proofs.«01_k».proof.Proof.TileI
public import proofs.«01_k».proof.Proof.RegionsI
public import proofs.«01_k».proof.Proof.AttnI
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.StableHlo.Run
public import Idealize.ShloMosaic.Lib.Tactic
public import Idealize.ShloMosaic.Lib.WordCmp

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F] [Named F]

local notation "𝕄" => MT nD τ sig (HIx 1) (Elt F) ℕ UU ℕ

abbrev hostOps0 : List (HloOp τ sig (Elt F)) :=
  [ StableHlo.reshape main_arg0 main_v0 (rfl : (.f32 : EltTy) = .f32) shapeCasts_S1x2048x1024_S2048x1024,
    StableHlo.unary main_v0 main_v1 ((truncf .bf16 · bitsLt_bf16_f32) : (⟨S2048x1024, .f32⟩ : BufTy).Contents (Elt F) → (⟨S2048x1024, .bf16⟩ : BufTy).Contents (Elt F)),
    StableHlo.unary main_arg1 main_v2 ((truncf .bf16 · bitsLt_bf16_f32) : (⟨S3072x1024, .f32⟩ : BufTy).Contents (Elt F) → (⟨S3072x1024, .bf16⟩ : BufTy).Contents (Elt F)) ]

theorem hostOps0_sub : (hostOps0 : List (HloOp τ sig (Elt F))).Forall fun op => op.bufs ⊆ StableHlo.tcRefs τ sig :=
  ⟨StableHlo.reshape_bufs_sub .., StableHlo.unary_bufs_sub .., StableHlo.unary_bufs_sub ..⟩

abbrev hostOps1 : List (HloOp τ sig (Elt F)) :=
  [ StableHlo.unary main_v3_0 main_v4 ((extractStridedSlice S2048x1024 ![0, 0] · slices_S2048x3072_S2048x1024_0_0) : (⟨S2048x3072, .bf16⟩ : BufTy).Contents (Elt F) → (⟨S2048x1024, .bf16⟩ : BufTy).Contents (Elt F)),
    StableHlo.unary main_v3_0 main_v5 ((extractStridedSlice S2048x1024 ![0, 1024] · slices_S2048x3072_S2048x1024_0_1024) : (⟨S2048x3072, .bf16⟩ : BufTy).Contents (Elt F) → (⟨S2048x1024, .bf16⟩ : BufTy).Contents (Elt F)),
    StableHlo.unary main_v3_0 main_v6 ((extractStridedSlice S2048x1024 ![0, 2048] · slices_S2048x3072_S2048x1024_0_2048) : (⟨S2048x3072, .bf16⟩ : BufTy).Contents (Elt F) → (⟨S2048x1024, .bf16⟩ : BufTy).Contents (Elt F)),
    StableHlo.unary main_v5 main_v7 ((Host.slice S16x1024 ![0, 0] ![128, 1] · slicesBy_S2048x1024_S16x1024_0s128_0s1) : (⟨S2048x1024, .bf16⟩ : BufTy).Contents (Elt F) → (⟨S16x1024, .bf16⟩ : BufTy).Contents (Elt F)),
    StableHlo.unary main_v6 main_v8 ((Host.slice S16x1024 ![0, 0] ![128, 1] · slicesBy_S2048x1024_S16x1024_0s128_0s1) : (⟨S2048x1024, .bf16⟩ : BufTy).Contents (Elt F) → (⟨S16x1024, .bf16⟩ : BufTy).Contents (Elt F)),
    StableHlo.unary main_arg4 main_v9 ((extractStridedSlice S16x2048x2 ![0, 0, 0] · slices_S16x2048x51_S16x2048x2_0_0_0) : (⟨S16x2048x51, .i32⟩ : BufTy).Contents (Elt F) → (⟨S16x2048x2, .i32⟩ : BufTy).Contents (Elt F)),
    StableHlo.nullary main_v10 (iotaInDim S2048 32 0),
    StableHlo.unary main_v10 main_v11 (broadcastInDim S1x2048x1 ![1] bcast_S2048_S1x2048x1_1 : (⟨S2048, .i32⟩ : BufTy).Contents (Elt F) → (⟨S1x2048x1, .i32⟩ : BufTy).Contents (Elt F)),
    StableHlo.nullary main_c (constantI S_ 32 32#32),
    StableHlo.unary main_c main_v12 (broadcastInDim S1x2048x1 ![] bcast_S_S1x2048x1 : (⟨S_, .i32⟩ : BufTy).Contents (Elt F) → (⟨S1x2048x1, .i32⟩ : BufTy).Contents (Elt F)),
    StableHlo.binary main_v11 main_v12 main_v13 (subi : (⟨S1x2048x1, .i32⟩ : BufTy).Contents (Elt F) → (⟨S1x2048x1, .i32⟩ : BufTy).Contents (Elt F) → (⟨S1x2048x1, .i32⟩ : BufTy).Contents (Elt F)),
    StableHlo.unary main_v13 main_v14 (broadcastInDim S16x2048x2 ![0, 1, 2] bcast_S1x2048x1_S16x2048x2_0_1_2 : (⟨S1x2048x1, .i32⟩ : BufTy).Contents (Elt F) → (⟨S16x2048x2, .i32⟩ : BufTy).Contents (Elt F)),
    StableHlo.binary main_v9 main_v14 main_v15 (cmpi .slt : (⟨S16x2048x2, .i32⟩ : BufTy).Contents (Elt F) → (⟨S16x2048x2, .i32⟩ : BufTy).Contents (Elt F) → (⟨S16x2048x2, .i1⟩ : BufTy).Contents (Elt F)),
    StableHlo.nullary main_c_0 (constantI S_ 32 128#32) ]

theorem hostOps1_sub : (hostOps1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩

abbrev hostOps1_1 : List (HloOp τ sig (Elt F)) :=
  [ StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S16x2048x2, .i32⟩) (broadcastInDim S16x2048x2 ![] bcast_S_S16x2048x2),
    StableHlo.TRef.binary (.of main_v9 : StableHlo.TRef sig ⟨S16x2048x2, .i32⟩) (.of main_call0_v3 : StableHlo.TRef sig ⟨S16x2048x2, .i32⟩) (.of main_call0_v4 : StableHlo.TRef sig ⟨S16x2048x2, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S16x2048x2, .i32⟩) (broadcastInDim S16x2048x2 ![] bcast_S_S16x2048x2),
    StableHlo.TRef.binary (.of main_call0_v4 : StableHlo.TRef sig ⟨S16x2048x2, .i32⟩) (.of main_call0_v5 : StableHlo.TRef sig ⟨S16x2048x2, .i32⟩) (.of main_call0_v6 : StableHlo.TRef sig ⟨S16x2048x2, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S16x2048x2, .i32⟩) (broadcastInDim S16x2048x2 ![] bcast_S_S16x2048x2),
    StableHlo.TRef.binary (.of main_call0_v4 : StableHlo.TRef sig ⟨S16x2048x2, .i32⟩) (.of main_call0_v7 : StableHlo.TRef sig ⟨S16x2048x2, .i32⟩) (.of main_call0_v8 : StableHlo.TRef sig ⟨S16x2048x2, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S16x2048x2, .i1⟩) (broadcastInDim S16x2048x2 ![] bcast_S_S16x2048x2),
    StableHlo.TRef.binary (.of main_call0_v8 : StableHlo.TRef sig ⟨S16x2048x2, .i1⟩) (.of main_call0_v10 : StableHlo.TRef sig ⟨S16x2048x2, .i1⟩) (.of main_call0_v11 : StableHlo.TRef sig ⟨S16x2048x2, .i1⟩) (cmpi .ne),
    StableHlo.TRef.binary (.of main_call0_v11 : StableHlo.TRef sig ⟨S16x2048x2, .i1⟩) (.of main_call0_v6 : StableHlo.TRef sig ⟨S16x2048x2, .i1⟩) (.of main_call0_v12 : StableHlo.TRef sig ⟨S16x2048x2, .i1⟩) andi,
    StableHlo.TRef.unary main_call0_call0.v0 (.of main_call0_v13 : StableHlo.TRef sig ⟨S16x2048x2, .i32⟩) (broadcastInDim S16x2048x2 ![] bcast_S_S16x2048x2),
    StableHlo.TRef.binary (.of main_call0_v4 : StableHlo.TRef sig ⟨S16x2048x2, .i32⟩) (.of main_call0_v13 : StableHlo.TRef sig ⟨S16x2048x2, .i32⟩) (.of main_call0_v14 : StableHlo.TRef sig ⟨S16x2048x2, .i32⟩) addi,
    StableHlo.TRef.ternary (.of main_call0_v12 : StableHlo.TRef sig ⟨S16x2048x2, .i1⟩) (.of main_call0_v14 : StableHlo.TRef sig ⟨S16x2048x2, .i32⟩) (.of main_call0_v4 : StableHlo.TRef sig ⟨S16x2048x2, .i32⟩) (.of main_v16 : StableHlo.TRef sig ⟨S16x2048x2, .i32⟩) select ]

theorem hostOps1_1_sub : (hostOps1_1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

abbrev hostOps1_2 : List (HloOp τ sig (Elt F)) :=
  [ StableHlo.nullary main_c_1 (constantI S_ 32 0#32),
    StableHlo.unary main_c_1 main_v17 (broadcastInDim S16x2048x2 ![] bcast_S_S16x2048x2 : (⟨S_, .i32⟩ : BufTy).Contents (Elt F) → (⟨S16x2048x2, .i32⟩ : BufTy).Contents (Elt F)),
    StableHlo.binary main_v16 main_v17 main_v18 (cmpi .ne : (⟨S16x2048x2, .i32⟩ : BufTy).Contents (Elt F) → (⟨S16x2048x2, .i32⟩ : BufTy).Contents (Elt F) → (⟨S16x2048x2, .i1⟩ : BufTy).Contents (Elt F)),
    StableHlo.binary main_v15 main_v18 main_v19 (andi : (⟨S16x2048x2, .i1⟩ : BufTy).Contents (Elt F) → (⟨S16x2048x2, .i1⟩ : BufTy).Contents (Elt F) → (⟨S16x2048x2, .i1⟩ : BufTy).Contents (Elt F)),
    StableHlo.nullary main_cst (constant S_ .f32 0x00000000#32),
    StableHlo.nullary main_cst_2 (constant S_ .f32 0xFF800000#32) ]

theorem hostOps1_2_sub : (hostOps1_2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.nullary_bufs_sub ..⟩

abbrev hostOps1_3 : List (HloOp τ sig (Elt F)) :=
  [ StableHlo.TRef.unary (.of main_cst : StableHlo.TRef sig ⟨S_, .f32⟩) (.of main_call1_v0 : StableHlo.TRef sig ⟨S16x2048x2, .f32⟩) (broadcastInDim S16x2048x2 ![] bcast_S_S16x2048x2),
    StableHlo.TRef.unary (.of main_cst_2 : StableHlo.TRef sig ⟨S_, .f32⟩) (.of main_call1_v1 : StableHlo.TRef sig ⟨S16x2048x2, .f32⟩) (broadcastInDim S16x2048x2 ![] bcast_S_S16x2048x2),
    StableHlo.TRef.ternary (.of main_v19 : StableHlo.TRef sig ⟨S16x2048x2, .i1⟩) (.of main_call1_v0 : StableHlo.TRef sig ⟨S16x2048x2, .f32⟩) (.of main_call1_v1 : StableHlo.TRef sig ⟨S16x2048x2, .f32⟩) (.of main_v20 : StableHlo.TRef sig ⟨S16x2048x2, .f32⟩) select ]

theorem hostOps1_3_sub : (hostOps1_3 : List (HloOp τ sig (Elt F))).Forall fun op => op.bufs ⊆ StableHlo.tcRefs τ sig :=
  ⟨StableHlo.unary_bufs_sub .., StableHlo.unary_bufs_sub .., StableHlo.ternary_bufs_sub ..⟩

abbrev hostOps1_4 : List (HloOp τ sig (Elt F)) :=
  [ StableHlo.unary main_v20 main_v21 (id : (⟨S16x2048x2, .f32⟩ : BufTy).Contents (Elt F) → (⟨S16x2048x2, .f32⟩ : BufTy).Contents (Elt F)),
    StableHlo.nullary main_c_3 (constantI S_ 32 0#32) ]

theorem hostOps1_4_sub : (hostOps1_4 : List (HloOp τ sig (Elt F))).Forall fun op => op.bufs ⊆ StableHlo.tcRefs τ sig :=
  ⟨StableHlo.unary_bufs_sub .., StableHlo.nullary_bufs_sub ..⟩

abbrev hostOps1_5 : List (HloOp τ sig (Elt F)) :=
  [ StableHlo.TRef.unary (.of main_c_3 : StableHlo.TRef sig ⟨S_, .i32⟩) (.of main_call2_v0 : StableHlo.TRef sig ⟨S_, .f32⟩) (sitofp .f32),
    StableHlo.TRef.binary (.of main_v21 : StableHlo.TRef sig ⟨S16x2048x2, .f32⟩) (.of main_call2_v0 : StableHlo.TRef sig ⟨S_, .f32⟩) (.of main_v22 : StableHlo.TRef sig ⟨S16x2048x8, .f32⟩) (fun x v => pad S16x2048x8 ![0, 0, 0] ![0, 0, 6] ![0, 0, 0] x v pads_S16x2048x2_S16x2048x8_000_000_060 h_S_) ]

theorem hostOps1_5_sub : (hostOps1_5 : List (HloOp τ sig (Elt F))).Forall fun op => op.bufs ⊆ StableHlo.tcRefs τ sig :=
  ⟨StableHlo.unary_bufs_sub .., StableHlo.binary_bufs_sub ..⟩

abbrev hostOps1_6 : List (HloOp τ sig (Elt F)) :=
  [ StableHlo.nullary main_v23 (iotaInDim S16 32 0),
    StableHlo.unary main_v23 main_v24 (broadcastInDim S16x1x1 ![0] bcast_S16_S16x1x1_0 : (⟨S16, .i32⟩ : BufTy).Contents (Elt F) → (⟨S16x1x1, .i32⟩ : BufTy).Contents (Elt F)),
    StableHlo.nullary main_c_4 (constantI S_ 32 16#32),
    StableHlo.unary main_c_4 main_v25 (broadcastInDim S16x2048x2 ![] bcast_S_S16x2048x2 : (⟨S_, .i32⟩ : BufTy).Contents (Elt F) → (⟨S16x2048x2, .i32⟩ : BufTy).Contents (Elt F)),
    StableHlo.binary main_v9 main_v25 main_v26 (muli : (⟨S16x2048x2, .i32⟩ : BufTy).Contents (Elt F) → (⟨S16x2048x2, .i32⟩ : BufTy).Contents (Elt F) → (⟨S16x2048x2, .i32⟩ : BufTy).Contents (Elt F)),
    StableHlo.unary main_v24 main_v27 (broadcastInDim S16x2048x2 ![0, 1, 2] bcast_S16x1x1_S16x2048x2_0_1_2 : (⟨S16x1x1, .i32⟩ : BufTy).Contents (Elt F) → (⟨S16x2048x2, .i32⟩ : BufTy).Contents (Elt F)),
    StableHlo.binary main_v26 main_v27 main_v28 (addi : (⟨S16x2048x2, .i32⟩ : BufTy).Contents (Elt F) → (⟨S16x2048x2, .i32⟩ : BufTy).Contents (Elt F) → (⟨S16x2048x2, .i32⟩ : BufTy).Contents (Elt F)),
    StableHlo.unary main_v28 main_v29 ((transpose S2x16x2048 [2, 0, 1] · transposes_S16x2048x2_S2x16x2048_2_0_1) : (⟨S16x2048x2, .i32⟩ : BufTy).Contents (Elt F) → (⟨S2x16x2048, .i32⟩ : BufTy).Contents (Elt F)),
    StableHlo.reshape main_v29 main_v30 (rfl : (.i32 : EltTy) = .i32) shapeCasts_S2x16x2048_S1x65536 ]

theorem hostOps1_6_sub : (hostOps1_6 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub ..⟩

abbrev hostOps2 : List (HloOp τ sig (Elt F)) :=
  [ StableHlo.unary main_arg2 main_v34 ((truncf .bf16 · bitsLt_bf16_f32) : (⟨S1024x1024, .f32⟩ : BufTy).Contents (Elt F) → (⟨S1024x1024, .bf16⟩ : BufTy).Contents (Elt F)) ]

theorem hostOps2_sub : (hostOps2 : List (HloOp τ sig (Elt F))).Forall fun op => op.bufs ⊆ StableHlo.tcRefs τ sig :=
  StableHlo.unary_bufs_sub ..

abbrev hostOps3 : List (HloOp τ sig (Elt F)) :=
  [ StableHlo.unary main_v35 main_v36 (broadcastInDim S1x2048x1024 ![1, 2] bcast_S2048x1024_S1x2048x1024_1_2 : (⟨S2048x1024, .f32⟩ : BufTy).Contents (Elt F) → (⟨S1x2048x1024, .f32⟩ : BufTy).Contents (Elt F)) ]

theorem hostOps3_sub : (hostOps3 : List (HloOp τ sig (Elt F))).Forall fun op => op.bufs ⊆ StableHlo.tcRefs τ sig :=
  StableHlo.unary_bufs_sub ..

abbrev hostOpsS : List (HloOp τ sig (Elt F)) :=
  [ StableHlo.reshape main_v31 main_v32 (rfl : (.f32 : EltTy) = .f32) shapeCasts_S65536x128_S2x16x2048x128 ]
theorem hostOpsS_sub : (hostOpsS : List (HloOp τ sig (Elt F))).Forall fun op => op.bufs ⊆ StableHlo.tcRefs τ sig :=
  StableHlo.reshape_bufs_sub ..

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v4, main_v5, main_v6, main_v7, main_v8, main_v9, main_v10, main_v11, main_c, main_v12, main_v13, main_v14, main_v15, main_c_0]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v16]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_c_1, main_v17, main_v18, main_v19, main_cst, main_cst_2]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps1_3_fresh : (hostOps1_3 : List (HloOp τ sig (Elt F))).Forall fun op => op.fresh = ∅ := by
  simp only [List.Forall]; repeat' constructor
abbrev hostOps1_3_W : List (Ref sig .tc) := [main_call1_v0, main_call1_v1, main_v20]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

theorem hostOps1_4_fresh : (hostOps1_4 : List (HloOp τ sig (Elt F))).Forall fun op => op.fresh = ∅ := by
  simp only [List.Forall]; repeat' constructor
abbrev hostOps1_4_W : List (Ref sig .tc) := [main_v21, main_c_3]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_args : ∀ a ∈ argRefs, a ∉ hostOps1_4_W := ListAll.forall_mem_of_all_decide (by decide +kernel)

theorem hostOps1_5_fresh : (hostOps1_5 : List (HloOp τ sig (Elt F))).Forall fun op => op.fresh = ∅ := by
  simp only [List.Forall]; repeat' constructor
abbrev hostOps1_5_W : List (Ref sig .tc) := [main_call2_v0, main_v22]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_5_args : ∀ a ∈ argRefs, a ∉ hostOps1_5_W := ListAll.forall_mem_of_all_decide (by decide +kernel)

theorem hostOps1_6_fresh : (hostOps1_6 : List (HloOp τ sig (Elt F))).Forall fun op => op.fresh = ∅ := by
  simp only [List.Forall]; repeat' constructor
abbrev hostOps1_6_W : List (Ref sig .tc) := [main_v23, main_v24, main_c_4, main_v25, main_v26, main_v27, main_v28, main_v29, main_v30]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_6_args : ∀ a ∈ argRefs, a ∉ hostOps1_6_W := ListAll.forall_mem_of_all_decide (by decide +kernel)

theorem hostOpsS_fresh : (hostOpsS : List (HloOp τ sig (Elt F))).Forall fun op => op.fresh = ∅ := by
  simp only [List.Forall]; repeat' constructor
abbrev hostOpsS_W : List (Ref sig .tc) := [main_v32]
theorem hostOpsS_writes : (hostOpsS : List (HloOp τ sig (Elt F))).Forall fun op => op.writes ⊆ (hostOpsS_W.map (Proc.devRef (τ := τ) .tc)).toFinset :=
  StableHlo.forall_writes_sub_of_map rfl
theorem hostOpsS_args : ∀ a ∈ argRefs, a ∉ hostOpsS_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v34]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v36]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-! ## The buffers at each boundary of the program -/

section Run

variable (m : (ℓ : Loc nD τ sig) → Buf (Elt F) ℓ)

abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl

abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)

abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ hostOps1_writes h
theorem W3_args (c : Dev nD) : ∀ a ∈ argRefs, W3 m c (Proc.devRef .tc a) = m ((c : Thread nD τ).loc a) :=
  fun a ha => (W3_of m c a (hostOps1_args a ha)).trans (W2_args m c a ha)

abbrev W4 : Dev nD → Valuation τ sig (Elt F) := fun c => StableHlo.after hostOps1_1 (W3 m c)
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem W4_args (c : Dev nD) : ∀ a ∈ argRefs, W4 m c (Proc.devRef .tc a) = m ((c : Thread nD τ).loc a) :=
  fun a ha => (W4_of m c a (hostOps1_1_args a ha)).trans (W3_args m c a ha)

abbrev W5 : Dev nD → Valuation τ sig (Elt F) := fun c => StableHlo.after hostOps1_2 (W4 m c)
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
theorem W5_args (c : Dev nD) : ∀ a ∈ argRefs, W5 m c (Proc.devRef .tc a) = m ((c : Thread nD τ).loc a) :=
  fun a ha => (W5_of m c a (hostOps1_2_args a ha)).trans (W4_args m c a ha)

abbrev W6 : Dev nD → Valuation τ sig (Elt F) := fun c => StableHlo.after hostOps1_3 (W5 m c)
theorem W6_of (c : Dev nD) (r : Ref sig .tc) (h : r ∉ hostOps1_3_W) : W6 m c (Proc.devRef .tc r) = W5 m c (Proc.devRef .tc r) :=
  StableHlo.after_of_writes_sub hostOps1_3 _ hostOps1_3_writes h
theorem W6_args (c : Dev nD) : ∀ a ∈ argRefs, W6 m c (Proc.devRef .tc a) = m ((c : Thread nD τ).loc a) :=
  fun a ha => (W6_of m c a (hostOps1_3_args a ha)).trans (W5_args m c a ha)

abbrev W7 : Dev nD → Valuation τ sig (Elt F) := fun c => StableHlo.after hostOps1_4 (W6 m c)
theorem W7_of (c : Dev nD) (r : Ref sig .tc) (h : r ∉ hostOps1_4_W) : W7 m c (Proc.devRef .tc r) = W6 m c (Proc.devRef .tc r) :=
  StableHlo.after_of_writes_sub hostOps1_4 _ hostOps1_4_writes h
theorem W7_args (c : Dev nD) : ∀ a ∈ argRefs, W7 m c (Proc.devRef .tc a) = m ((c : Thread nD τ).loc a) :=
  fun a ha => (W7_of m c a (hostOps1_4_args a ha)).trans (W6_args m c a ha)

abbrev W8 : Dev nD → Valuation τ sig (Elt F) := fun c => StableHlo.after hostOps1_5 (W7 m c)
theorem W8_of (c : Dev nD) (r : Ref sig .tc) (h : r ∉ hostOps1_5_W) : W8 m c (Proc.devRef .tc r) = W7 m c (Proc.devRef .tc r) :=
  StableHlo.after_of_writes_sub hostOps1_5 _ hostOps1_5_writes h
theorem W8_args (c : Dev nD) : ∀ a ∈ argRefs, W8 m c (Proc.devRef .tc a) = m ((c : Thread nD τ).loc a) :=
  fun a ha => (W8_of m c a (hostOps1_5_args a ha)).trans (W7_args m c a ha)

abbrev W9 : Dev nD → Valuation τ sig (Elt F) := fun c => StableHlo.after hostOps1_6 (W8 m c)
theorem W9_of (c : Dev nD) (r : Ref sig .tc) (h : r ∉ hostOps1_6_W) : W9 m c (Proc.devRef .tc r) = W8 m c (Proc.devRef .tc r) :=
  StableHlo.after_of_writes_sub hostOps1_6 _ hostOps1_6_writes h
theorem W9_args (c : Dev nD) : ∀ a ∈ argRefs, W9 m c (Proc.devRef .tc a) = m ((c : Thread nD τ).loc a) :=
  fun a ha => (W9_of m c a (hostOps1_6_args a ha)).trans (W8_args m c a ha)

/-- What the gather takes: the key and value rows, the list, the result's buffer; and the buffers after it. -/
abbrev Tm (d : Dev nD) : S32768x128.Idx → Elt F .f32 := W9 m d (Proc.devRef .tc main_v3_1)
abbrev Im (d : Dev nD) : S1x65536.Idx → Elt F .i32 := W9 m d (Proc.devRef .tc main_v30)
abbrev Om (d : Dev nD) : Buf (Elt F) (oLoc d) := W9 m d (Proc.devRef .tc main_v31)
def W10 (c : Dev nD) : Valuation τ sig (Elt F) := Function.update (W9 m c) (Proc.devRef .tc main_v31) (gath (Tm m c) (Im m c))
theorem W10_main_v31 (c : Dev nD) : W10 m c (Proc.devRef .tc main_v31) = gath (Tm m c) (Im m c) := by
  unfold W10; exact Function.update_self _ _ _
theorem W10_of' (c : Dev nD) (b : DevRef τ sig) (h : b ≠ Proc.devRef .tc main_v31) : W10 m c b = W9 m c b := by
  unfold W10; exact Function.update_of_ne h _ _
theorem W10_of (c : Dev nD) (r : Ref sig .tc) (h : r ∉ [main_v31]) : W10 m c (Proc.devRef .tc r) = W9 m c (Proc.devRef .tc r) :=
  W10_of' m c _ fun e => h (List.mem_singleton.mpr (Proc.devRef_injective _ e))
theorem gather_args : ∀ a ∈ argRefs, a ∉ [main_v31] := ListAll.forall_mem_of_all_decide (by decide +kernel)
theorem W10_args (c : Dev nD) : ∀ a ∈ argRefs, W10 m c (Proc.devRef .tc a) = m ((c : Thread nD τ).loc a) :=
  fun a ha => (W10_of m c a (gather_args a ha)).trans (W9_args m c a ha)

abbrev W11 : Dev nD → Valuation τ sig (Elt F) := fun c => StableHlo.after hostOpsS (W10 m c)
theorem W11_of (c : Dev nD) (r : Ref sig .tc) (h : r ∉ hostOpsS_W) : W11 m c (Proc.devRef .tc r) = W10 m c (Proc.devRef .tc r) :=
  StableHlo.after_of_writes_sub hostOpsS _ hostOpsS_writes h
theorem W11_args (c : Dev nD) : ∀ a ∈ argRefs, W11 m c (Proc.devRef .tc a) = m ((c : Thread nD τ).loc a) :=
  fun a ha => (W11_of m c a (hostOpsS_args a ha)).trans (W10_args m c a ha)

abbrev V11 : (c : Dev nD) → (b : Ref sig .tc) → Buf (Elt F) ((c : Thread nD τ).loc b) := fun c b => W11 m c b
def W12 (c : Dev nD) : Valuation τ sig (Elt F) :=
  Pipeline.withArrays spec2 c (W11 m c) fun w => (dat2 (V11 m) c).arrAt w cfg2.N
theorem W12_arr (c : Dev nD) (w : Fin cfg2.W) :
    W12 m c (Proc.devRef .tc (Pipeline.arrRef spec2 w)) = (dat2 (V11 m) c).arrAt w cfg2.N := by
  unfold W12; exact (dat2 (V11 m) c).withArrays_arrAt launch₀2.sharedIn _ (A_eq2 (V11 m) c) w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
theorem W12_of (c : Dev nD) (r : Ref sig .tc) (h : ∀ w : Fin cfg2.W, Pipeline.arrRef spec2 w = r → (cfg2.win w).isOut = false) :
    W12 m c (Proc.devRef .tc r) = W11 m c (Proc.devRef .tc r) := by
  by_cases hw : ∃ w : Fin cfg2.W, Pipeline.arrRef spec2 w = r
  · obtain ⟨w, rfl⟩ := hw
    exact (W12_arr m c w).trans (((dat2 (V11 m) c).arrAt_in w (h w rfl) _).trans (A_eq2 (V11 m) c w))
  · exact W12_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W12_args (c : Dev nD) : ∀ a ∈ argRefs, W12 m c (Proc.devRef .tc a) = m ((c : Thread nD τ).loc a) :=
  fun a ha => (W12_of m c a (argsIn2 a ha)).trans (W11_args m c a ha)
abbrev V12 : (c : Dev nD) → (b : Ref sig .tc) → Buf (Elt F) ((c : Thread nD τ).loc b) := fun c b => W12 m c b
theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b fun w e => hb (Finset.mem_image.mpr ⟨w, Finset.mem_univ _, e⟩)

abbrev W13 : Dev nD → Valuation τ sig (Elt F) := fun c => StableHlo.after hostOps2 (W12 m c)
theorem W13_of (c : Dev nD) (r : Ref sig .tc) (h : r ∉ hostOps2_W) : W13 m c (Proc.devRef .tc r) = W12 m c (Proc.devRef .tc r) :=
  StableHlo.after_of_writes_sub hostOps2 _ hostOps2_writes h
theorem W13_args (c : Dev nD) : ∀ a ∈ argRefs, W13 m c (Proc.devRef .tc a) = m ((c : Thread nD τ).loc a) :=
  fun a ha => (W13_of m c a (hostOps2_args a ha)).trans (W12_args m c a ha)

abbrev V13 : (c : Dev nD) → (b : Ref sig .tc) → Buf (Elt F) ((c : Thread nD τ).loc b) := fun c b => W13 m c b
def W14 (c : Dev nD) : Valuation τ sig (Elt F) :=
  Pipeline.withArrays spec3 c (W13 m c) fun w => (dat3 (V13 m) c).arrAt w cfg3.N
theorem W14_arr (c : Dev nD) (w : Fin cfg3.W) :
    W14 m c (Proc.devRef .tc (Pipeline.arrRef spec3 w)) = (dat3 (V13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
theorem W14_of (c : Dev nD) (r : Ref sig .tc) (h : ∀ w : Fin cfg3.W, Pipeline.arrRef spec3 w = r → (cfg3.win w).isOut = false) :
    W14 m c (Proc.devRef .tc r) = W13 m c (Proc.devRef .tc r) := by
  by_cases hw : ∃ w : Fin cfg3.W, Pipeline.arrRef spec3 w = r
  · obtain ⟨w, rfl⟩ := hw
    exact (W14_arr m c w).trans (((dat3 (V13 m) c).arrAt_in w (h w rfl) _).trans (A_eq3 (V13 m) c w))
  · exact W14_of_ne m c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W14_args (c : Dev nD) : ∀ a ∈ argRefs, W14 m c (Proc.devRef .tc a) = m ((c : Thread nD τ).loc a) :=
  fun a ha => (W14_of m c a (argsIn3 a ha)).trans (W13_args m c a ha)
abbrev V14 : (c : Dev nD) → (b : Ref sig .tc) → Buf (Elt F) ((c : Thread nD τ).loc b) := fun c b => W14 m c b
theorem hF3 (c : Dev nD) (w : Fin cfg3.W) : (dat3 (V13 m) c).arrAt w cfg3.N = V14 m c (Pipeline.arrRef spec3 w) :=
  (W14_arr m c w).symm
theorem hrest3 (c : Dev nD) : ∀ b, b ∉ Finset.univ.image (Pipeline.arrRef spec3) → V14 m c b = V13 m c b :=
  fun b hb => W14_of_ne m c b fun w e => hb (Finset.mem_image.mpr ⟨w, Finset.mem_univ _, e⟩)

abbrev W15 : Dev nD → Valuation τ sig (Elt F) := fun c => StableHlo.after hostOps3 (W14 m c)
theorem W15_of (c : Dev nD) (r : Ref sig .tc) (h : r ∉ hostOps3_W) : W15 m c (Proc.devRef .tc r) = W14 m c (Proc.devRef .tc r) :=
  StableHlo.after_of_writes_sub hostOps3 _ hostOps3_writes h
theorem W15_args (c : Dev nD) : ∀ a ∈ argRefs, W15 m c (Proc.devRef .tc a) = m ((c : Thread nD τ).loc a) :=
  fun a ha => (W15_of m c a (hostOps3_args a ha)).trans (W14_args m c a ha)

end Run

end Cert.Proof.TileI

end
-- ==== Proof.LaunchI.lean ====
/- The launch: what the gather takes and brings back, the three regions around it, and the whole program's run. -/
module

public import proofs.«01_k».proof.Proof.HostI
public import Idealize.ShloMosaic.Lib.Pipeline.RegionsLoop
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore

@[expose] public section

set_option maxRecDepth 16384

noncomputable section

namespace Cert.Proof.TileI

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

omit [FloatOps F] [Named F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The grid's point of SparseCore `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- Tile `(c, s)`'s share of the table. -/
def shr (c : Fin 2) (s : Fin 16) : PosShare TreeShare :=
  pieceOf (pieceOf fullShare 2 (by decide) c) 16 (by decide) s

/-! ## The whole arrays are the tiles' blocks -/

/-- The blocks' numbering: tile `(c, s)` has the sixteen from `256 c + 16 s` on. -/
def blkEquiv : Fin 2 × (Fin 16 × Fin 16) ≃ Fin 512 := (Equiv.prodCongr (Equiv.refl _) finProdFinEquiv).trans finProdFinEquiv

theorem blkEquiv_eq (c : Fin 2) (s b : Fin 16) : blkEquiv (c, (s, b)) = bk (coordsV c s) b.val := by
  apply Fin.ext
  rw [bk_val _ b.isLt]
  show b.val + 16 * s.val + 256 * c.val = 256 * c.val + 16 * s.val + b.val
  omega

theorem bigSep_blocks (Φ : Fin 512 → sProp 𝕄) :
    bigSep Finset.univ Φ = bigSep Finset.univ fun c : Fin 2 => bigSep Finset.univ fun s : Fin 16 => bigSep Finset.univ fun b : Fin 16 => Φ (bk (coordsV c s) b.val) := by
  rw [bigSep_univ_equiv blkEquiv Φ, bigSep_univ_prod]
  refine bigSep_congr fun c _ => ?_
  rw [bigSep_univ_prod]
  refine bigSep_congr fun s _ => bigSep_congr fun b _ => ?_
  rw [blkEquiv_eq]

theorem iBlk_mem (B : Fin 512) (y : S1x65536.Idx) : y ∈ iBlkSet B ↔ (y 1).val / 128 = B.val := by
  have e : iBlkSet B = (Rect.unit (s := S1x65536) ![0, 128 * B.val] S1x128.size (iBlk_inb B)).set := by
    show ((iV).view.slice _).set = _
    rw [View.set_slice]
    exact Finset.map_refl
  rw [e, Rect.mem_set_unit]
  have h0 : (y 0).val < 1 := (y 0).isLt
  have h1 : (y 1).val < 65536 := (y 1).isLt
  constructor
  · intro h
    have := h 1
    change 128 * B.val ≤ (y 1).val ∧ (y 1).val < 128 * B.val + 128 at this
    omega
  · intro h a
    match a with
    | 0 => show 0 ≤ (y 0).val ∧ (y 0).val < 0 + 1; omega
    | 1 => show 128 * B.val ≤ (y 1).val ∧ (y 1).val < 128 * B.val + 128; omega

theorem oBlk_mem (B : Fin 512) (y : S65536x128.Idx) : y ∈ oBlkSet B ↔ (y 0).val / 128 = B.val := by
  have e : oBlkSet B = (Rect.unit (s := S65536x128) ![128 * B.val, 0] S128x128.size (oBlk_inb B)).set := by
    show ((oV).view.slice _).set = _
    rw [View.set_slice]
    exact Finset.map_refl
  rw [e, Rect.mem_set_unit]
  have h0 : (y 0).val < 65536 := (y 0).isLt
  have h1 : (y 1).val < 128 := (y 1).isLt
  constructor
  · intro h
    have := h 0
    change 128 * B.val ≤ (y 0).val ∧ (y 0).val < 128 * B.val + 128 at this
    omega
  · intro h a
    match a with
    | 0 => show 128 * B.val ≤ (y 0).val ∧ (y 0).val < 128 * B.val + 128; omega
    | 1 => show 0 ≤ (y 1).val ∧ (y 1).val < 0 + 128; omega

theorem iBlks_disjoint : ∀ i ∈ (Finset.univ : Finset (Fin 512)), ∀ j ∈ (Finset.univ : Finset (Fin 512)), i ≠ j → Disjoint (iBlkSet i) (iBlkSet j) :=
  fun i _ j _ h => Finset.disjoint_left.mpr fun y hi hj => h (Fin.ext (((iBlk_mem i y).mp hi).symm.trans ((iBlk_mem j y).mp hj)))
theorem oBlks_disjoint : ∀ i ∈ (Finset.univ : Finset (Fin 512)), ∀ j ∈ (Finset.univ : Finset (Fin 512)), i ≠ j → Disjoint (oBlkSet i) (oBlkSet j) :=
  fun i _ j _ h => Finset.disjoint_left.mpr fun y hi hj => h (Fin.ext (((oBlk_mem i y).mp hi).symm.trans ((oBlk_mem j y).mp hj)))
theorem iBlks_cover : (Finset.univ : Finset (Fin 512)).biUnion iBlkSet = Finset.univ := by
  ext y
  simp only [Finset.mem_biUnion, Finset.mem_univ, true_and, iff_true]
  have h1 : (y 1).val < 65536 := (y 1).isLt
  exact ⟨⟨(y 1).val / 128, by omega⟩, (iBlk_mem _ y).mpr rfl⟩
theorem oBlks_cover : (Finset.univ : Finset (Fin 512)).biUnion oBlkSet = Finset.univ := by
  ext y
  simp only [Finset.mem_biUnion, Finset.mem_univ, true_and, iff_true]
  have h0 : (y 0).val < 65536 := (y 0).isLt
  exact ⟨⟨(y 0).val / 128, by omega⟩, (oBlk_mem _ y).mpr rfl⟩

theorem iPts_split (d : Dev nD) (ix : S1x65536.Idx → Elt F .i32) :
    (iLoc d ↦{fullShare} (show Buf (Elt F) (iLoc d) from ix) : sProp 𝕄)
      = bigSep Finset.univ fun c : Fin 2 => bigSep Finset.univ fun s : Fin 16 => bigSep Finset.univ fun b : Fin 16 => iBlkPts d ix (bk (coordsV c s) b.val) := by
  rw [← bigSep_blocks (F := F) fun B => iBlkPts d ix B, ← pointsTo_biUnion Finset.univ (ℓ := iLoc d) iBlkSet iBlks_disjoint, iBlks_cover]; try rfl
theorem oPts_split (d : Dev nD) (f : Buf (Elt F) (oLoc d)) :
    (oLoc d ↦{fullShare} f : sProp 𝕄)
      = bigSep Finset.univ fun c : Fin 2 => bigSep Finset.univ fun s : Fin 16 => bigSep Finset.univ fun b : Fin 16 => oBlkPts d (bk (coordsV c s) b.val) f := by
  rw [← bigSep_blocks (F := F) fun B => oBlkPts d B f, ← pointsTo_biUnion Finset.univ (ℓ := oLoc d) oBlkSet oBlks_disjoint, oBlks_cover]; try rfl
theorem tPts_split (d : Dev nD) (tb : S32768x128.Idx → Elt F .f32) :
    (tPts d tb fullShare : sProp 𝕄) = bigSep Finset.univ fun c : Fin 2 => bigSep Finset.univ fun s : Fin 16 => tPts d tb (shr c s) := by
  refine (pointsTo_piecesOf Finset.univ _ (o := 2) (by decide) fullShare).trans (bigSep_congr fun c _ => ?_)
  exact pointsTo_piecesOf Finset.univ _ (o := 16) (by decide) _

/-! ## What the handshakes carry -/

section Launch

variable (Tb : Dev nD → S32768x128.Idx → Elt F .f32) (Ix : Dev nD → S1x65536.Idx → Elt F .i32) (Fo : (d : Dev nD) → Buf (Elt F) (oLoc d))

abbrev goP (d : Dev nD) (c : Fin 2) (s : Fin 16) : sProp 𝕄 := goT d (coordsV c s) (Tb d) (Ix d) (Fo d) (shr c s)
abbrev tdP (d : Dev nD) (c : Fin 2) (s : Fin 16) : sProp 𝕄 := tdT d (coordsV c s) (Tb d) (Ix d) (shr c s)

/-- The call takes, SparseCore by SparseCore, its tiles' blocks of the list and of the result and their shares of the
    table, and brings them back, the result's at the gathered rows. -/
def P : (K (F := F)).Pay (nD := nD) (Val := Elt F) (Name := ℕ) (U := UU) where
  st := fun q d c => match q with | 0 => bigSep Finset.univ fun s : Fin 16 => goP Tb Ix Fo d c s
  dn := fun q d c => match q with | 0 => bigSep Finset.univ fun s : Fin 16 => tdP Tb Ix d c s
  go := fun q d c s => match q with | 0 => goP Tb Ix Fo d c s
  td := fun q d c s => match q with | 0 => tdP Tb Ix d c s
  x := fun _ _ => iprop(emp)

instance goT_storable (d : Dev nD) (L : grid1.Coords) (tb : S32768x128.Idx → Elt F .f32) (ix : S1x65536.Idx → Elt F .i32) (f₀ : Buf (Elt F) (oLoc d))
    (q : PosShare TreeShare) : BI.Storable (upEmb : UEmb _ 𝕄) (goT d L tb ix f₀ q) := by unfold goT; infer_instance
instance tdT_storable (d : Dev nD) (L : grid1.Coords) (tb : S32768x128.Idx → Elt F .f32) (ix : S1x65536.Idx → Elt F .i32)
    (q : PosShare TreeShare) : BI.Storable (upEmb : UEmb _ 𝕄) (tdT d L tb ix q) := by unfold tdT; infer_instance

instance P_storable : (P Tb Ix Fo).IsStorable where
  st q d c := match q with
    | 0 => @Storable.bigSep _ _ _ _ _ _ _ Finset.univ (fun s : Fin 16 => goP Tb Ix Fo d c s) fun s => goT_storable d (coordsV c s) (Tb d) (Ix d) (Fo d) (shr c s)
  dn q d c := match q with
    | 0 => @Storable.bigSep _ _ _ _ _ _ _ Finset.univ (fun s : Fin 16 => tdP Tb Ix d c s) fun s => tdT_storable d (coordsV c s) (Tb d) (Ix d) (shr c s)
  go q d c s := match q with | 0 => (inferInstance : BI.Storable (upEmb : UEmb _ 𝕄) (goP Tb Ix Fo d c s))
  td q d c s := match q with | 0 => (inferInstance : BI.Storable (upEmb : UEmb _ 𝕄) (tdP Tb Ix d c s))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sV (Memref.isWhole_whole _) cc1_scoped1 rV (Memref.isWhole_whole _) cc1_scoped3 cc1_scoped4) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hix : ∀ d, PreIx (Ix d)) : (K (F := F)).TileObl (D (F := F)) 𝒱 (P Tb Ix Fo) v₀ 0 := by
  intro d c i O W hO _ _
  simp only [show (P Tb Ix Fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (Tb d) (Ix d) (Fo d) hF (hix d) (shr c i) O W hO).trans (wp_mono frame _ _ fun _ => obl_post)

theorem vecSplit : (K (F := F)).VecSplit' (P Tb Ix Fo) 0 := by
  intro d c
  show (bigSep Finset.univ fun s : Fin 16 => goP Tb Ix Fo d c s) ⊢ |={Set.univ}=> iprop(
      (bigSep Finset.univ fun s : Fin 16 => goP Tb Ix Fo d c s)
      ∗ ((bigSep Finset.univ fun s : Fin 16 => tdP Tb Ix d c s) -∗ bigSep Finset.univ fun s : Fin 16 => tdP Tb Ix d c s))
  iintro H; imodintro
  isplitl [H]; · iexact H
  iintro H; iexact H

/-- The call's operands whole are what it takes; -/
theorem st0_eq (d : Dev nD) : (bigSep Finset.univ fun c : Fin ((K (F := F)).nCore 0) => (P Tb Ix Fo).st 0 d c)
    = (iprop((iLoc d ↦{fullShare} (show Buf (Elt F) (iLoc d) from Ix d)) ∗ tPts d (Tb d) fullShare ∗ oLoc d ↦{fullShare} Fo d) : sProp 𝕄) := by
  rw [iPts_split, tPts_split, oPts_split]
  show (bigSep Finset.univ fun c : Fin 2 => bigSep Finset.univ fun s : Fin 16 => goP Tb Ix Fo d c s) = _
  simp only [goP, goT, bigSep_sep']
/-- and what it brings back is the operands whole, the result at the gathered rows. -/
theorem dn0_eq (d : Dev nD) : (bigSep Finset.univ fun c : Fin ((K (F := F)).nCore 0) => (P Tb Ix Fo).dn 0 d c)
    = (iprop((iLoc d ↦{fullShare} (show Buf (Elt F) (iLoc d) from Ix d)) ∗ tPts d (Tb d) fullShare ∗ oLoc d ↦{fullShare} (gath (Tb d) (Ix d))) : sProp 𝕄) := by
  rw [iPts_split, tPts_split, oPts_split]
  show (bigSep Finset.univ fun c : Fin 2 => bigSep Finset.univ fun s : Fin 16 => tdP Tb Ix d c s) = _
  simp only [tdP, tdT, bigSep_sep']

end Launch

/-! ## The TensorCore regions -/

section Run

variable (m : (ℓ : Loc nD τ sig) → Buf (Elt F) ℓ) (ρ : Dev nD → PrngReg)

abbrev EP : Emb UP (MT nD τ sig (HIx 1) (Elt F) ℕ UU ℕ) := (Emb.inl : Emb UP (UP × Counters)).trans embR
abbrev adm : (p : Fin 3) → (pcfgs (F := F) p).Adm := fun p => (cfgs p).toPCfg_adm
def pdats : (p : Fin 3) → (c : Dev nD) → Pipeline.Dat τ (Elt F) (HIx 1) ℕ UU ℕ (Pipeline.pin (pcfgs (F := F)) adm p) c
  | ⟨0, _⟩ => fun c => dat0 (V1 m) c
  | ⟨1, _⟩ => fun c => dat2 (V11 m) c
  | ⟨2, _⟩ => fun c => dat3 (V13 m) c

/-- What rides beside the buffers: the generator register, and what the core owes for the calls from `n` on. -/
abbrev R (n : ℕ) (c : Dev nD) : sProp 𝕄 := iprop((∃ r, prngReg c r)
  ∗ ∃ W, ⌜(K (F := F)).WBelow (SparseCore.T c) W (8 * bnd n)⌝ ∗ owes (SparseCore.T c) ((K (F := F)).Otc c n) W)

omit [FloatOps F] [Named F] in
theorem Otc_none (c : Dev nD) (n : ℕ) (g : GSem nD τ sig) : (K (F := F)).Otc c n g (none : HIx 1) = 0 := by
  by_contra h
  have := (K (F := F)).lev_of_Otc_pos (Nat.pos_of_ne_zero h)
  rw [SparseCore.Cfg.lev_none] at this
  omega

abbrev hseg (n : ℕ) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R n)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

omit [FloatOps F] [Named F] in
/-- The waits a region leaves recorded are those it was entered with and its own, which sit at level 0. -/
theorem wbelow_of (n : ℕ) (c : Dev nD) {W : Waits sig (HIx 1)} {B C : Set (SemLoc sig × HIx 1)}
    (hB : ∀ p ∈ B, (K (F := F)).lev ((c : Thread nD τ), p.1) p.2 ≤ 8 * bnd n) (hC : ∀ p ∈ C, p.2 = none) (hW : (↑W : Set (SemLoc sig × HIx 1)) ⊆ B ∪ C) :
    (K (F := F)).WBelow (SparseCore.T c) W (8 * bnd n) := fun p hp => by
  rcases hW hp with h | h
  · exact hB p h
  · rw [hC p h]; exact Nat.zero_le _

set_option backward.isDefEq.respectTransparency.types false in
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) c).loose
  hwaits c := Pipeline.cellsWaits_intro _ _ _ 0 c fun w s t => (K (F := F)).mayWait_none _ (Otc_none c 0)
  pre c := iprop(StableHlo.held (c : Thread nD τ) (Pipeline.ucRefs τ sig) (W1 m c) ∗ R 0 c)
  post c := iprop(StableHlo.held (c : Thread nD τ) (Pipeline.ucRefs τ sig) (W2 m c) ∗ R 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = ΦR spec0 c from rfl]; unfold ΦR
    iintro ⟨Hp, -, Hr⟩
    isplitl [Hr]; · iexact Hr
    iexact Hp
  hout c := by
    rw [Pipeline.ownSems0_none, show (pdats m 0 c).Φ (Fin.last _) = ΦR spec0 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact wbelow_of (F := F) 0 c (C := Pipeline.Cfg.waitPairs _ none) (fun _ h => h) (fun p hp => by obtain ⟨w, s, h⟩ := hp; rw [h]) hW
    iexact HO

set_option backward.isDefEq.respectTransparency.types false in
def reg2 : Pipeline.RegionSeg (pcfgs (F := F)) adm (pdats m) none defs₀ 𝒱₀ (K (F := F)).L (K (F := F)).lev 1 where
  win := launch₀2.win
  block_pos := launch₀2.block_pos
  stage_whole := launch₀2.stage_whole
  K := PEmpty
  osem k := k.elim
  ho := Pipeline.OwnSemFacts.none _
  hbody c := (body_obligation2 (V11 m) c).loose
  hwaits c := Pipeline.cellsWaits_intro _ _ _ 1 c fun w s t => (K (F := F)).mayWait_none _ (Otc_none c 1)
  pre c := iprop(StableHlo.held (c : Thread nD τ) (Pipeline.ucRefs τ sig) (W11 m c) ∗ R 1 c)
  post c := iprop(StableHlo.held (c : Thread nD τ) (Pipeline.ucRefs τ sig) (W12 m c) ∗ R 1 c)
  X c := iprop(∃ r, prngReg c r)
  Y c := iprop(∃ r, prngReg c r)
  Z c := Pipeline.unscopedRest (Ix := HIx 1) (Name := ℕ) (U := UU) (Lvl := ℕ) spec2 c (V11 m c)
  hentry c := by
    rw [Pipeline.ownSems0_none]
    have hsplit := Pipeline.arrays_of_unscopedBufs_shared (p := 1) (pcfgs (F := F)) adm (pdats m) launch₀2.win launch₀2.sharedIn launch₀2.arr_whole c
      (fun _ _ => rfl) (V11 m c) (A_eq2 (V11 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 1 c).Φ 0 = ΦR spec2 c from rfl]; unfold ΦR
    iintro ⟨Hp, -, Hr⟩
    isplitl [Hr]; · iexact Hr
    iexact Hp
  hout c := by
    rw [Pipeline.ownSems0_none, show (pdats m 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays_shared (p := 1) (pcfgs (F := F)) adm (Ix := HIx 1) (Name := ℕ) (U := UU) (Lvl := ℕ)
      launch₀2.win launch₀2.sharedIn launch₀2.arr_whole c (pdats m) (fun _ _ => rfl)
      (V11 m c) (V12 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact wbelow_of (F := F) 1 c (C := Pipeline.Cfg.waitPairs _ none) (fun _ h => h) (fun p hp => by obtain ⟨w, s, h⟩ := hp; rw [h]) hW
    iexact HO

set_option backward.isDefEq.respectTransparency.types false in
def reg3 : Pipeline.RegionSeg (pcfgs (F := F)) adm (pdats m) none defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (V13 m) c).loose
  hwaits c := Pipeline.cellsWaits_intro _ _ _ 2 c fun w s t => (K (F := F)).mayWait_none _ (Otc_none c 1)
  pre c := iprop(StableHlo.held (c : Thread nD τ) (Pipeline.ucRefs τ sig) (W13 m c) ∗ R 1 c)
  post c := iprop(StableHlo.held (c : Thread nD τ) (Pipeline.ucRefs τ sig) (W14 m c) ∗ R 1 c)
  X c := iprop(∃ r, prngReg c r)
  Y c := iprop(∃ r, prngReg c r)
  Z c := Pipeline.unscopedRest (Ix := HIx 1) (Name := ℕ) (U := UU) (Lvl := ℕ) spec3 c (V13 m c)
  hentry c := by
    rw [Pipeline.ownSems0_none]
    have hsplit := Pipeline.arrays_of_unscopedBufs (p := 2) (pcfgs (F := F)) adm (pdats m) launch3.win launch3.arr_whole c
      ((pdats m 2 c).share_full fun _ => rfl) (V13 m c) (A_eq3 (V13 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 2 c).Φ 0 = ΦR spec3 c from rfl]; unfold ΦR
    iintro ⟨Hp, -, Hr⟩
    isplitl [Hr]; · iexact Hr
    iexact Hp
  hout c := by
    rw [Pipeline.ownSems0_none, show (pdats m 2 c).Φ (Fin.last _) = ΦR spec3 c from rfl]; unfold ΦR
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats m) ((pdats m 2 c).share_full fun _ => rfl)
      (V13 m c) (V14 m c) ((pdats m 2 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact wbelow_of (F := F) 1 c (C := Pipeline.Cfg.waitPairs _ none) (fun _ h => h) (fun p hp => by obtain ⟨w, s, h⟩ := hp; rw [h]) hW
    iexact HO

/-! ## The program -/

abbrev segsA : List (Pipeline.Seg (pcfgs (F := F)) adm (pdats m) none defs₀ 𝒱₀ (K (F := F)).L (K (F := F)).lev) :=
  [ .host (hseg 0 hostOps0 hostOps0_sub hostOps0_fresh (W0 m)),
    .region (reg0 m),
    .host (hseg 0 hostOps1 hostOps1_sub hostOps1_fresh (W2 m)),
    .host (hseg 0 hostOps1_1 hostOps1_1_sub hostOps1_1_fresh (W3 m)),
    .host (hseg 0 hostOps1_2 hostOps1_2_sub hostOps1_2_fresh (W4 m)),
    .host (hseg 0 hostOps1_3 hostOps1_3_sub hostOps1_3_fresh (W5 m)),
    .host (hseg 0 hostOps1_4 hostOps1_4_sub hostOps1_4_fresh (W6 m)),
    .host (hseg 0 hostOps1_5 hostOps1_5_sub hostOps1_5_fresh (W7 m)),
    .host (hseg 0 hostOps1_6 hostOps1_6_sub hostOps1_6_fresh (W8 m)) ]
abbrev segsB : List (Pipeline.Seg (pcfgs (F := F)) adm (pdats m) none defs₀ 𝒱₀ (K (F := F)).L (K (F := F)).lev) :=
  [ .host (hseg 1 hostOpsS hostOpsS_sub hostOpsS_fresh (W10 m)),
    .region (reg2 m),
    .host (hseg 1 hostOps2 hostOps2_sub hostOps2_fresh (W12 m)),
    .region (reg3 m),
    .host (hseg 1 hostOps3 hostOps3_sub hostOps3_fresh (W14 m)) ]

theorem main_run (d : Dev nD) : main (F := F) d
    = (SparseCore.liftProg (Pipeline.Seg.run (segsA m)) >>= fun _ => (K (F := F)).run d 0 >>= fun _ => SparseCore.liftProg (Pipeline.Seg.run (segsB m))) := by
  chain_rfl

abbrev Tₙ (n : ℕ) (W : Dev nD → Valuation τ sig (Elt F)) (c : Dev nD) : sProp 𝕄 :=
  iprop(StableHlo.held (c : Thread nD τ) (Pipeline.ucRefs τ sig) (W c) ∗ R n c)

abbrev Pm : (K (F := F)).Pay (nD := nD) (Val := Elt F) (Name := ℕ) (U := UU) := P (Tm m) (Im m) (Om m)

/-- The TensorCore's handshake state without what it owes. -/
abbrev tcRest (d : Dev nD) (n : ℕ) : sProp 𝕄 := iprop(
  atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

omit [FloatOps F] [Named F] in
theorem tcSt_eq (d : Dev nD) (n : ℕ) : ((K (F := F)).tcSt EH d n : sProp 𝕄)
    = iprop((∃ W, ⌜(K (F := F)).WBelow (SparseCore.T d) W (8 * bnd n)⌝ ∗ owes (SparseCore.T d) ((K (F := F)).Otc d n) W) ∗ tcRest d n) := rfl

/-- The buffers the gather takes, out of all of them. -/
abbrev restRefs : Finset (DevRef τ sig) := (((Pipeline.ucRefs τ sig).erase (Proc.devRef .tc main_v30)).erase (Proc.devRef .tc main_v3_1)).erase (Proc.devRef .tc main_v31)

omit [FloatOps F] [Named F] in
theorem held_split (d : Dev nD) (W : Valuation τ sig (Elt F)) :
    (StableHlo.held (d : Thread nD τ) (Pipeline.ucRefs τ sig) W : sProp 𝕄)
      = iprop((iLoc d ↦{fullShare} W (Proc.devRef .tc main_v30)) ∗ (tLoc d ↦{fullShare} W (Proc.devRef .tc main_v3_1)) ∗ (oLoc d ↦{fullShare} W (Proc.devRef .tc main_v31))
          ∗ StableHlo.held (d : Thread nD τ) restRefs W) := by
  unfold StableHlo.held
  have hi := mem_uc main_v30 (by decide)
  have ht : (Proc.devRef .tc main_v3_1 : DevRef τ sig) ∈ (Pipeline.ucRefs τ sig).erase (Proc.devRef .tc main_v30) :=
    Finset.mem_erase.mpr ⟨fun e => absurd (Proc.devRef_injective _ e) (by decide), mem_uc main_v3_1 (by decide)⟩
  have ho : (Proc.devRef .tc main_v31 : DevRef τ sig) ∈ ((Pipeline.ucRefs τ sig).erase (Proc.devRef .tc main_v30)).erase (Proc.devRef .tc main_v3_1) :=
    Finset.mem_erase.mpr ⟨fun e => absurd (Proc.devRef_injective _ e) (by decide), Finset.mem_erase.mpr
      ⟨fun e => absurd (Proc.devRef_injective _ e) (by decide), mem_uc main_v31 (by decide)⟩⟩
  rw [bigSep_erase hi, bigSep_erase ht, bigSep_erase ho]; rfl

theorem held_rest (d : Dev nD) : (StableHlo.held (d : Thread nD τ) restRefs (W10 m d) : sProp 𝕄) = StableHlo.held (d : Thread nD τ) restRefs (W9 m d) := by
  unfold StableHlo.held
  refine bigSep_congr fun b hb => ?_
  rw [W10_of' m d b (Finset.mem_erase.mp hb).1]

theorem hmain (κ : GSem nD τ sig → ℕ) (d : Dev nD) :
    iprop((K (F := F)).ctx EH (Pm m) κ ∗ (K (F := F)).tcSt EH d 0 ∗ (K (F := F)).tcRes m ρ d
        ∗ (Pipeline.ghostOn (pcfgs (F := F)) adm EP {0} d ∗ Pipeline.ghostOn (pcfgs (F := F)) adm EP {1, 2} d))
      ⊢ wp frame (wpE ((K (F := F)).defs (D (F := F))) 𝒱 (SparseCore.T d) none) Set.univ (main d)
          fun _ => iprop((K (F := F)).tcSt EH d 1 ∗ StableHlo.held (d : Thread nD τ) (Pipeline.ucRefs τ sig) (W15 m d) ∗ (K (F := F)).tcEnd d) := by
  rw [main_run m d, wp_bind, wp_bind]
  unfold SparseCore.Cfg.tcRes SparseCore.Cfg.tcEnd
  rw [show unscopedBufs d (fun b => m ((d : Thread nD τ).loc b)) = StableHlo.held (d : Thread nD τ) (Pipeline.ucRefs τ sig) (W0 m d)
        from Pipeline.unscopedBufs_held d (W0 m d)]
  rw [tcSt_eq, tcSt_eq]
  have hA := fun Q => Pipeline.wp_segs (pcfgs (F := F)) adm (pdats m) none cellOf_inj EP defs₀ 𝒱₀ (K (F := F)).L (K (F := F)).lev d
    (Q := Q) (segsA m) {0} (Tₙ 0 (W0 m)) (Tₙ 0 (W9 m))
    (by simp only [segsA, Pipeline.Seg.pipes_host, Pipeline.Seg.pipes_region, Pipeline.Seg.pipes_nil]; decide)
    (by simp only [segsA, Pipeline.Seg.pipes_host, Pipeline.Seg.pipes_region, Pipeline.Seg.pipes_nil]; decide)
    ⟨fun _ => .rfl, fun _ => .rfl, fun _ => .rfl, fun _ => .rfl, fun _ => .rfl, fun _ => .rfl, fun _ => .rfl, fun _ => .rfl, fun _ => .rfl, fun _ => .rfl⟩
  have hB := fun Q => Pipeline.wp_segs (pcfgs (F := F)) adm (pdats m) none cellOf_inj EP defs₀ 𝒱₀ (K (F := F)).L (K (F := F)).lev d
    (Q := Q) (segsB m) {1, 2} (Tₙ 1 (W10 m)) (Tₙ 1 (W15 m))
    (by simp only [segsB, Pipeline.Seg.pipes_host, Pipeline.Seg.pipes_region, Pipeline.Seg.pipes_nil]; decide)
    (by simp only [segsB, Pipeline.Seg.pipes_host, Pipeline.Seg.pipes_region, Pipeline.Seg.pipes_nil]; decide)
    ⟨fun _ => .rfl, fun _ => .rfl, fun _ => .rfl, fun _ => .rfl, fun _ => .rfl, fun _ => .rfl⟩
  iintro ⟨#Hctx, ⟨HO, Hst⟩, ⟨Hb, Hh, Hts, Hp⟩, HgA, HgB⟩
  ihave Hla := ((K (F := F)).ctx_levAts (EH := EH) (P := Pm m) κ) $$ Hctx
  icases Hla with #Hla
  iapply ((K (F := F)).wp_liftProg (D (F := F)) 𝒱 (SparseCore.T d) Set.univ none _ _)
  iapply (hA _)
  isplitr [Hb Hh HO Hp HgA]
  swap
  · isplitl [Hb]; · iexact Hb
    isplitr [HgA]
    · isplitl [Hh]; · iexact Hh
      isplitl [Hp]; · iexists _; iexact Hp
      iexact HO
    isplitr; · iexact Hla
    iexact HgA
  iintro ⟨Hb, Hh, Hp, HO⟩
  ihave Hh' := (Entails.of_eq (held_split d (W9 m d))) $$ Hh
  icases Hh' with ⟨Hi, Ht, Ho, Hr⟩
  iapply ((K (F := F)).wp_run (D (F := F)) 𝒱 (EH := EH) (P := Pm m) κ d 0) $$ [HO Hst Hi Ht Ho Hb Hts Hr Hp HgB]
  isplitr; · iexact Hctx
  isplitl [HO Hst]
  · rw [tcSt_eq]; isplitl [HO]; · iexact HO
    iexact Hst
  isplitl [Hi Ht Ho]
  · rw [st0_eq]
    isplitl [Hi]; · iexact Hi
    isplitl [Ht]; · iexact Ht
    iexact Ho
  rw [tcSt_eq]
  iintro ⟨⟨HO, Hst⟩, Hdn⟩
  ihave Hdn' := (Entails.of_eq (dn0_eq (Tm m) (Im m) (Om m) d)) $$ Hdn
  icases Hdn' with ⟨Hi, Ht, Ho⟩
  iapply ((K (F := F)).wp_liftProg (D (F := F)) 𝒱 (SparseCore.T d) Set.univ none _ _)
  iapply (hB _)
  isplitr [Hb Hi Ht Ho Hr HO Hp HgB]
  swap
  · isplitl [Hb]; · iexact Hb
    isplitr [HgB]
    · isplitl [Hi Ht Ho Hr]
      · rw [held_split, held_rest, W10_main_v31, W10_of m d main_v30 (by decide), W10_of m d main_v3_1 (by decide)]
        isplitl [Hi]; · iexact Hi
        isplitl [Ht]; · iexact Ht
        isplitl [Ho]; · iexact Ho
        iexact Hr
      isplitl [Hp]; · iexact Hp
      iexact HO
    isplitr; · iexact Hla
    iexact HgB
  iintro ⟨Hb, Hh, -, HO⟩
  isplitl [HO Hst]
  · isplitl [HO]; · iexact HO
    iexact Hst
  isplitl [Hh]; · iexact Hh
  isplitl [Hb]; · iexact Hb
  iexact Hts

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipelines' ghost state of device `d`: the first region's, and the two later ones'. -/
abbrev G (d : Dev nD) : sProp 𝕄 := iprop(Pipeline.ghostOn (pcfgs (F := F)) adm EP {0} d ∗ Pipeline.ghostOn (pcfgs (F := F)) adm EP {1, 2} d)

omit [FloatOps F] [Named F] in
theorem bigSep_emp' {I : Type} (s : Finset I) : (bigSep s fun _ => iprop(emp)) = (iprop(emp) : sProp 𝕄) := bigSep_emp_const s

omit [FloatOps F] [Named F] in
theorem ghost_split (Φ : Fin 3 → sProp 𝕄) : bigSep Finset.univ Φ = iprop(bigSep {0} Φ ∗ bigSep {1, 2} Φ) := by
  rw [show (Finset.univ : Finset (Fin 3)) = {0, 1, 2} by decide, SparseCore.bigSep_insert' (by decide), bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  ihave H := (Pipeline.fund_ghost (Pipeline.pin (pcfgs (F := F)) adm) EP cellOf_inj) $$ HP
  imod H with ⟨Hg, Htok⟩
  imodintro
  isplitl [HH]; · iexact HH
  isplitl [Hg Htok]
  · rw [show (bigSep Finset.univ fun d : Dev nD => G (F := F) d) = iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄))) from ?_]
    · isplitl [Hg] <;> iassumption
    rw [← bigSep_sep']
    refine bigSep_congr fun c _ => ?_
    rw [← bigSep_sep', ghost_split]
    rfl
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), bigSep_emp']
  iempintro

abbrev FIN (d : Dev nD) : sProp 𝕄 := StableHlo.held (d : Thread nD τ) (Pipeline.ucRefs τ sig) (W15 m d)

def fq (d : Dev nD) (s' : Phys nD τ sig (Elt F)) : Prop := ∀ b ∈ Pipeline.ucRefs τ sig, s'.mem.mem (d, b) = W15 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave H := (pointsTo_read_all (Pipeline.ucRefs τ sig) (fun b => (((d : Thread nD τ)).1, b)) (W15 m d) s') $$ [Hh HSI]
  · isplitl [Hh] <;> iassumption
  icases H with ⟨%h, -⟩
  ipureintro; exact h

/-- The arguments as launched, the result at the last boundary's contents, every counter at zero. -/
def QC : PUnit × MemSt nD τ sig (Elt F) → Prop := fun r =>
  (∀ c : Dev nD, (∀ a ∈ argRefs, r.2.mem ((c : Thread nD τ).loc a) = m ((c : Thread nD τ).loc a))
    ∧ r.2.mem ((c : Thread nD τ).loc main_v36) = W15 m c (Proc.devRef .tc main_v36)) ∧ r.2.sem = fun _ => 0

theorem args_uc : ∀ a ∈ argRefs, ¬ (Proc.devRef .tc a : DevRef τ sig).isScoped := ListAll.forall_mem_of_all_decide (by decide +kernel)

/-- The whole program runs, on a list whose entries name rows. -/
theorem run_main [∀ e, Nonempty (Elt F e)] (hix : ∀ d, PreIx (Im m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (Tm m) (Im m) (Om m) facts hix)
    (fun q _ => match q with | 0 => SparseCore.Cfg.VecSplit.of_plain (vecSplit (Tm m) (Im m) (Om m)))
    m ρ main (fun d => G (F := F) d) (FIN m) (u₀ (F := F)) (sep_elim_left.trans (hu₀ m)) (hmain m ρ) (fq m) (hfin m) (QC m)
    (fun _ h hz => ⟨fun c => ⟨fun a ha => (h c _ (mem_uc a (args_uc a ha))).trans (W15_args m c a ha), h c _ (mem_uc main_v36 (by decide))⟩, hz⟩)

end Run

end Cert.Proof.TileI

end
-- ==== Proof.IdxI.lean ====
/- The list that the gather goes by, at an index, and its range under the precondition. -/
module

public import proofs.«01_k».proof.Proof.HostI
public import proofs.«01_k».proof.Proof.Gen.Pre_in_range
public import Idealize.ShloMosaic.Lib.StableHlo.ReadAt
public import Idealize.ShloMosaic.Lib.Pointwise
public import Idealize.ShloMosaic.Lib.Tactic.WordOmega
public import Idealize.ShloMosaic.Lib.StableHlo.Predicate

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.SL Idealize.SL.Sem

variable {F : FTy → Type} [FloatOps F] [Named F]
variable (m : (ℓ : Loc nD τ sig) → Buf (Elt F) ℓ)

/-- The lists of neighbours. -/
abbrev nbr (c : Dev nD) : S16x2048x51.Idx → BitVec 32 := m ((c : Thread nD τ).loc main_arg4)

theorem W3_v9 (c : Dev nD) (h : Fin 16) (t : Fin 2048) (k : Fin 2) :
    (W3 m c (Proc.devRef .tc main_v9) : S16x2048x2.Idx → BitVec 32) (ix3 h t k) = nbr m c (ix3 h t ⟨k.val, by omega⟩) := by
  unfold W3
  after_reads_at
  exact congrFun (W2_args m c main_arg4 (by decide)) _

theorem W9_v30 (c : Dev nD) (h : Fin 16) (t : Fin 2048) (k : Fin 2) :
    (W9 m c (Proc.devRef .tc main_v30) : S1x65536.Idx → BitVec 32) (ix2 0 ⟨(k.val * 16 + h.val) * 2048 + t.val, by omega⟩)
      = IntOp.addi (IntOp.muli (nbr m c (ix3 h t ⟨k.val, by omega⟩)) 16#32) (BitVec.ofNat 32 h.val) := by
  unfold W9
  after_reads_at
  rw [W2_args m c main_arg4 (by decide)]

theorem in_range_at {a0 : FVec F S1x2048x1024 .f32} {a1 : FVec F S3072x1024 .f32} {a2 a3 : FVec F S1024x1024 .f32} {n : IVec S16x2048x51 32}
    (H : Cert.Pre_in_range.fn (F := F) a0 a1 a2 a3 n = fun _ => 1#1) (h : Fin 16) (t : Fin 2048) (d : Fin 51) :
    (if d.val < 2 then 0 else -1) ≤ (n (ix3 h t d)).toInt ∧ (n (ix3 h t d)).toInt < 2048 := by
  have e := congrFun H (ix3 h t d)
  revert e
  pointwise [Cert.Pre_in_range.fn, Cert.Pre_in_range.fn_where]
  simp only [id_eq]
  pointwise
  have hd := d.isLt
  have ed : (BitVec.ofNat 32 d.val).toInt = d.val := StableHlo.Predicate.toInt_ofNat_small _ (by omega)
  generalize n (ix3 h t d) = u at *
  generalize BitVec.ofNat 32 d.val = w at *
  word_omega

theorem toNat_lt {n : BitVec 32} (hn : 0 ≤ n.toInt) (hn' : n.toInt < 2048) : n.toNat < 2048 := by
  have := n.isLt; rw [BitVec.toInt_eq_toNat_cond] at hn hn'; split at hn <;> simp_all <;> omega

theorem list_at {n : BitVec 32} (h : Fin 16) (hn : 0 ≤ n.toInt) (hn' : n.toInt < 2048) :
    (IntOp.addi (IntOp.muli n 16#32) (BitVec.ofNat 32 h.val)).toNat = n.toNat * 16 + h.val := by
  have hb := toNat_lt hn hn'
  have hh := h.isLt
  show (n * 16#32 + BitVec.ofNat 32 h.val).toNat = _
  rw [BitVec.toNat_add, BitVec.toNat_mul, BitVec.toNat_ofNat, BitVec.toNat_ofNat]
  omega

/-- Every entry of the gather's list names a row of the table. -/
theorem preIx_of {c : Dev nD} (hn : ∀ (h : Fin 16) (t : Fin 2048) (d : Fin 51), (if d.val < 2 then 0 else -1) ≤ (nbr m c (ix3 h t d)).toInt ∧ (nbr m c (ix3 h t d)).toInt < 2048) :
    PreIx (Im m c) := by
  intro x
  obtain ⟨x0, p, rfl⟩ : ∃ (x0 : Fin 1) (p : Fin 65536), x = ix2 x0 p := ⟨x 0, x 1, eq_ix2 _⟩
  obtain rfl : x0 = 0 := Subsingleton.elim _ _
  have hp : p = ⟨((⟨p.val / 2048 / 16, by omega⟩ : Fin 2).val * 16 + (⟨p.val / 2048 % 16, by omega⟩ : Fin 16).val) * 2048 + (⟨p.val % 2048, by omega⟩ : Fin 2048).val, by simp only []; omega⟩ :=
    Fin.ext (by simp only []; omega)
  rw [hp]
  refine lt_of_eq_of_lt (congrArg BitVec.toNat (W9_v30 m c _ _ _)) ?_
  have := hn ⟨p.val / 2048 % 16, by omega⟩ ⟨p.val % 2048, by omega⟩ ⟨p.val / 2048 / 16, by omega⟩
  rw [if_pos (by simp only []; omega)] at this
  rw [list_at _ this.1 this.2]
  have hb := toNat_lt this.1 this.2
  simp only []
  omega

end Cert.Proof.TileI

end
-- ==== Proof.ProjI.lean ====
/- The two projections over the reals: what their result arrays hold, at an index. -/
module

public import proofs.«01_k».proof.Proof.RegionsI
public import Idealize.ShloMosaic.Lib.Pointwise
public import Idealize.ShloMosaic.Lib.Pipeline.ValueKit

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.SL Idealize.SL.Sem
open Idealize.ShloMosaic.Pipeline (Dat Window cellOf)

variable (V : (c : Dev nD) → (b : Ref sig .tc) → Buf (Elt Ideal) ((c : Thread nD τ).loc b))

/-- A row of one matrix against a row of the other. -/
def rowsDot {a b n : ℕ} (x : (⟨2, ![a, n]⟩ : Shape).Idx → EReal) (w : (⟨2, ![b, n]⟩ : Shape).Idx → EReal) (t : Fin a) (c : Fin b) : EReal :=
  ∑ e : Fin n, x (ix2 t e) * w (ix2 c e)

theorem rowsDot_congr {a b a' b' n : ℕ} {x : (⟨2, ![a, n]⟩ : Shape).Idx → EReal} {w : (⟨2, ![b, n]⟩ : Shape).Idx → EReal}
    {x' : (⟨2, ![a', n]⟩ : Shape).Idx → EReal} {w' : (⟨2, ![b', n]⟩ : Shape).Idx → EReal} {t : Fin a} {c : Fin b} {t' : Fin a'} {c' : Fin b'}
    (hx : ∀ e, x (ix2 t e) = x' (ix2 t' e)) (hw : ∀ e, w (ix2 c e) = w' (ix2 c' e)) : rowsDot x w t c = rowsDot x' w' t' c' :=
  Finset.sum_congr rfl fun e _ => by rw [hx, hw]

theorem pay0_1 (x : Vec Ideal S256x1024 .bf16) (w : Vec Ideal S3072x1024 .bf16) (r : Fin 256) (c : Fin 3072) :
    k0_pay1 x w (ix2 r c) = rowsDot x w r c := by
  pointwise [k0_pay1]
  rfl

theorem pay0_2 (x : Vec Ideal S256x1024 .bf16) (w : Vec Ideal S3072x1024 .bf16) (r : Fin 256) (c : Fin 3072) :
    k0_pay2 x w (ix2 r c) = rowsDot x w r c := by
  pointwise [k0_pay2]
  exact pay0_1 x w r c

theorem pay0_3 (x : Vec Ideal S256x1024 .bf16) (w : Vec Ideal S3072x1024 .bf16) (r : Fin 4096) (l : Fin 128) :
    k0_pay3 x w (ix2 r l) = if l.val < 64 then rowsDot x w ⟨r.val / 16, by omega⟩ ⟨1024 + (r.val % 16 * 64 + l.val % 64), by omega⟩
      else rowsDot x w ⟨r.val / 16, by omega⟩ ⟨2048 + (r.val % 16 * 64 + l.val % 64), by omega⟩ := by
  pointwise [k0_pay3]
  have hl := l.isLt
  split
  · rw [pay0_1]; exact congrArg (rowsDot x w _) (Fin.ext (by simp only []; omega))
  · rw [pay0_1]; exact congrArg (rowsDot x w _) (Fin.ext (by simp only []; omega))

theorem pay3_1 (x : Vec Ideal S256x1024 .bf16) (w : Vec Ideal S1024x1024 .bf16) (r : Fin 256) (c : Fin 1024) :
    k3_pay1 x w (ix2 r c) = rowsDot x w r c := by
  pointwise [k3_pay1]
  rfl

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)
theorem idx3_0 : ∀ t : Fin cfg3.N, win3_0.index t = ![t.val, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![t.val, 0] := (by decide +kernel : ∀ t : Fin grid3.N, _)

theorem arr0_2 (c : Dev nD) : (dat0 V c).arrAt 2 cfg0.N
    = fun i : S2048x3072.Idx => rowsDot (V c main_v1 : S2048x1024.Idx → EReal) (V c main_v2 : S3072x1024.Idx → EReal) (i 0) (i 1) := by
  refine (dat0 V c).arrAt_eq_of_covers 2 _ (by decide +kernel) fun t hf y => ?_
  blk_simp
  rw [after0_2]
  frame_out [out0_2]
  obtain ⟨y0, y1, rfl⟩ : ∃ (y0 : Fin 256) (y1 : Fin 3072), y = ix2 y0 y1 := ⟨y 0, y 1, eq_ix2 _⟩
  refine (pay0_2 _ _ _ _).trans (rowsDot_congr (fun e => ?_) fun e => ?_)
  · blk_ext [iblk0, idx0_0, idx0_2]
  · blk_ext [iblk0, idx0_1, idx0_2]

/-- Entry (p, l) of the table of keys and values: row p of it belongs to token p / 16 and head p % 16. -/
def kvRow (x : S2048x1024.Idx → EReal) (w : S3072x1024.Idx → EReal) (p : Fin 32768) (l : Fin 128) : EReal :=
  rowsDot x w ⟨p.val / 16, by omega⟩
    (if l.val < 64 then ⟨1024 + (p.val % 16 * 64 + l.val % 64), by omega⟩ else ⟨2048 + (p.val % 16 * 64 + l.val % 64), by omega⟩)

theorem kvRow_block (c : Dev nD) (t : Fin cfg0.N) (y0 : Fin 4096) (y1 : Fin 128) (p : Fin 32768) (l : Fin 128)
    (hp : p.val = t.val * 4096 + y0.val) (hl : l.val = y1.val) :
    k0_pay3 (iblk0 V c 0 t) (iblk0 V c 1 t) (ix2 y0 y1) = kvRow (V c main_v1) (V c main_v2) p l := by
  refine (pay0_3 _ _ _ _).trans ?_
  unfold kvRow
  by_cases h : y1.val < 64
  · rw [if_pos h, if_pos (hl.trans_lt h)]
    refine rowsDot_congr (fun e => ?_) fun e => ?_
    · blk_ext [iblk0, idx0_0]
    · blk_ext [iblk0, idx0_1]
  · rw [if_neg h, if_neg (fun h' => h (hl.symm.trans_lt h'))]
    refine rowsDot_congr (fun e => ?_) fun e => ?_
    · blk_ext [iblk0, idx0_0]
    · blk_ext [iblk0, idx0_1]

theorem arr0_3 (c : Dev nD) : (dat0 V c).arrAt 3 cfg0.N
    = fun i : S32768x128.Idx => kvRow (V c main_v1 : S2048x1024.Idx → EReal) (V c main_v2 : S3072x1024.Idx → EReal) (i 0) (i 1) := by
  refine (dat0 V c).arrAt_eq_of_covers 3 _ (by decide +kernel) fun t hf y => ?_
  blk_simp
  rw [after0_3]
  frame_out [out0_3]
  obtain ⟨y0, y1, rfl⟩ : ∃ (y0 : Fin 4096) (y1 : Fin 128), y = ix2 y0 y1 := ⟨y 0, y 1, eq_ix2 _⟩
  refine kvRow_block V c t y0 y1 _ _ ?_ ?_
  · blk_simp [idx0_3]
  · blk_simp [idx0_3]

theorem arr3_2 (c : Dev nD) : (dat3 V c).arrAt 2 cfg3.N
    = fun i : S2048x1024.Idx => rowsDot (V c main_v33 : S2048x1024.Idx → EReal) (V c main_v34 : S1024x1024.Idx → EReal) (i 0) (i 1) := by
  refine (dat3 V c).arrAt_eq_of_covers 2 _ (by decide +kernel) fun t hf y => ?_
  blk_simp
  rw [after3_2]
  frame_out [out3_2]
  obtain ⟨y0, y1, rfl⟩ : ∃ (y0 : Fin 256) (y1 : Fin 1024), y = ix2 y0 y1 := ⟨y 0, y 1, eq_ix2 _⟩
  refine (pay3_1 _ _ _ _).trans (rowsDot_congr (fun e => ?_) fun e => ?_)
  · blk_ext [iblk3, idx3_0, idx3_2]
  · blk_ext [iblk3, idx3_1, idx3_2]

end Cert.Proof.TileI

end
-- ==== Proof.Sums.lean ====
/-
  Sums and maxima over a list of positions with repetitions, over the extended reals.

  A list of positions, some of its entries masked out, is described by how often it names each position. The largest score,
  the sum of the weights and the weighted sum of the values then depend on that count alone, so that a list and a tiling
  which name the same positions equally often give the same attention.
-/
module

public import Idealize.ShloMosaic.PureOps.Ideal
public import Idealize.ShloMosaic.PureOps.Ideal.Laws

@[expose] public section

noncomputable section

namespace Cert.Proof.Sums

open Idealize.ShloMosaic

variable {n : ℕ}

/-- How often the unmasked entries name `j`. -/
def cnt {ι : Type} [Fintype ι] (P : ι → Prop) [DecidablePred P] (pos : ι → Fin n) (j : Fin n) : ℕ :=
  (Finset.univ.filter fun i => P i ∧ pos i = j).card

/-- The sum of `f` over the positions, each as often as `N` counts it, -/
def total (N : Fin n → ℕ) (f : Fin n → EReal) : EReal := ∑ j, N j • f j
/-- and the largest value of `s` at a position that `N` counts. -/
def top (N : Fin n → ℕ) (s : Fin n → EReal) : EReal := Finset.univ.sup fun j => if N j = 0 then ⊥ else s j

theorem total_add (N M : Fin n → ℕ) (f : Fin n → EReal) : total (fun j => N j + M j) f = total N f + total M f := by
  unfold total
  rw [← Finset.sum_add_distrib]
  exact Finset.sum_congr rfl fun j _ => add_nsmul _ _ _

theorem top_add (N M : Fin n → ℕ) (s : Fin n → EReal) : top (fun j => N j + M j) s = max (top N s) (top M s) := by
  unfold top
  rw [← Finset.sup_sup]
  refine Finset.sup_congr rfl fun j _ => ?_
  by_cases hN : N j = 0 <;> by_cases hM : M j = 0 <;> simp [hN, hM]

theorem total_cnt {ι : Type} [Fintype ι] (P : ι → Prop) [DecidablePred P] (pos : ι → Fin n) (f : Fin n → EReal) :
    total (cnt P pos) f = ∑ i, if P i then f (pos i) else 0 := by
  unfold total cnt
  rw [← Finset.sum_filter, ← Finset.sum_fiberwise (Finset.univ.filter P) pos]
  refine Finset.sum_congr rfl fun j _ => ?_
  rw [Finset.filter_filter, Finset.sum_congr rfl (g := fun _ => f j) (fun i hi => by rw [(Finset.mem_filter.1 hi).2.2]), Finset.sum_const]

theorem top_cnt {ι : Type} [Fintype ι] (P : ι → Prop) [DecidablePred P] (pos : ι → Fin n) (s : Fin n → EReal) :
    top (cnt P pos) s = Finset.univ.sup fun i => if P i then s (pos i) else ⊥ := by
  unfold top cnt
  apply le_antisymm
  · refine Finset.sup_le fun j _ => ?_
    by_cases h : (Finset.univ.filter fun i => P i ∧ pos i = j).card = 0
    · rw [if_pos h]; exact bot_le
    · rw [if_neg h]
      obtain ⟨i, hi⟩ := Finset.card_ne_zero.1 h
      obtain ⟨-, hP, rfl⟩ := Finset.mem_filter.1 hi
      exact le_trans (by rw [if_pos hP]) (Finset.le_sup (f := fun i => if P i then s (pos i) else ⊥) (Finset.mem_univ i))
  · refine Finset.sup_le fun i _ => ?_
    by_cases h : P i
    · have hc : (Finset.univ.filter fun i' => P i' ∧ pos i' = pos i).card ≠ 0 :=
        Finset.card_ne_zero.2 ⟨i, Finset.mem_filter.2 ⟨Finset.mem_univ i, h, rfl⟩⟩
      rw [if_pos h]
      refine le_trans ?_ (Finset.le_sup (f := fun j => if (Finset.univ.filter fun i => P i ∧ pos i = j).card = 0 then ⊥ else s j) (Finset.mem_univ (pos i)))
      rw [if_neg hc]
    · rw [if_neg h]; exact bot_le

/-! ## The weights -/

/-- The sum of the weights of the positions counted, -/
def den (N : Fin n → ℕ) (s : Fin n → EReal) : EReal := total N fun j => Ideal.exp (s j - top N s)
/-- the weighted sum of the values, -/
def num (N : Fin n → ℕ) (s v : Fin n → EReal) : EReal := total N fun j => Ideal.exp (s j - top N s) * v j
/-- and the attention: their quotient. -/
def att (N : Fin n → ℕ) (s v : Fin n → EReal) : EReal := Ideal.div (num N s v) (den N s)

theorem exp_nonneg (x : EReal) : 0 ≤ Ideal.exp x := by
  induction x using EReal.rec with
  | bot => exact le_refl _
  | top => exact le_top
  | coe r => exact EReal.coe_nonneg.2 (Real.exp_pos r).le

theorem exp_bot_sub (x : EReal) : Ideal.exp (⊥ - x) = 0 := by
  rw [sub_eq_add_neg, EReal.bot_add]; rfl

theorem exp_sub_pos {a b : EReal} (ha : a ≠ ⊥) (hb : b ≠ ⊤) (ha' : a ≠ ⊤) (hb' : b ≠ ⊥) : 0 < Ideal.exp (a - b) := by
  lift a to ℝ using ⟨ha', ha⟩
  lift b to ℝ using ⟨hb, hb'⟩
  rw [← EReal.coe_sub]
  exact EReal.coe_pos.2 (Real.exp_pos _)

/-- With real scores and some position counted the sum of the weights is not zero. -/
theorem den_ne_zero (N : Fin n → ℕ) (s : Fin n → EReal) (hs : ∀ j, s j ≠ ⊥ ∧ s j ≠ ⊤) (t : Fin n) (ht : N t ≠ 0) : den N s ≠ 0 := by
  have hle : s t ≤ top N s := le_trans (by rw [if_neg ht]) (Finset.le_sup (f := fun j => if N j = 0 then ⊥ else s j) (Finset.mem_univ t))
  have hlt : top N s < ⊤ := (Finset.sup_lt_iff bot_lt_top).2 fun j _ => by
    split
    · exact bot_lt_top
    · exact lt_top_iff_ne_top.2 (hs j).2
  have hbot : top N s ≠ ⊥ := fun h => (hs t).1 (le_bot_iff.1 (h ▸ hle))
  have hp := exp_sub_pos (hs t).1 hlt.ne (hs t).2 hbot
  refine ne_of_gt (lt_of_lt_of_le hp ?_)
  unfold den total
  refine le_trans ?_ (Finset.single_le_sum (f := fun j => N j • Ideal.exp (s j - top N s)) (fun j _ => nsmul_nonneg (exp_nonneg _) _) (Finset.mem_univ t))
  obtain ⟨k, hk⟩ := Nat.exists_eq_succ_of_ne_zero ht
  rw [hk, succ_nsmul]
  exact le_add_of_nonneg_left (nsmul_nonneg (exp_nonneg _) _)

theorem inv_ne_top (x : EReal) : x⁻¹ ≠ ⊤ := by
  induction x using EReal.rec with
  | bot => simp
  | top => simp
  | coe r => rw [← EReal.coe_inv]; exact EReal.coe_ne_top _

theorem sum_mul_of_nonneg {ι : Type} (S : Finset ι) (f : ι → EReal) {c : EReal} (h0 : 0 ≤ c) (ht : c ≠ ⊤) :
    ∑ i ∈ S, f i * c = (∑ i ∈ S, f i) * c := by
  classical
  induction S using Finset.induction_on with
  | empty => simp
  | insert a S ha ih => rw [Finset.sum_insert ha, Finset.sum_insert ha, ih, EReal.right_distrib_of_nonneg_of_ne_top h0 ht]

/-- The list's own form: each weight divided first, then the weighted sum. -/
theorem sum_div_mul {ι : Type} [Fintype ι] (w v : ι → EReal) (P : ι → Prop) [DecidablePred P] (D : EReal) (hD : D ≠ 0) (hD0 : 0 ≤ D) :
    (∑ i, (if P i then Ideal.div (w i) D else 0) * v i) = Ideal.div (∑ i, if P i then w i * v i else 0) D := by
  have e : ∀ x : EReal, Ideal.div x D = x * D⁻¹ := fun x => by unfold Ideal.div; rw [if_neg hD]
  rw [e, ← sum_mul_of_nonneg _ _ (EReal.inv_nonneg_of_nonneg hD0) (inv_ne_top D)]
  refine Finset.sum_congr rfl fun i _ => ?_
  split
  · rw [e, mul_right_comm]
  · rw [zero_mul, zero_mul]

theorem den_nonneg (N : Fin n → ℕ) (s : Fin n → EReal) : 0 ≤ den N s := by
  unfold den total
  exact Finset.sum_nonneg fun _ _ => nsmul_nonneg (exp_nonneg _) _

/-- Masked scores' weights sum to the unmasked ones' alone, -/
theorem sum_exp_masked {ι : Type} [Fintype ι] (P : ι → Prop) [DecidablePred P] (pos : ι → Fin n) (s : Fin n → EReal) (sc : ι → EReal) (M : EReal)
    (h : ∀ i, sc i = if P i then s (pos i) else ⊥) : (∑ i, Ideal.exp (sc i - M)) = total (cnt P pos) fun j => Ideal.exp (s j - M) := by
  rw [total_cnt]
  refine Finset.sum_congr rfl fun i _ => ?_
  rw [h]; split
  · rfl
  · exact exp_bot_sub M
/-- and so do their weighted values. -/
theorem sum_exp_mul_masked {ι : Type} [Fintype ι] (P : ι → Prop) [DecidablePred P] (pos : ι → Fin n) (s v : Fin n → EReal) (sc vl : ι → EReal) (M : EReal)
    (h : ∀ i, sc i = if P i then s (pos i) else ⊥) (hv : ∀ i, P i → vl i = v (pos i)) :
    (∑ i, Ideal.exp (sc i - M) * vl i) = total (cnt P pos) fun j => Ideal.exp (s j - M) * v j := by
  rw [total_cnt]
  refine Finset.sum_congr rfl fun i _ => ?_
  rw [h]; split
  · rename_i hp; rw [hv i hp]
  · rw [exp_bot_sub, zero_mul]

/-- The number of times the one position is counted. -/
abbrev one (P : Prop) [Decidable P] (p : Fin n) : Fin n → ℕ := cnt (fun _ : Unit => P) fun _ => p

/-- Two families of masked scores and two single ones make the attention over all they name. -/
theorem att_of_four {ι κ : Type} [Fintype ι] [Fintype κ] (PB : ι → Prop) [DecidablePred PB] (pB : ι → Fin n) (PL : κ → Prop) [DecidablePred PL] (pL : κ → Fin n)
    (P0 P1 : Prop) [Decidable P0] [Decidable P1] (p0 p1 : Fin n) (s v : Fin n → EReal) (sB vB : ι → EReal) (sL vL : κ → EReal) (s0 s1 v0 v1 M : EReal)
    (hB : ∀ i, sB i = if PB i then s (pB i) else ⊥) (hvB : ∀ i, PB i → vB i = v (pB i))
    (hL : ∀ i, sL i = if PL i then s (pL i) else ⊥) (hvL : ∀ i, PL i → vL i = v (pL i))
    (h0 : s0 = if P0 then s p0 else ⊥) (hv0 : P0 → v0 = v p0) (h1 : s1 = if P1 then s p1 else ⊥) (hv1 : P1 → v1 = v p1)
    (hM : M = max (max (Finset.univ.sup sB) (Finset.univ.sup sL)) (max s0 s1)) :
    Ideal.div ((∑ i, Ideal.exp (sB i - M) * vB i) + (∑ i, Ideal.exp (sL i - M) * vL i) + Ideal.exp (s0 - M) * v0 + Ideal.exp (s1 - M) * v1)
      ((∑ i, Ideal.exp (sB i - M)) + (∑ i, Ideal.exp (sL i - M)) + Ideal.exp (s0 - M) + Ideal.exp (s1 - M))
      = att (fun j => cnt PB pB j + cnt PL pL j + one P0 p0 j + one P1 p1 j) s v := by
  have hM' : top (fun j => cnt PB pB j + cnt PL pL j + one P0 p0 j + one P1 p1 j) s = M := by
    rw [top_add, top_add, top_add, top_cnt, top_cnt, top_cnt, top_cnt, hM, h0, h1, funext hB, funext hL]
    simp only [Finset.univ_unique, Finset.sup_singleton, max_assoc]
  unfold att num den
  rw [hM', total_add, total_add, total_add, total_add, total_add, total_add,
    sum_exp_masked PB pB s sB M hB, sum_exp_masked PL pL s sL M hL, sum_exp_mul_masked PB pB s v sB vB M hB hvB, sum_exp_mul_masked PL pL s v sL vL M hL hvL,
    ← sum_exp_masked (fun _ : Unit => P0) (fun _ => p0) s (fun _ => s0) M fun _ => h0, ← sum_exp_masked (fun _ : Unit => P1) (fun _ => p1) s (fun _ => s1) M fun _ => h1,
    ← sum_exp_mul_masked (fun _ : Unit => P0) (fun _ => p0) s v (fun _ => s0) (fun _ => v0) M (fun _ => h0) fun _ => hv0,
    ← sum_exp_mul_masked (fun _ : Unit => P1) (fun _ => p1) s v (fun _ => s1) (fun _ => v1) M (fun _ => h1) fun _ => hv1]
  simp only [Finset.univ_unique, Finset.sum_singleton]

/-- A list of masked scores, its weights divided by their sum before they weigh the values, makes the attention over all it names. -/
theorem att_of_list {ι : Type} [Fintype ι] (P : ι → Prop) [DecidablePred P] (pos : ι → Fin n) (s v : Fin n → EReal) (sc vl : ι → EReal) (M D : EReal)
    (h : ∀ i, sc i = if P i then s (pos i) else ⊥) (hv : ∀ i, P i → vl i = v (pos i)) (hM : M = Finset.univ.sup sc) (hD : D = ∑ i, Ideal.exp (sc i - M))
    (hD0 : den (cnt P pos) s ≠ 0) : (∑ i, (if P i then Ideal.div (Ideal.exp (sc i - M)) D else 0) * vl i) = att (cnt P pos) s v := by
  have hM' : top (cnt P pos) s = M := by rw [top_cnt, hM, funext h]
  have hD' : D = den (cnt P pos) s := by unfold den; rw [hM', hD]; exact sum_exp_masked P pos s sc M h
  rw [hD', sum_div_mul _ _ _ _ hD0 (den_nonneg _ _)]
  unfold att num
  rw [hM', total_cnt]
  refine congrArg (Ideal.div · _) (Finset.sum_congr rfl fun i _ => ?_)
  split
  · rename_i hp; rw [h, if_pos hp, hv i hp]
  · rfl

end Cert.Proof.Sums

end
-- ==== Proof.AttnValI.lean ====
/- The attention body over the reals, at an index. -/
module

public import proofs.«01_k».proof.Proof.AttnI
public import proofs.«01_k».proof.Proof.Sums
public import Idealize.ShloMosaic.Lib.Pointwise
public import Idealize.ShloMosaic.Lib.Tactic.WordOmega
public import Idealize.ShloMosaic.Lib.StableHlo.Predicate
public import Idealize.ShloMosaic.Lib.Pipeline.ValueKit

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.SL Idealize.SL.Sem
open Idealize.ShloMosaic.Pipeline (Dat Window cellOf)

/-- An eighth. -/
abbrev scl : EReal := Ideal.ofBits .f32 0x3E000000#32

theorem maskC_eq : (maskC : Ideal .f32) = ⊥ := rfl
theorem negInf : Ideal.ofBits FTy.f32 0xFF800000#32 = ⊥ := by
  simp [Ideal.ofBits, Ideal.ieee]

theorem band_apply (a b : Vec Ideal S128x64 .bf16) (c : Fin 256) (e : Fin 64) :
    band a b (ix2 c e) = if h : c.val < 128 then a (ix2 ⟨c.val, h⟩ e) else b (ix2 ⟨c.val - 128, by omega⟩ e) := by
  pointwise [band]

theorem scB_apply (i : grid2.Coords) (q kp kc : Vec Ideal S128x64 .bf16) (r : Fin 128) (c : Fin 256) :
    scB i q kp kc (ix2 r c) = if k2_pay2 i (ix2 r c) = 1#1 then (∑ e, q (ix2 r e) * band kp kc (ix2 c e)) * scl else ⊥ := by
  pointwise [scB]
  rfl

theorem scL_apply (i : grid2.Coords) (q : Vec Ideal S128x64 .bf16) (kl : Vec Ideal S16x64 .bf16) (r : Fin 128) (l : Fin 16) :
    scL i q kl (ix2 r l) = if k2_pay3 i (ix2 r l) = 1#1 then (∑ e, q (ix2 r e) * kl (ix2 l e)) * scl else ⊥ := by
  pointwise [scL]
  rfl

theorem sc0_apply (q : Vec Ideal S128x64 .bf16) (k : Vec Ideal S1x1x128x64 .f32) (b : Vec Ideal S1x128x8 .f32) (r : Fin 128) :
    sc0 q k b (ix1 r) = (∑ e, q (ix2 r e) * k (ix4 0 0 r e)) * scl + b (ix3 0 r 0) := by
  pointwise [sc0, dotC]
theorem sc1_apply (q : Vec Ideal S128x64 .bf16) (k : Vec Ideal S1x1x128x64 .f32) (b : Vec Ideal S1x128x8 .f32) (r : Fin 128) :
    sc1 q k b (ix1 r) = (∑ e, q (ix2 r e) * k (ix4 0 0 r e)) * scl + b (ix3 0 r 1) := by
  pointwise [sc1, dotC]

theorem scMax_apply (sB : FVec Ideal S128x256 .f32) (sL : FVec Ideal S128x16 .f32) (s0 s1 : FVec Ideal S128 .f32) (r : Fin 128) :
    scMax sB sL s0 s1 (ix1 r) = max (max (Finset.univ.sup fun c : Fin 256 => sB (ix2 r c)) (Finset.univ.sup fun l : Fin 16 => sL (ix2 r l))) (max (s0 (ix1 r)) (s1 (ix1 r))) := by
  pointwise [scMax]
  rw [negInf]
  rfl

theorem headOut_apply (sB : FVec Ideal S128x256 .f32) (sL : FVec Ideal S128x16 .f32) (s0 s1 m : FVec Ideal S128 .f32)
    (vb : FVec Ideal S256x64 .bf16) (vl : Vec Ideal S16x64 .bf16) (v0 v1 : Vec Ideal S1x1x128x64 .f32) (r : Fin 128) (e : Fin 64) :
    headOut sB sL s0 s1 m vb vl v0 v1 (ix2 r e) = Ideal.div
      ((∑ c : Fin 256, Ideal.exp (sB (ix2 r c) - m (ix1 r)) * vb (ix2 c e)) + (∑ l : Fin 16, Ideal.exp (sL (ix2 r l) - m (ix1 r)) * vl (ix2 l e))
        + Ideal.exp (s0 (ix1 r) - m (ix1 r)) * v0 (ix4 0 0 r e) + Ideal.exp (s1 (ix1 r) - m (ix1 r)) * v1 (ix4 0 0 r e))
      ((∑ c : Fin 256, Ideal.exp (sB (ix2 r c) - m (ix1 r))) + (∑ l : Fin 16, Ideal.exp (sL (ix2 r l) - m (ix1 r)))
        + Ideal.exp (s0 (ix1 r) - m (ix1 r)) + Ideal.exp (s1 (ix1 r) - m (ix1 r))) := by
  pointwise [headOut, wNum, wDen, exB, exL]

theorem toNat_muli (x y : BitVec 32) : (IntOp.muli x y).toNat = x.toNat * y.toNat % 4294967296 := BitVec.toNat_mul x y
theorem toNat_addi (x y : BitVec 32) : (IntOp.addi x y).toNat = (x.toNat + y.toNat) % 4294967296 := BitVec.toNat_add x y
theorem toNat_subi (x y : BitVec 32) : (IntOp.subi x y).toNat = (4294967296 - y.toNat + x.toNat) % 4294967296 := BitVec.toNat_sub x y

theorem mask2_apply (i : grid2.Coords) (r : Fin 128) (c : Fin 256) : k2_pay2 i (ix2 r c) = 1#1 ↔
    128 ≤ 128 * (i 0).val + c.val ∧ 128 + r.val ≤ c.val + 32 ∧ c.val ≤ 128 + r.val := by
  pointwise [k2_pay2, Scalar.muli, Scalar.subi]
  have hi : (i 0).val < 16 := (i 0).isLt
  have hc := c.isLt
  have hr := r.isLt
  have e0 : (BitVec.ofNat 32 (i 0).val).toInt = (i 0).val := StableHlo.Predicate.toInt_ofNat_small _ (by omega)
  have e1 : (BitVec.ofNat 32 c.val).toInt = c.val := StableHlo.Predicate.toInt_ofNat_small _ (by omega)
  have e2 : (BitVec.ofNat 32 r.val).toInt = r.val := StableHlo.Predicate.toInt_ofNat_small _ (by omega)
  generalize BitVec.ofNat 32 (i 0).val = u at *
  generalize BitVec.ofNat 32 c.val = u1 at *
  generalize BitVec.ofNat 32 r.val = u2 at *
  have hs := toNat_subi u 1#32
  generalize IntOp.subi u 1#32 = us at *
  have hm := toNat_muli us 128#32
  generalize IntOp.muli us 128#32 = um at *
  have ha := toNat_addi um u1
  generalize IntOp.addi um u1 = ua at *
  have hM := toNat_muli u 128#32
  generalize IntOp.muli u 128#32 = uM at *
  have hA := toNat_addi uM u2
  generalize IntOp.addi uM u2 = uA at *
  have hS := toNat_subi uA 32#32
  generalize IntOp.subi uA 32#32 = uS at *
  simp only [BitVec.toNat_ofNat] at hs hm hM hS
  generalize (i 0).val = i0 at *
  word_omega
theorem mask3_apply (i : grid2.Coords) (r : Fin 128) (l : Fin 16) : k2_pay3 i (ix2 r l) = 1#1 ↔ 128 * l.val + 32 < 128 * (i 0).val + r.val := by
  pointwise [k2_pay3, Scalar.muli]
  have hi : (i 0).val < 16 := (i 0).isLt
  have hl := l.isLt
  have hr := r.isLt
  have e0 : (BitVec.ofNat 32 (i 0).val).toInt = (i 0).val := StableHlo.Predicate.toInt_ofNat_small _ (by omega)
  have e1 : (BitVec.ofNat 32 l.val).toInt = l.val := StableHlo.Predicate.toInt_ofNat_small _ (by omega)
  have e2 : (BitVec.ofNat 32 r.val).toInt = r.val := StableHlo.Predicate.toInt_ofNat_small _ (by omega)
  generalize BitVec.ofNat 32 (i 0).val = u at *
  generalize BitVec.ofNat 32 l.val = u1 at *
  generalize BitVec.ofNat 32 r.val = u2 at *
  have hm := toNat_muli u1 128#32
  generalize IntOp.muli u1 128#32 = um at *
  have hM := toNat_muli u 128#32
  generalize IntOp.muli u 128#32 = uM at *
  have hA := toNat_addi uM u2
  generalize IntOp.addi uM u2 = uA at *
  have hS := toNat_subi uA 32#32
  generalize IntOp.subi uA 32#32 = uS at *
  simp only [BitVec.toNat_ofNat] at hm hM hS
  generalize (i 0).val = i0 at *
  word_omega

/-! ## One head's output -/

open Sums (att cnt one)

/-- Row `r` of block `i`. -/
abbrev row (i : grid2.Coords) (r : Fin 128) : Fin 2048 := ⟨128 * (i 0).val + r.val, by have : (i 0).val < 16 := (i 0).isLt; omega⟩
/-- Head `h`'s column `e`. -/
abbrev col (h : Fin 16) (e : Fin 64) : Fin 1024 := ⟨64 * h.val + e.val, by omega⟩
/-- Column `c` of the band is one of the row's window. -/
def inBand (i r : ℕ) (c : Fin 256) : Prop := 128 ≤ 128 * i + c.val ∧ 128 + r ≤ c.val + 32 ∧ c.val ≤ 128 + r
/-- Landmark `l` lies before the window. -/
def inLand (i r : ℕ) (l : Fin 16) : Prop := 128 * l.val + 32 < 128 * i + r
instance (i r : ℕ) : DecidablePred (inBand i r) := fun _ => inferInstanceAs (Decidable (_ ∧ _))
instance (i r : ℕ) : DecidablePred (inLand i r) := fun _ => inferInstanceAs (Decidable (_ < _))
/-- The band's positions, -/
abbrev posB (i : grid2.Coords) (c : Fin 256) : Fin 2048 := ⟨128 * (i 0).val + c.val - 128, by have : (i 0).val < 16 := (i 0).isLt; omega⟩
/-- and the landmarks'. -/
abbrev posL (l : Fin 16) : Fin 2048 := ⟨128 * l.val, by omega⟩

/-- How often the kernel attends each position. -/
def kerN (i : grid2.Coords) (r : Fin 128) (P0 P1 : Prop) [Decidable P0] [Decidable P1] (p0 p1 : Fin 2048) (j : Fin 2048) : ℕ :=
  cnt (inBand (i 0).val r.val) (posB i) j + cnt (inLand (i 0).val r.val) posL j + one P0 p0 j + one P1 p1 j

/-- The score of position `j` for position `t`. -/
def score (q k : S2048x1024.Idx → EReal) (h : Fin 16) (t j : Fin 2048) : EReal := (∑ e : Fin 64, q (ix2 t (col h e)) * k (ix2 j (col h e))) * scl

theorem ldQ (x : Vec Ideal S128x1024 .bf16) (h : Fin 16) (r : Fin 128) (e : Fin 64) : View.ld x (rQ h) (ix2 r e) = x (ix2 r (col h e)) :=
  View.ld_unit_apply_of _ _ _ _ _ _ (by intro a; fin_cases a <;> simp [ix2])
theorem ldL (x : Vec Ideal S16x1024 .bf16) (h : Fin 16) (l : Fin 16) (e : Fin 64) : View.ld x (rL h) (ix2 l e) = x (ix2 l (col h e)) :=
  View.ld_unit_apply_of _ _ _ _ _ _ (by intro a; fin_cases a <;> simp [ix2])
theorem ldC (x : Vec Ideal S2x16x128x128 .f32) (k : Fin 2) (h : Fin 16) (o : Fin 2) (r : Fin 128) (e : Fin 64) :
    View.ld x (rC k h o) (ix4 0 0 r e) = x (ix4 k h r ⟨64 * o.val + e.val, by omega⟩) :=
  View.ld_unit_apply_of _ _ _ _ _ _ (by intro a; fin_cases a <;> simp [ix4])
theorem ldB (x : Vec Ideal S16x128x8 .f32) (h : Fin 16) (r : Fin 128) (b : Fin 8) : View.ld x (rB h) (ix3 0 r b) = x (ix3 h r b) :=
  View.ld_unit_apply_of _ _ _ _ _ _ (by intro a; fin_cases a <;> simp [ix3])

/-- The blocks of block `i` from the arrays, so far as row `r` of head `h` reads them. -/
structure Blocks (i : grid2.Coords) (h : Fin 16) (r : Fin 128) (q k v : S2048x1024.Idx → EReal) (P0 P1 : Prop) [Decidable P0] [Decidable P1] (p0 p1 : Fin 2048)
    (x0 x1 x2 : Vec Ideal S128x1024 .bf16) (x3 : Vec Ideal S16x1024 .bf16) (x4 x5 : Vec Ideal S128x1024 .bf16) (x6 : Vec Ideal S16x1024 .bf16)
    (x7 : Vec Ideal S2x16x128x128 .f32) (x8 : Vec Ideal S16x128x8 .f32) : Prop where
  h0 : ∀ e, x0 (ix2 r (col h e)) = q (ix2 (row i r) (col h e))
  h1 : ∀ (c : Fin 256) (hc : c.val < 128) e, 128 ≤ 128 * (i 0).val + c.val → x1 (ix2 ⟨c.val, hc⟩ (col h e)) = k (ix2 (posB i c) (col h e))
  h2 : ∀ (c : Fin 256) (hc : ¬ c.val < 128) e, x2 (ix2 ⟨c.val - 128, by omega⟩ (col h e)) = k (ix2 (posB i c) (col h e))
  h3 : ∀ l e, x3 (ix2 l (col h e)) = k (ix2 (posL l) (col h e))
  h4 : ∀ (c : Fin 256) (hc : c.val < 128) e, 128 ≤ 128 * (i 0).val + c.val → x4 (ix2 ⟨c.val, hc⟩ (col h e)) = v (ix2 (posB i c) (col h e))
  h5 : ∀ (c : Fin 256) (hc : ¬ c.val < 128) e, x5 (ix2 ⟨c.val - 128, by omega⟩ (col h e)) = v (ix2 (posB i c) (col h e))
  h6 : ∀ l e, x6 (ix2 l (col h e)) = v (ix2 (posL l) (col h e))
  h7 : ∀ e : Fin 64, x7 (ix4 0 h r ⟨64 * (0 : Fin 2).val + e.val, by simp; omega⟩) = k (ix2 p0 (col h e))
  h7' : ∀ e : Fin 64, x7 (ix4 1 h r ⟨64 * (0 : Fin 2).val + e.val, by simp; omega⟩) = k (ix2 p1 (col h e))
  h7v : ∀ e : Fin 64, x7 (ix4 0 h r ⟨64 * (1 : Fin 2).val + e.val, by simp; omega⟩) = v (ix2 p0 (col h e))
  h7v' : ∀ e : Fin 64, x7 (ix4 1 h r ⟨64 * (1 : Fin 2).val + e.val, by simp; omega⟩) = v (ix2 p1 (col h e))
  h8 : x8 (ix3 h r 0) = if P0 then 0 else ⊥
  h8' : x8 (ix3 h r 1) = if P1 then 0 else ⊥

theorem biased (x b : EReal) (P : Prop) [Decidable P] (h : b = if P then 0 else ⊥) : x + b = if P then x else ⊥ := by
  rw [h]; split
  · exact add_zero x
  · exact EReal.add_bot x

theorem hd_att {i : grid2.Coords} {h : Fin 16} {r : Fin 128} {q k v : S2048x1024.Idx → EReal} {P0 P1 : Prop} [Decidable P0] [Decidable P1] {p0 p1 : Fin 2048}
    {x0 x1 x2 : Vec Ideal S128x1024 .bf16} {x3 : Vec Ideal S16x1024 .bf16} {x4 x5 : Vec Ideal S128x1024 .bf16} {x6 : Vec Ideal S16x1024 .bf16}
    {x7 : Vec Ideal S2x16x128x128 .f32} {x8 : Vec Ideal S16x128x8 .f32} (B : Blocks i h r q k v P0 P1 p0 p1 x0 x1 x2 x3 x4 x5 x6 x7 x8) (e : Fin 64) :
    hd i x0 x1 x2 x3 x4 x5 x6 x7 x8 h (ix2 r e) = att (kerN i r P0 P1 p0 p1) (score q k h (row i r)) fun j => v (ix2 j (col h e)) := by
  unfold hd headBlk
  rw [headOut_apply]
  refine Sums.att_of_four (inBand (i 0).val r.val) (posB i) (inLand (i 0).val r.val) posL P0 P1 p0 p1 (score q k h (row i r)) (fun j => v (ix2 j (col h e)))
    _ _ _ _ _ _ _ _ _ (fun c => ?_) (fun c hc => ?_) (fun l => ?_) (fun l _ => ?_) ?_ (fun _ => ?_) ?_ (fun _ => ?_) (scMax_apply _ _ _ _ _)
  · rw [scB_apply]
    refine ite_congr (propext (mask2_apply i r c)) (fun hc => ?_) fun _ => rfl
    unfold score
    refine congrArg (· * scl) (Finset.sum_congr rfl fun e' _ => ?_)
    rw [ldQ, B.h0, band_apply]
    refine congrArg (_ * ·) ?_
    split
    · rename_i h'; rw [ldQ, B.h1 c h' e' hc.1]
    · rename_i h'; rw [ldQ, B.h2 c h' e']
  · rw [band_apply]
    split
    · rename_i h'; rw [ldQ, B.h4 c h' e hc.1]
    · rename_i h'; rw [ldQ, B.h5 c h' e]
  · rw [scL_apply]
    refine ite_congr (propext (mask3_apply i r l)) (fun hc => ?_) fun _ => rfl
    unfold score
    refine congrArg (· * scl) (Finset.sum_congr rfl fun e' _ => ?_)
    rw [ldQ, B.h0, ldL, B.h3]
  · rw [ldL, B.h6]
  · rw [sc0_apply]
    refine (biased _ _ P0 ((ldB x8 h r 0).trans B.h8)).trans (ite_congr rfl (fun _ => ?_) fun _ => rfl)
    unfold score
    refine congrArg (· * scl) (Finset.sum_congr rfl fun e' _ => ?_)
    rw [ldQ, B.h0, ldC, B.h7]
  · rw [ldC, B.h7v]
  · rw [sc1_apply]
    refine (biased _ _ P1 ((ldB x8 h r 1).trans B.h8')).trans (ite_congr rfl (fun _ => ?_) fun _ => rfl)
    unfold score
    refine congrArg (· * scl) (Finset.sum_congr rfl fun e' _ => ?_)
    rw [ldQ, B.h0, ldC, B.h7']
  · rw [ldC, B.h7v']

end Cert.Proof.TileI

end
-- ==== Proof.AttnArrI.lean ====
/- The attention over the reals: what its result array holds. -/
module

public import proofs.«01_k».proof.Proof.AttnValI

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.SL Idealize.SL.Sem
open Idealize.ShloMosaic.Pipeline (Dat Window cellOf)
open Sums (att cnt one)

/-- How often position `t` attends position `j`: its window, the multiples of 128 before the window, and two single positions. -/
def wantN (t : Fin 2048) (P0 P1 : Prop) [Decidable P0] [Decidable P1] (p0 p1 j : Fin 2048) : ℕ :=
  (if t.val ≤ j.val + 32 ∧ j.val ≤ t.val then 1 else 0) + (if j.val % 128 = 0 ∧ j.val + 32 < t.val then 1 else 0)
    + (if P0 ∧ p0 = j then 1 else 0) + (if P1 ∧ p1 = j then 1 else 0)

theorem cnt_of_inj {ι : Type} [Fintype ι] [DecidableEq ι] {n : ℕ} (P : ι → Prop) [DecidablePred P] (pos : ι → Fin n) (j : Fin n) (Q : Prop) [Decidable Q]
    (hinj : ∀ a b, P a → P b → pos a = pos b → a = b) (hQ : Q ↔ ∃ a, P a ∧ pos a = j) : cnt P pos j = if Q then 1 else 0 := by
  unfold cnt
  by_cases h : Q
  · obtain ⟨a, ha, haj⟩ := hQ.1 h
    rw [if_pos h, Finset.card_eq_one]
    refine ⟨a, Finset.ext fun b => ?_⟩
    rw [Finset.mem_filter, Finset.mem_singleton]
    exact ⟨fun hb => hinj b a hb.2.1 ha (hb.2.2.trans haj.symm), fun hb => hb ▸ ⟨Finset.mem_univ _, ha, haj⟩⟩
  · rw [if_neg h, Finset.card_eq_zero, Finset.filter_eq_empty_iff]
    exact fun a _ ha => h (hQ.2 ⟨a, ha⟩)

theorem kerN_eq (i : grid2.Coords) (r : Fin 128) (P0 P1 : Prop) [Decidable P0] [Decidable P1] (p0 p1 : Fin 2048) :
    kerN i r P0 P1 p0 p1 = wantN (row i r) P0 P1 p0 p1 := by
  funext j
  have hi : (i 0).val < 16 := (i 0).isLt
  have hj := j.isLt
  unfold kerN wantN
  refine congrArg₂ (· + ·) (congrArg₂ (· + ·) (congrArg₂ (· + ·) ?_ ?_) ?_) ?_
  · refine cnt_of_inj _ _ _ _ (fun a b ha hb hab => ?_) ⟨fun h => ⟨⟨j.val + 128 - 128 * (i 0).val, ?_⟩, ?_, ?_⟩, ?_⟩
    · have := congrArg Fin.val hab
      unfold inBand at ha hb
      simp only [] at this
      exact Fin.ext (by omega)
    · simp only [] at h; omega
    · unfold inBand; simp only [] at h ⊢; omega
    · apply Fin.ext; simp only [] at h ⊢; omega
    · rintro ⟨a, ha, rfl⟩
      unfold inBand at ha
      simp only []; omega
  · refine cnt_of_inj _ _ _ _ (fun a b ha hb hab => ?_) ⟨fun h => ⟨⟨j.val / 128, by omega⟩, ?_, ?_⟩, ?_⟩
    · have := congrArg Fin.val hab
      simp only [] at this
      exact Fin.ext (by omega)
    · unfold inLand; simp only [] at h ⊢; omega
    · apply Fin.ext; simp only [] at h ⊢; omega
    · rintro ⟨a, ha, rfl⟩
      unfold inLand at ha
      simp only []; omega
  · exact cnt_of_inj _ _ _ _ (fun _ _ _ _ _ => rfl) ⟨fun h => ⟨(), h⟩, fun ⟨_, h⟩ => h⟩
  · exact cnt_of_inj _ _ _ _ (fun _ _ _ _ _ => rfl) ⟨fun h => ⟨(), h⟩, fun ⟨_, h⟩ => h⟩

/-- Head `h`'s attention at position `t`, its component `e`. -/
def attK (q k v : S2048x1024.Idx → EReal) (P0 P1 : Fin 16 → Fin 2048 → Prop) [∀ h t, Decidable (P0 h t)] [∀ h t, Decidable (P1 h t)]
    (p0 p1 : Fin 16 → Fin 2048 → Fin 2048) (h : Fin 16) (t : Fin 2048) (e : Fin 64) : EReal :=
  att (wantN t (P0 h t) (P1 h t) (p0 h t) (p1 h t)) (score q k h t) fun j => v (ix2 j (col h e))

/-- The attention at position `t`, its column `o`. -/
def attO (q k v : S2048x1024.Idx → EReal) (P0 P1 : Fin 16 → Fin 2048 → Prop) [∀ h t, Decidable (P0 h t)] [∀ h t, Decidable (P1 h t)]
    (p0 p1 : Fin 16 → Fin 2048 → Fin 2048) (t : Fin 2048) (o : Fin 1024) : EReal :=
  attK q k v P0 P1 p0 p1 ⟨o.val / 64, by omega⟩ t ⟨o.val % 64, by omega⟩

variable (V : (c : Dev nD) → (b : Ref sig .tc) → Buf (Elt Ideal) ((c : Thread nD τ).loc b))

/-- What the attention's input arrays hold besides the queries, the keys and the values. -/
structure Inputs (c : Dev nD) (P0 P1 : Fin 16 → Fin 2048 → Prop) [∀ h t, Decidable (P0 h t)] [∀ h t, Decidable (P1 h t)] (p0 p1 : Fin 16 → Fin 2048 → Fin 2048) : Prop where
  kl : ∀ l (o : Fin 1024), (V c main_v7 : S16x1024.Idx → EReal) (ix2 l o) = (V c main_v5 : S2048x1024.Idx → EReal) (ix2 (posL l) o)
  vl : ∀ l (o : Fin 1024), (V c main_v8 : S16x1024.Idx → EReal) (ix2 l o) = (V c main_v6 : S2048x1024.Idx → EReal) (ix2 (posL l) o)
  k0 : ∀ h t (e : Fin 64), (V c main_v32 : S2x16x2048x128.Idx → EReal) (ix4 0 h t ⟨64 * (0 : Fin 2).val + e.val, by simp; omega⟩) = (V c main_v5 : S2048x1024.Idx → EReal) (ix2 (p0 h t) (col h e))
  k1 : ∀ h t (e : Fin 64), (V c main_v32 : S2x16x2048x128.Idx → EReal) (ix4 1 h t ⟨64 * (0 : Fin 2).val + e.val, by simp; omega⟩) = (V c main_v5 : S2048x1024.Idx → EReal) (ix2 (p1 h t) (col h e))
  v0 : ∀ h t (e : Fin 64), (V c main_v32 : S2x16x2048x128.Idx → EReal) (ix4 0 h t ⟨64 * (1 : Fin 2).val + e.val, by simp; omega⟩) = (V c main_v6 : S2048x1024.Idx → EReal) (ix2 (p0 h t) (col h e))
  v1 : ∀ h t (e : Fin 64), (V c main_v32 : S2x16x2048x128.Idx → EReal) (ix4 1 h t ⟨64 * (1 : Fin 2).val + e.val, by simp; omega⟩) = (V c main_v6 : S2048x1024.Idx → EReal) (ix2 (p1 h t) (col h e))
  b0 : ∀ h t, (V c main_v22 : S16x2048x8.Idx → EReal) (ix3 h t 0) = (if P0 h t then 0 else ⊥ : EReal)
  b1 : ∀ h t, (V c main_v22 : S16x2048x8.Idx → EReal) (ix3 h t 1) = (if P1 h t then 0 else ⊥ : EReal)

theorem idx2_0 : ∀ t : Fin cfg2.N, win2_0.index t = ![t.val, 0] := (by decide +kernel : ∀ t : Fin grid2.N, _)
theorem idx2_1 : ∀ t : Fin cfg2.N, win2_1.index t = ![t.val - 1, 0] := (by decide +kernel : ∀ t : Fin grid2.N, _)
theorem idx2_2 : ∀ t : Fin cfg2.N, win2_2.index t = ![t.val, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![t.val - 1, 0] := (by decide +kernel : ∀ t : Fin grid2.N, _)
theorem idx2_5 : ∀ t : Fin cfg2.N, win2_5.index t = ![t.val, 0] := (by decide +kernel : ∀ t : Fin grid2.N, _)
theorem idx2_6 : ∀ t : Fin cfg2.N, win2_6.index t = ![0, 0] := (by decide +kernel : ∀ t : Fin grid2.N, _)
theorem idx2_7 : ∀ t : Fin cfg2.N, win2_7.index t = ![0, 0, t.val, 0] := (by decide +kernel : ∀ t : Fin grid2.N, _)
theorem idx2_8 : ∀ t : Fin cfg2.N, win2_8.index t = ![0, t.val, 0] := (by decide +kernel : ∀ t : Fin grid2.N, _)
theorem idx2_9 : ∀ t : Fin cfg2.N, win2_9.index t = ![t.val, 0] := (by decide +kernel : ∀ t : Fin grid2.N, _)
theorem coords2 : ∀ t : Fin cfg2.N, (grid2.coords t 0).val = t.val := (by decide +kernel : ∀ t : Fin grid2.N, _)

theorem blk2_0 (c : Dev nD) (t : Fin cfg2.N) (r : Fin 128) (o : Fin 1024) (y : Fin 2048) (hy : y.val = t.val * 128 + r.val) :
    iblk2 V c 0 t (ix2 r o) = (V c main_v4 : S2048x1024.Idx → EReal) (ix2 y o) := by
  blk_ext [iblk2, idx2_0]
theorem blk2_1 (c : Dev nD) (t : Fin cfg2.N) (r : Fin 128) (o : Fin 1024) (y : Fin 2048) (hy : y.val = (t.val - 1) * 128 + r.val) :
    iblk2 V c 1 t (ix2 r o) = (V c main_v5 : S2048x1024.Idx → EReal) (ix2 y o) := by
  blk_ext [iblk2, idx2_1]
theorem blk2_2 (c : Dev nD) (t : Fin cfg2.N) (r : Fin 128) (o : Fin 1024) (y : Fin 2048) (hy : y.val = t.val * 128 + r.val) :
    iblk2 V c 2 t (ix2 r o) = (V c main_v5 : S2048x1024.Idx → EReal) (ix2 y o) := by
  blk_ext [iblk2, idx2_2]
theorem blk2_4 (c : Dev nD) (t : Fin cfg2.N) (r : Fin 128) (o : Fin 1024) (y : Fin 2048) (hy : y.val = (t.val - 1) * 128 + r.val) :
    iblk2 V c 4 t (ix2 r o) = (V c main_v6 : S2048x1024.Idx → EReal) (ix2 y o) := by
  blk_ext [iblk2, idx2_4]
theorem blk2_5 (c : Dev nD) (t : Fin cfg2.N) (r : Fin 128) (o : Fin 1024) (y : Fin 2048) (hy : y.val = t.val * 128 + r.val) :
    iblk2 V c 5 t (ix2 r o) = (V c main_v6 : S2048x1024.Idx → EReal) (ix2 y o) := by
  blk_ext [iblk2, idx2_5]
theorem blk2_3 (c : Dev nD) (t : Fin cfg2.N) (l : Fin 16) (o : Fin 1024) : iblk2 V c 3 t (ix2 l o) = (V c main_v7 : S16x1024.Idx → EReal) (ix2 l o) := by
  blk_ext [iblk2, idx2_3]
theorem blk2_6 (c : Dev nD) (t : Fin cfg2.N) (l : Fin 16) (o : Fin 1024) : iblk2 V c 6 t (ix2 l o) = (V c main_v8 : S16x1024.Idx → EReal) (ix2 l o) := by
  blk_ext [iblk2, idx2_6]
theorem blk2_7 (c : Dev nD) (t : Fin cfg2.N) (k : Fin 2) (h : Fin 16) (r o : Fin 128) (y : Fin 2048) (hy : y.val = t.val * 128 + r.val) :
    iblk2 V c 7 t (ix4 k h r o) = (V c main_v32 : S2x16x2048x128.Idx → EReal) (ix4 k h y o) := by
  blk_ext [iblk2, idx2_7]
theorem blk2_8 (c : Dev nD) (t : Fin cfg2.N) (h : Fin 16) (r : Fin 128) (b : Fin 8) (y : Fin 2048) (hy : y.val = t.val * 128 + r.val) :
    iblk2 V c 8 t (ix3 h r b) = (V c main_v22 : S16x2048x8.Idx → EReal) (ix3 h y b) := by
  blk_ext [iblk2, idx2_8]

theorem blocks2 {c : Dev nD} {P0 P1 : Fin 16 → Fin 2048 → Prop} [∀ h t, Decidable (P0 h t)] [∀ h t, Decidable (P1 h t)] {p0 p1 : Fin 16 → Fin 2048 → Fin 2048}
    (I : Inputs V c P0 P1 p0 p1) (t : Fin cfg2.N) (h : Fin 16) (r : Fin 128) :
    Blocks (grid2.coords t) h r (V c main_v4) (V c main_v5) (V c main_v6) (P0 h (row (grid2.coords t) r)) (P1 h (row (grid2.coords t) r))
      (p0 h (row (grid2.coords t) r)) (p1 h (row (grid2.coords t) r))
      (iblk2 V c 0 t) (iblk2 V c 1 t) (iblk2 V c 2 t) (iblk2 V c 3 t) (iblk2 V c 4 t) (iblk2 V c 5 t) (iblk2 V c 6 t) (iblk2 V c 7 t) (iblk2 V c 8 t) := by
  have ht : t.val < 16 := t.isLt
  have e := coords2 t
  constructor
  · intro o; exact blk2_0 V c t r _ _ (by simp only []; omega)
  · intro a ha o h128; exact blk2_1 V c t _ _ _ (by simp only []; omega)
  · intro a ha o; exact blk2_2 V c t _ _ _ (by simp only []; omega)
  · intro l o; exact (blk2_3 V c t l _).trans (I.kl l (col h o))
  · intro a ha o h128; exact blk2_4 V c t _ _ _ (by simp only []; omega)
  · intro a ha o; exact blk2_5 V c t _ _ _ (by simp only []; omega)
  · intro l o; exact (blk2_6 V c t l _).trans (I.vl l (col h o))
  · intro o; exact (blk2_7 V c t _ _ _ _ _ (by simp only []; omega)).trans (I.k0 h (row (grid2.coords t) r) o)
  · intro o; exact (blk2_7 V c t _ _ _ _ _ (by simp only []; omega)).trans (I.k1 h (row (grid2.coords t) r) o)
  · intro o; exact (blk2_7 V c t _ _ _ _ _ (by simp only []; omega)).trans (I.v0 h (row (grid2.coords t) r) o)
  · intro o; exact (blk2_7 V c t _ _ _ _ _ (by simp only []; omega)).trans (I.v1 h (row (grid2.coords t) r) o)
  · exact (blk2_8 V c t _ _ _ _ (by simp only []; omega)).trans (I.b0 h (row (grid2.coords t) r))
  · exact (blk2_8 V c t _ _ _ _ (by simp only []; omega)).trans (I.b1 h (row (grid2.coords t) r))

theorem hd_block {c : Dev nD} {P0 P1 : Fin 16 → Fin 2048 → Prop} [∀ h t, Decidable (P0 h t)] [∀ h t, Decidable (P1 h t)] {p0 p1 : Fin 16 → Fin 2048 → Fin 2048}
    (I : Inputs V c P0 P1 p0 p1) (t : Fin cfg2.N) (h : Fin 16) (r : Fin 128) (e : Fin 64) (y0 : Fin 2048) (y1 : Fin 1024)
    (h0 : y0.val = t.val * 128 + r.val) (h1 : y1.val = 64 * h.val + e.val) :
    hd (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) h (ix2 r e)
      = attO (V c main_v4) (V c main_v5) (V c main_v6) P0 P1 p0 p1 y0 y1 := by
  refine (hd_att (blocks2 V I t h r) e).trans ?_
  have e0 : row (grid2.coords t) r = y0 := Fin.ext (by have := coords2 t; simp only []; omega)
  have e1 : (⟨y1.val / 64, by omega⟩ : Fin 16) = h := Fin.ext (by simp only []; omega)
  have e2 : (⟨y1.val % 64, by omega⟩ : Fin 64) = e := Fin.ext (by simp only []; omega)
  unfold attO
  rw [e1, e2, ← e0, kerN_eq]
  rfl

theorem mem_pieces (p : Fin 16 → Vec Ideal S128x64 .bf16) : ∀ pc ∈ pieces p, ∃ h, pc = ⟨rQ h, p h⟩ := by
  intro pc hpc
  simp only [List.mem_cons, List.not_mem_nil, or_false] at hpc
  rcases hpc with h | h | h | h | h | h | h | h | h | h | h | h | h | h | h | h <;> exact ⟨_, h⟩

theorem arr2_9 {c : Dev nD} {P0 P1 : Fin 16 → Fin 2048 → Prop} [∀ h t, Decidable (P0 h t)] [∀ h t, Decidable (P1 h t)] {p0 p1 : Fin 16 → Fin 2048 → Fin 2048}
    (I : Inputs V c P0 P1 p0 p1) : (dat2 V c).arrAt 9 cfg2.N = fun y : S2048x1024.Idx =>
      attO (V c main_v4) (V c main_v5) (V c main_v6) P0 P1 p0 p1 (y 0) (y 1) := by
  refine (dat2 V c).arrAt_eq_of_covers 9 _ (by decide +kernel) fun t hf y => ?_
  blk_simp
  rw [after2_9]
  frame_out [out2_9]
  refine View.canon_apply_of_pieces (Val := Elt Ideal) (S := S128x1024) (e := .bf16) (fun z => attO (V c main_v4) (V c main_v5) (V c main_v6) P0 P1 p0 p1 (((View.whole main_v33).slice (win2_9.rect t)).emb z 0)
    (((View.whole main_v33).slice (win2_9.rect t)).emb z 1)) _ (fun pc hpc x => ?_) y (cover2_9 _ _ _ _ _ _ _ _ _ _ _ _ _ _ _ _ y)
  obtain ⟨h, rfl⟩ := mem_pieces _ pc hpc
  obtain ⟨r, e, rfl⟩ : ∃ (r : Fin 128) (e : Fin 64), x = ix2 r e := ⟨x 0, x 1, eq_ix2 _⟩
  refine hd_block V I t h r e _ _ ?_ ?_
  · blk_simp [idx2_9]
    show t.val * 128 + ((rQ h).idx (ix2 r e) 0).val = _
    rw [Rect.idx_unit_val]
    exact congrArg (t.val * 128 + ·) (Nat.zero_add r.val)
  · blk_simp [idx2_9]
    show ((rQ h).idx (ix2 r e) 1).val = _
    rw [Rect.idx_unit_val]
    rfl

end Cert.Proof.TileI

end
-- ==== Proof.HostValI.lean ====
/- The buffers of the whole kernel over the reals, at an index. -/
module

public import proofs.«01_k».proof.Proof.IdxI
public import proofs.«01_k».proof.Proof.ProjI
public import proofs.«01_k».proof.Proof.AttnArrI

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.SL Idealize.SL.Sem
open Sums (att cnt one)

variable (m : (ℓ : Loc nD τ sig) → Buf (Elt Ideal) ℓ)

abbrev xA (c : Dev nD) : S1x2048x1024.Idx → EReal := m ((c : Thread nD τ).loc main_arg0)
abbrev wA (c : Dev nD) : S3072x1024.Idx → EReal := m ((c : Thread nD τ).loc main_arg1)
abbrev oA (c : Dev nD) : S1024x1024.Idx → EReal := m ((c : Thread nD τ).loc main_arg2)

/-- The projections of the tokens, one column of the weights each. -/
def proj (x : S1x2048x1024.Idx → EReal) (w : S3072x1024.Idx → EReal) (t : Fin 2048) (o : Fin 3072) : EReal :=
  ∑ e : Fin 1024, x (ix3 0 t e) * w (ix2 o e)

theorem V1_v1 (c : Dev nD) (t : Fin 2048) (e : Fin 1024) : (V1 m c main_v1 : S2048x1024.Idx → EReal) (ix2 t e) = xA m c (ix3 0 t e) := by
  show W1 m c (Proc.devRef .tc main_v1) (ix2 t e) = _
  unfold W1
  after_reads_at
theorem V1_v2 (c : Dev nD) (o : Fin 3072) (e : Fin 1024) : (V1 m c main_v2 : S3072x1024.Idx → EReal) (ix2 o e) = wA m c (ix2 o e) := by
  show W1 m c (Proc.devRef .tc main_v2) (ix2 o e) = _
  unfold W1
  after_reads_at

theorem rows_proj (c : Dev nD) (t : Fin 2048) (o : Fin 3072) :
    rowsDot (V1 m c main_v1 : S2048x1024.Idx → EReal) (V1 m c main_v2 : S3072x1024.Idx → EReal) t o = proj (xA m c) (wA m c) t o :=
  Finset.sum_congr rfl fun e _ => by rw [V1_v1, V1_v2]

theorem W2_v3_0 (c : Dev nD) (t : Fin 2048) (o : Fin 3072) :
    (W2 m c (Proc.devRef .tc main_v3_0) : S2048x3072.Idx → EReal) (ix2 t o) = proj (xA m c) (wA m c) t o :=
  (congrFun ((W2_arr m c 2).trans (arr0_2 (V1 m) c)) (ix2 t o)).trans (rows_proj m c t o)

theorem W2_v3_1 (c : Dev nD) (p : Fin 32768) (l : Fin 128) :
    (W2 m c (Proc.devRef .tc main_v3_1) : S32768x128.Idx → EReal) (ix2 p l) = kvRow (V1 m c main_v1) (V1 m c main_v2) p l :=
  congrFun ((W2_arr m c 3).trans (arr0_3 (V1 m) c)) (ix2 p l)

theorem back3 (c : Dev nD) (r : Ref sig .tc) (h : r ∉ hostOpsS_W ∧ r ∉ [main_v31] ∧ r ∉ hostOps1_6_W ∧ r ∉ hostOps1_5_W ∧ r ∉ hostOps1_4_W ∧ r ∉ hostOps1_3_W ∧ r ∉ hostOps1_2_W ∧ r ∉ hostOps1_1_W) :
    W11 m c (Proc.devRef .tc r) = W3 m c (Proc.devRef .tc r) := by
  obtain ⟨h1, h2, h3, h4, h5, h6, h7, h8⟩ := h
  rw [W11_of m c r h1, W10_of m c r h2, W9_of m c r h3, W8_of m c r h4, W7_of m c r h5, W6_of m c r h6, W5_of m c r h7, W4_of m c r h8]

theorem V11_v4 (c : Dev nD) (t : Fin 2048) (o : Fin 1024) : (V11 m c main_v4 : S2048x1024.Idx → EReal) (ix2 t o) = proj (xA m c) (wA m c) t ⟨o.val, by omega⟩ := by
  refine (congrFun (back3 m c main_v4 (by decide)) (ix2 t o)).trans ?_
  unfold W3
  after_reads_at
  exact W2_v3_0 m c t _
theorem V11_v5 (c : Dev nD) (t : Fin 2048) (o : Fin 1024) : (V11 m c main_v5 : S2048x1024.Idx → EReal) (ix2 t o) = proj (xA m c) (wA m c) t ⟨1024 + o.val, by omega⟩ := by
  refine (congrFun (back3 m c main_v5 (by decide)) (ix2 t o)).trans ?_
  unfold W3
  after_reads_at
  exact W2_v3_0 m c t _
theorem V11_v6 (c : Dev nD) (t : Fin 2048) (o : Fin 1024) : (V11 m c main_v6 : S2048x1024.Idx → EReal) (ix2 t o) = proj (xA m c) (wA m c) t ⟨2048 + o.val, by omega⟩ := by
  refine (congrFun (back3 m c main_v6 (by decide)) (ix2 t o)).trans ?_
  unfold W3
  after_reads_at
  exact W2_v3_0 m c t _
theorem V11_v7 (c : Dev nD) (l : Fin 16) (o : Fin 1024) : (V11 m c main_v7 : S16x1024.Idx → EReal) (ix2 l o) = proj (xA m c) (wA m c) (posL l) ⟨1024 + o.val, by omega⟩ := by
  refine (congrFun (back3 m c main_v7 (by decide)) (ix2 l o)).trans ?_
  unfold W3
  after_reads_at
  exact W2_v3_0 m c _ _
theorem V11_v8 (c : Dev nD) (l : Fin 16) (o : Fin 1024) : (V11 m c main_v8 : S16x1024.Idx → EReal) (ix2 l o) = proj (xA m c) (wA m c) (posL l) ⟨2048 + o.val, by omega⟩ := by
  refine (congrFun (back3 m c main_v8 (by decide)) (ix2 l o)).trans ?_
  unfold W3
  after_reads_at
  exact W2_v3_0 m c _ _

theorem V11_v32 (c : Dev nD) (k : Fin 2) (h : Fin 16) (t : Fin 2048) (l : Fin 128) : (V11 m c main_v32 : S2x16x2048x128.Idx → EReal) (ix4 k h t l)
      = (W10 m c (Proc.devRef .tc main_v31) : S65536x128.Idx → EReal) (ix2 ⟨(k.val * 16 + h.val) * 2048 + t.val, by omega⟩ l) := by
  show W11 m c (Proc.devRef .tc main_v32) (ix4 k h t l) = _
  unfold W11
  after_reads_at
  exact congrArg (fun p => (W10 m c (Proc.devRef .tc main_v31) : S65536x128.Idx → EReal) (ix2 p l)) (Fin.ext (by simp only []; omega))

/-- The remainder by 128 as the host takes it. -/
theorem rem_word {n : BitVec 32} (hn : n.toNat < 2048) :
    (Scalar.select (IntOp.andi (IntOp.cmpi .ne (IntOp.cmpi .slt (IntOp.remsi .host n (Scalar.select (IntOp.cmpi .eq 128#32 0#32) 1#32 128#32)) 0#32)
        (IntOp.cmpi .slt (Scalar.select (IntOp.cmpi .eq 128#32 0#32) 1#32 128#32) 0#32))
        (IntOp.cmpi .ne (IntOp.remsi .host n (Scalar.select (IntOp.cmpi .eq 128#32 0#32) 1#32 128#32)) 0#32))
      (IntOp.addi (IntOp.remsi .host n (Scalar.select (IntOp.cmpi .eq 128#32 0#32) 1#32 128#32)) (Scalar.select (IntOp.cmpi .eq 128#32 0#32) 1#32 128#32))
      (IntOp.remsi .host n (Scalar.select (IntOp.cmpi .eq 128#32 0#32) 1#32 128#32)) : BitVec 32).toNat = n.toNat % 128 := by
  have hD : (Scalar.select (IntOp.cmpi .eq 128#32 0#32) 1#32 128#32 : BitVec 32) = 128#32 := by decide
  rw [hD]
  have hr := IntOp.toNat_remsi .host (x := n) (by omega) 128 (by omega) (by omega)
  generalize IntOp.remsi .host n 128#32 = r at *
  have h1 : IntOp.cmpi .slt r 0#32 = 0#1 := by
    have : ¬ IntOp.cmpi .slt r 0#32 = 1#1 := by word_omega
    revert this; generalize IntOp.cmpi .slt r 0#32 = b; revert b; decide
  rw [h1, show IntOp.cmpi .ne (0#1) (IntOp.cmpi .slt 128#32 0#32) = 0#1 by decide]
  generalize IntOp.cmpi .ne r 0#32 = b
  rw [show IntOp.andi (0#1) b = 0#1 by revert b; decide]
  exact hr

theorem V11_v22 (c : Dev nD) (h : Fin 16) (t : Fin 2048) (k : Fin 2) (k8 : Fin 8) (hk : k8.val = k.val)
    (hn : (nbr m c (ix3 h t ⟨k.val, by omega⟩)).toNat < 2048) :
    (V11 m c main_v22 : S16x2048x8.Idx → EReal) (ix3 h t k8)
      = (if (nbr m c (ix3 h t ⟨k.val, by omega⟩)).toNat + 32 < t.val ∧ (nbr m c (ix3 h t ⟨k.val, by omega⟩)).toNat % 128 ≠ 0 then 0 else ⊥ : EReal) := by
  refine (congrFun ((W11_of m c main_v22 (by decide)).trans ((W10_of m c main_v22 (by decide)).trans (W9_of m c main_v22 (by decide)))) (ix3 h t k8)).trans ?_
  unfold W8 W7 W6 W5 W4 W3
  after_reads_at
  rw [dif_pos (by omega)]
  simp only [id_eq]
  pointwise
  rw [W2_args m c main_arg4 (by decide)]
  have e : (ix3 h t ⟨k8.val, by omega⟩ : S16x2048x51.Idx) = ix3 h t ⟨k.val, by omega⟩ := by simp only [hk]
  rw [show (m ((c : Thread nD τ).loc main_arg4) : S16x2048x51.Idx → BitVec 32) (ix3 h t ⟨k8.val, by omega⟩) = nbr m c (ix3 h t ⟨k.val, by omega⟩) from congrArg (nbr m c) e]
  generalize nbr m c (ix3 h t ⟨k.val, by omega⟩) = n at *
  have hr := rem_word hn
  generalize (Scalar.select (IntOp.andi _ _) _ _ : BitVec 32) = r at *
  have ht := t.isLt
  have hs := toNat_subi (BitVec.ofNat 32 t.val) 32#32
  generalize IntOp.subi (BitVec.ofNat 32 t.val) 32#32 = s at *
  simp only [BitVec.toNat_ofNat] at hs
  have hb : IntOp.andi (IntOp.cmpi .slt n s) (IntOp.cmpi .ne r 0#32) = 1#1 ↔ (n.toNat + 32 < t.val ∧ n.toNat % 128 ≠ 0) := by word_omega
  rw [negInf]
  unfold Scalar.select
  by_cases hc : n.toNat + 32 < t.val ∧ n.toNat % 128 ≠ 0
  · rw [if_pos hc]
    exact if_pos (hb.2 hc)
  · rw [if_neg hc]
    exact if_neg fun e => hc (hb.1 e)

end Cert.Proof.TileI

end
-- ==== Proof.KerValI.lean ====
/- The whole kernel's result over the reals. -/
module

public import proofs.«01_k».proof.Proof.HostValI

@[expose] public section

set_option maxRecDepth 16384

noncomputable section

namespace Cert.Proof.TileI

open Cert.KernelIdeal Cert.KernelIdeal.Gen
open Idealize.ShloMosaic Idealize.ShloMosaic.TcCoe Idealize.ShloMosaic.Tactic
open Idealize.SL Idealize.SL.Sem
open Sums (att cnt one)

variable (m : (ℓ : Loc nD τ sig) → Buf (Elt Ideal) ℓ)

/-- The two listed positions, and whether each counts beside the window and the landmarks. -/
def pA (n : S16x2048x51.Idx → BitVec 32) (k : Fin 2) (h : Fin 16) (t : Fin 2048) : Fin 2048 :=
  ⟨(n (ix3 h t ⟨k.val, by omega⟩)).toNat % 2048, by omega⟩
def PA (n : S16x2048x51.Idx → BitVec 32) (k : Fin 2) (h : Fin 16) (t : Fin 2048) : Prop :=
  (n (ix3 h t ⟨k.val, by omega⟩)).toNat + 32 < t.val ∧ (n (ix3 h t ⟨k.val, by omega⟩)).toNat % 128 ≠ 0
instance (n : S16x2048x51.Idx → BitVec 32) (k : Fin 2) (h : Fin 16) (t : Fin 2048) : Decidable (PA n k h t) := by
  unfold PA; infer_instance

/-- The precondition on the lists. -/
def InRange (n : S16x2048x51.Idx → BitVec 32) : Prop :=
  ∀ (h : Fin 16) (t : Fin 2048) (d : Fin 51), (if d.val < 2 then 0 else -1) ≤ (n (ix3 h t d)).toInt ∧ (n (ix3 h t d)).toInt < 2048

theorem InRange.first {n : S16x2048x51.Idx → BitVec 32} (hn : InRange n) (k : Fin 2) (h : Fin 16) (t : Fin 2048) :
    0 ≤ (n (ix3 h t ⟨k.val, by omega⟩)).toInt ∧ (n (ix3 h t ⟨k.val, by omega⟩)).toInt < 2048 := by
  have := hn h t ⟨k.val, by omega⟩
  rwa [if_pos (by simp only []; omega)] at this

theorem kvRow_at (x : S2048x1024.Idx → EReal) (w : S3072x1024.Idx → EReal) (p : Fin 2048) (h : Fin 16) (l : Fin 128) (hp : p.val * 16 + h.val < 32768) :
    kvRow x w ⟨p.val * 16 + h.val, hp⟩ l
      = rowsDot x w p (if l.val < 64 then ⟨1024 + (h.val * 64 + l.val % 64), by omega⟩ else ⟨2048 + (h.val * 64 + l.val % 64), by omega⟩) := by
  have e2 : (p.val * 16 + h.val) % 16 = h.val := by omega
  unfold kvRow
  simp only [e2]
  exact congrArg (fun q : Fin 2048 => rowsDot x w q _) (Fin.ext (by simp only []; omega))

theorem rowsDot_of (x : S2048x1024.Idx → EReal) (w : S1024x1024.Idx → EReal) (t : Fin 2048) (o : Fin 1024) (f : Fin 1024 → EReal)
    (h : ∀ e, x (ix2 t e) * w (ix2 o e) = f e) : rowsDot x w t o = ∑ e, f e := Finset.sum_congr rfl fun e _ => h e

theorem v32_kv {c : Dev nD} (hn : InRange (nbr m c)) (k : Fin 2) (h : Fin 16) (t : Fin 2048) (l : Fin 128) :
    (V11 m c main_v32 : S2x16x2048x128.Idx → EReal) (ix4 k h t l)
      = proj (xA m c) (wA m c) (pA (nbr m c) k h t) (if l.val < 64 then ⟨1024 + (h.val * 64 + l.val % 64), by omega⟩ else ⟨2048 + (h.val * 64 + l.val % 64), by omega⟩) := by
  have hf := hn.first k h t
  have hl := list_at h hf.1 hf.2
  have hb := toNat_lt hf.1 hf.2
  refine (V11_v32 m c k h t l).trans ?_
  refine (congrFun (W10_main_v31 m c) _).trans ?_
  have e : (⟨(Im m c (ix2 0 ⟨(k.val * 16 + h.val) * 2048 + t.val, by omega⟩)).toNat % 32768, Nat.mod_lt _ (by decide)⟩ : Fin 32768)
      = ⟨(pA (nbr m c) k h t).val * 16 + h.val, by have := (pA (nbr m c) k h t).isLt; omega⟩ := Fin.ext (by
    show (Im m c (ix2 0 ⟨(k.val * 16 + h.val) * 2048 + t.val, by omega⟩)).toNat % 32768 = (nbr m c (ix3 h t ⟨k.val, by omega⟩)).toNat % 2048 * 16 + h.val
    rw [show Im m c (ix2 0 ⟨(k.val * 16 + h.val) * 2048 + t.val, by omega⟩) = _ from W9_v30 m c h t k, hl]
    omega)
  refine (congrArg (fun p : Fin 32768 => Tm m c (ix2 p l)) e).trans ?_
  have hT : Tm m c = W2 m c (Proc.devRef .tc main_v3_1) := by
    show W9 m c (Proc.devRef .tc main_v3_1) = _
    rw [W9_of m c main_v3_1 (by decide), W8_of m c main_v3_1 (by decide), W7_of m c main_v3_1 (by decide), W6_of m c main_v3_1 (by decide), W5_of m c main_v3_1 (by decide), W4_of m c main_v3_1 (by decide), W3_of m c main_v3_1 (by decide)]
  refine (congrFun hT _).trans ((W2_v3_1 m c _ _).trans ?_)
  exact (kvRow_at _ _ (pA (nbr m c) k h t) h l _).trans (rows_proj m c _ _)

theorem inputs {c : Dev nD} (hn : InRange (nbr m c)) :
    Inputs (V11 m) c (PA (nbr m c) 0) (PA (nbr m c) 1) (pA (nbr m c) 0) (pA (nbr m c) 1) where
  kl l o := (V11_v7 m c l o).trans (V11_v5 m c _ _).symm
  vl l o := (V11_v8 m c l o).trans (V11_v6 m c _ _).symm
  k0 h t e := (v32_kv m hn 0 h t _).trans (((V11_v5 m c _ _).trans (congrArg _ (by rw [if_pos (by simp)]; exact Fin.ext (by simp [col]; omega)))).symm)
  k1 h t e := (v32_kv m hn 1 h t _).trans (((V11_v5 m c _ _).trans (congrArg _ (by rw [if_pos (by simp)]; exact Fin.ext (by simp [col]; omega)))).symm)
  v0 h t e := (v32_kv m hn 0 h t _).trans (((V11_v6 m c _ _).trans (congrArg _ (by rw [if_neg (by simp)]; exact Fin.ext (by simp [col]; omega)))).symm)
  v1 h t e := (v32_kv m hn 1 h t _).trans (((V11_v6 m c _ _).trans (congrArg _ (by rw [if_neg (by simp)]; exact Fin.ext (by simp [col]; omega)))).symm)
  b0 h t := (V11_v22 m c h t 0 0 rfl (toNat_lt (hn.first 0 h t).1 (hn.first 0 h t).2)).trans rfl
  b1 h t := (V11_v22 m c h t 1 1 rfl (toNat_lt (hn.first 1 h t).1 (hn.first 1 h t).2)).trans rfl

theorem kernel_val {c : Dev nD} (hn : InRange (nbr m c)) (t : Fin 2048) (o : Fin 1024) :
    (W15 m c (Proc.devRef .tc main_v36) : S1x2048x1024.Idx → EReal) (ix3 0 t o)
      = ∑ e : Fin 1024, attO (V11 m c main_v4) (V11 m c main_v5) (V11 m c main_v6) (PA (nbr m c) 0) (PA (nbr m c) 1) (pA (nbr m c) 0) (pA (nbr m c) 1) t e
          * oA m c (ix2 o e) := by
  have e1 : (W15 m c (Proc.devRef .tc main_v36) : S1x2048x1024.Idx → EReal) (ix3 0 t o) = (W14 m c (Proc.devRef .tc main_v35) : S2048x1024.Idx → EReal) (ix2 t o) := by
    unfold W15
    after_reads_at
  refine e1.trans ?_
  refine (congrFun ((W14_arr m c 2).trans (arr3_2 (V13 m) c)) (ix2 t o)).trans ?_
  refine rowsDot_of _ _ t o _ fun e => ?_
  have e2 : (V13 m c main_v33 : S2048x1024.Idx → EReal) (ix2 t e) = (W12 m c (Proc.devRef .tc main_v33) : S2048x1024.Idx → EReal) (ix2 t e) :=
    congrFun (W13_of m c main_v33 (by decide)) _
  have e3 : (V13 m c main_v34 : S1024x1024.Idx → EReal) (ix2 o e) = oA m c (ix2 o e) := by
    show W13 m c (Proc.devRef .tc main_v34) (ix2 o e) = _
    unfold W13
    after_reads_at
    exact congrFun (W12_args m c main_arg2 (by decide)) _
  exact congrArg₂ (fun a b : EReal => a * b) (e2.trans (congrFun ((W12_arr m c 9).trans (arr2_9 (V11 m) (inputs m hn))) (ix2 t e))) e3

end Cert.Proof.TileI

end
-- ==== Proof.PreI.lean ====
/- What the precondition of the value claim says of the lists and the arguments. -/
module

public import proofs.«01_k».proof.Proof.KerValI
public import proofs.«01_k».proof.Proof.Gen.Pre_listed
public import Idealize.ShloMosaic.Lib.ReduceAll
public import Idealize.ShloMosaic.Lib.IndicatorCount

@[expose] public section

set_option maxRecDepth 16384

noncomputable section

namespace Cert.Proof.PreI

open Cert.Pre_listed Cert.Pre_listed.Gen
open Idealize.ShloMosaic Idealize.ShloMosaic.Tactic
open Cert.Proof.TileI (InRange PA pA wantN)

theorem fold_andi {ι : Type} [DecidableEq ι] (S : Finset ι) (f : ι → BitVec 1) (h : S.fold IntOp.andi (1#1) f = 1#1) : ∀ k ∈ S, f k = 1#1 := by
  induction S using Finset.induction_on with
  | empty => simp
  | insert a S ha ih =>
    rw [Finset.fold_insert ha] at h
    have key : ∀ x y : BitVec 1, IntOp.andi x y = 1#1 → x = 1#1 ∧ y = 1#1 := by decide
    obtain ⟨h1, h2⟩ := key _ _ h
    intro k hk
    rcases Finset.mem_insert.1 hk with rfl | hk
    · exact h1
    · exact ih h2 k hk

theorem fold_andi_univ {ι : Type} {_ : Fintype ι} {f : ι → BitVec 1} (h : Finset.univ.fold IntOp.andi (1#1) f = 1#1) (k : ι) : f k = 1#1 := by
  classical exact fold_andi _ _ h k (Finset.mem_univ k)

theorem bit_zero {b : BitVec 1} (h : ¬ b = 1#1) : b = 0#1 := by revert b; decide

theorem cmpi_eq (u w : BitVec 32) : IntOp.cmpi .eq u w = 1#1 ↔ u = w := by
  word_omega

theorem ind_le {w : BitVec 32} {P : Prop} [Decidable P] (h : w.toNat = if P then 1 else 0) : w.toNat ≤ 1 := by split at h <;> omega

theorem setWidth_ind {b : BitVec 1} {P : Prop} [Decidable P] (h : b = 1#1 ↔ P) : (b.setWidth 32).toNat = if P then 1 else 0 := by
  by_cases hp : P
  · rw [if_pos hp, h.2 hp]; rfl
  · rw [if_neg hp, bit_zero fun e => hp (h.1 e)]; rfl

theorem abs_lt_top {x : EReal} (h : BitVec.ofBool (decide ((FloatOps.absf (F := Ideal) (φ := .f32) x : EReal) < Ideal.ofBits .f32 0x7F800000#32)) = 1#1) : x ≠ ⊤ ∧ x ≠ ⊥ := by
  have ht : Ideal.ofBits .f32 0x7F800000#32 = ⊤ := by simp [Ideal.ofBits, Ideal.ieee, -EReal.coe_mul]
  rw [ht] at h
  have h' : max x (-x) < ⊤ := by
    by_contra hc
    rw [decide_eq_false (show ¬ (FloatOps.absf (F := Ideal) (φ := .f32) x : EReal) < ⊤ from hc)] at h
    exact absurd h (by decide)
  rw [max_lt_iff] at h'
  refine ⟨ne_of_lt h'.1, fun e => ?_⟩
  rw [e] at h'
  exact absurd h'.2 (by simp)

/-- The remainder by 128 as the predicate takes it. -/
abbrev remW (u : BitVec 32) : BitVec 32 :=
  Scalar.select (IntOp.andi (IntOp.cmpi .ne (IntOp.cmpi .slt (IntOp.remsi .host u (Scalar.select (IntOp.cmpi .eq 128#32 0#32) 1#32 128#32)) 0#32)
      (IntOp.cmpi .slt (Scalar.select (IntOp.cmpi .eq 128#32 0#32) 1#32 128#32) 0#32))
      (IntOp.cmpi .ne (IntOp.remsi .host u (Scalar.select (IntOp.cmpi .eq 128#32 0#32) 1#32 128#32)) 0#32))
    (IntOp.addi (IntOp.remsi .host u (Scalar.select (IntOp.cmpi .eq 128#32 0#32) 1#32 128#32)) (Scalar.select (IntOp.cmpi .eq 128#32 0#32) 1#32 128#32))
    (IntOp.remsi .host u (Scalar.select (IntOp.cmpi .eq 128#32 0#32) 1#32 128#32))

/-- How often a list names a position, from the predicate's word of it. -/
theorem count_eq {n : IVec S16x2048x51 32} (hn : InRange n) (h : Fin 16) (t j : Fin 2048) (hj : j.val ≤ t.val)
    (ec : IntOp.ori (IntOp.cmpi .sgt (BitVec.ofNat 32 j.val) (BitVec.ofNat 32 t.val))
      (IntOp.cmpi .eq (BitVec.ofNat 32 (Finset.univ.filter fun d : Fin 51 => IntOp.cmpi .eq (n (ix3 h t d)) (BitVec.ofNat 32 j.val) = 1#1).card)
        (IntOp.addi (IntOp.addi (IntOp.addi
          (BitVec.setWidth 32 (IntOp.andi (IntOp.cmpi .sge (BitVec.ofNat 32 j.val) (IntOp.subi (BitVec.ofNat 32 t.val) 32#32)) (IntOp.cmpi .sle (BitVec.ofNat 32 j.val) (BitVec.ofNat 32 t.val))))
          (BitVec.setWidth 32 (IntOp.andi (IntOp.cmpi .slt (BitVec.ofNat 32 j.val) (IntOp.subi (BitVec.ofNat 32 t.val) 32#32)) (IntOp.cmpi .eq (remW (BitVec.ofNat 32 j.val)) 0#32))))
          (BitVec.setWidth 32 (IntOp.andi (IntOp.andi (IntOp.cmpi .slt (BitVec.ofNat 32 j.val) (IntOp.subi (BitVec.ofNat 32 t.val) 32#32)) (IntOp.cmpi .ne (remW (BitVec.ofNat 32 j.val)) 0#32))
            (IntOp.cmpi .eq (n (ix3 h t 0)) (BitVec.ofNat 32 j.val)))))
          (BitVec.setWidth 32 (IntOp.andi (IntOp.andi (IntOp.cmpi .slt (BitVec.ofNat 32 j.val) (IntOp.subi (BitVec.ofNat 32 t.val) 32#32)) (IntOp.cmpi .ne (remW (BitVec.ofNat 32 j.val)) 0#32))
            (IntOp.cmpi .eq (n (ix3 h t 1)) (BitVec.ofNat 32 j.val)))))) = 1#1) :
    (Finset.univ.filter fun d : Fin 51 => n (ix3 h t d) = BitVec.ofNat 32 j.val).card = wantN t (PA n 0 h t) (PA n 1 h t) (pA n 0 h t) (pA n 1 h t) j := by
  have ecard : (Finset.univ.filter fun d : Fin 51 => IntOp.cmpi .eq (n (ix3 h t d)) (BitVec.ofNat 32 j.val) = 1#1).card
      = (Finset.univ.filter fun d : Fin 51 => n (ix3 h t d) = BitVec.ofNat 32 j.val).card := by
    refine congrArg Finset.card (Finset.filter_congr fun d _ => ?_)
    generalize n (ix3 h t d) = u
    generalize BitVec.ofNat 32 j.val = w
    exact cmpi_eq u w
  rw [ecard] at ec
  have hc : (Finset.univ.filter fun d : Fin 51 => n (ix3 h t d) = BitVec.ofNat 32 j.val).card ≤ 51 := (Finset.card_filter_le _ _).trans (by simp)
  generalize (Finset.univ.filter fun d : Fin 51 => n (ix3 h t d) = BitVec.ofNat 32 j.val).card = C at *
  have hs := Cert.Proof.TileI.toNat_subi (BitVec.ofNat 32 t.val) 32#32
  have h0 := hn.first 0 h t
  have h1 := hn.first 1 h t
  have b0 := Cert.Proof.TileI.toNat_lt h0.1 h0.2
  have b1 := Cert.Proof.TileI.toNat_lt h1.1 h1.2
  have hr := Cert.Proof.TileI.rem_word (n := BitVec.ofNat 32 j.val) (by rw [BitVec.toNat_ofNat]; omega)
  have hP0 : (PA n 0 h t ∧ pA n 0 h t = j) ↔ (j.val + 32 < t.val ∧ j.val % 128 ≠ 0) ∧ (n (ix3 h t 0)).toNat = j.val := by
    unfold PA pA
    rw [Fin.ext_iff]
    change ((n (ix3 h t 0)).toNat + 32 < t.val ∧ (n (ix3 h t 0)).toNat % 128 ≠ 0) ∧ (n (ix3 h t 0)).toNat % 2048 = j.val ↔ _
    change (n (ix3 h t 0)).toNat < 2048 at b0
    omega
  have hP1 : (PA n 1 h t ∧ pA n 1 h t = j) ↔ (j.val + 32 < t.val ∧ j.val % 128 ≠ 0) ∧ (n (ix3 h t 1)).toNat = j.val := by
    unfold PA pA
    rw [Fin.ext_iff]
    change ((n (ix3 h t 1)).toNat + 32 < t.val ∧ (n (ix3 h t 1)).toNat % 128 ≠ 0) ∧ (n (ix3 h t 1)).toNat % 2048 = j.val ↔ _
    change (n (ix3 h t 1)).toNat < 2048 at b1
    omega
  change (n (ix3 h t 0)).toNat < 2048 at b0
  change (n (ix3 h t 1)).toNat < 2048 at b1
  unfold wantN
  rw [if_congr hP0 rfl rfl, if_congr hP1 rfl rfl]
  clear hP0 hP1 h0 h1 ecard hn
  change (remW (BitVec.ofNat 32 j.val)).toNat = _ at hr
  generalize remW (BitVec.ofNat 32 j.val) = r at *
  generalize n (ix3 h t 0) = n0 at *
  generalize n (ix3 h t 1) = n1 at *
  generalize IntOp.subi (BitVec.ofNat 32 t.val) 32#32 = s at *
  simp only [BitVec.toNat_ofNat] at hs hr
  have ht := t.isLt
  generalize t.val = t' at *
  generalize j.val = j' at *
  have i1 := setWidth_ind (b := IntOp.andi (IntOp.cmpi .sge (BitVec.ofNat 32 j') s) (IntOp.cmpi .sle (BitVec.ofNat 32 j') (BitVec.ofNat 32 t')))
    (P := t' ≤ j' + 32 ∧ j' ≤ t') (by word_omega)
  have i2 := setWidth_ind (b := IntOp.andi (IntOp.cmpi .slt (BitVec.ofNat 32 j') s) (IntOp.cmpi .eq r 0#32)) (P := j' % 128 = 0 ∧ j' + 32 < t') (by word_omega)
  have i3 := setWidth_ind (b := IntOp.andi (IntOp.andi (IntOp.cmpi .slt (BitVec.ofNat 32 j') s) (IntOp.cmpi .ne r 0#32)) (IntOp.cmpi .eq n0 (BitVec.ofNat 32 j')))
    (P := (j' + 32 < t' ∧ j' % 128 ≠ 0) ∧ n0.toNat = j') (by word_omega)
  have i4 := setWidth_ind (b := IntOp.andi (IntOp.andi (IntOp.cmpi .slt (BitVec.ofNat 32 j') s) (IntOp.cmpi .ne r 0#32)) (IntOp.cmpi .eq n1 (BitVec.ofNat 32 j')))
    (P := (j' + 32 < t' ∧ j' % 128 ≠ 0) ∧ n1.toNat = j') (by word_omega)
  rw [← i1, ← i2, ← i3, ← i4]
  have l1 := ind_le i1
  have l2 := ind_le i2
  have l3 := ind_le i3
  have l4 := ind_le i4
  generalize (IntOp.andi _ _).setWidth 32 = w1 at *
  generalize (IntOp.andi _ (IntOp.cmpi .eq r 0#32)).setWidth 32 = w2 at *
  generalize (IntOp.andi _ (IntOp.cmpi .eq n0 _)).setWidth 32 = w3 at *
  generalize (IntOp.andi _ (IntOp.cmpi .eq n1 _)).setWidth 32 = w4 at *
  have eq : BitVec.ofNat 32 C = IntOp.addi (IntOp.addi (IntOp.addi w1 w2) w3) w4 := by
    rw [show IntOp.cmpi .sgt (BitVec.ofNat 32 j') (BitVec.ofNat 32 t') = 0#1 from bit_zero (by word_omega)] at ec
    exact (cmpi_eq _ _).1 (by revert ec; generalize IntOp.cmpi .eq _ _ = b; revert b; decide)
  have eq' := congrArg BitVec.toNat eq
  simp only [Cert.Proof.TileI.toNat_addi, BitVec.toNat_ofNat] at eq'
  omega

theorem range_of {u : BitVec 32} (d : Fin 51)
    (H : IntOp.andi (IntOp.cmpi .sge u (Scalar.select (IntOp.cmpi .slt (BitVec.ofNat 32 d.val) 2#32) 0#32 4294967295#32)) (IntOp.cmpi .slt u 2048#32) = 1#1) :
    (if d.val < 2 then 0 else -1) ≤ u.toInt ∧ u.toInt < 2048 := by
  have hd := d.isLt
  have ed : (BitVec.ofNat 32 d.val).toInt = d.val := StableHlo.Predicate.toInt_ofNat_small _ (by omega)
  generalize BitVec.ofNat 32 d.val = w at *
  word_omega

theorem listed_at {a0 : FVec Ideal S1x2048x1024 .f32} {a1 : FVec Ideal S3072x1024 .f32} {a2 a3 : FVec Ideal S1024x1024 .f32} {n : IVec S16x2048x51 32}
    (H : Cert.Pre_listed.fn (F := Ideal) a0 a1 a2 a3 n = fun _ => 1#1) (h : Fin 16) (t : Fin 2048) (j : Fin 2048) :
    (InRange n → j.val ≤ t.val → (Finset.univ.filter fun d : Fin 51 => n (ix3 h t d) = BitVec.ofNat 32 j.val).card = wantN t (PA n 0 h t) (PA n 1 h t) (pA n 0 h t) (pA n 1 h t) j)
    ∧ InRange n
    ∧ (∀ t e, (a0 (ix3 0 t e) : EReal) ≠ ⊤ ∧ (a0 (ix3 0 t e) : EReal) ≠ ⊥)
    ∧ ∀ o e, (a1 (ix2 o e) : EReal) ≠ ⊤ ∧ (a1 (ix2 o e) : EReal) ≠ ⊥ := by
  have e := congrFun H (ix3 h t j)
  revert e
  pointwise [Cert.Pre_listed.fn, fn_part1, fn_part2, fn_part3, fn_part4, fn_remainder, fn_where, fn_where_0]
  simp only [id_eq]
  pointwise
  intro e
  have key : ∀ x y : BitVec 1, IntOp.andi x y = 1#1 → x = 1#1 ∧ y = 1#1 := by decide
  obtain ⟨e, ef⟩ := key _ _ e
  obtain ⟨ec, er⟩ := key _ _ e
  obtain ⟨ex, ew⟩ := key _ _ ef
  refine ⟨fun hn hj => ?_, fun h t d => ?_, fun t e => ?_, fun o e => ?_⟩
  · clear ex ew ef er e
    rw [IndicatorCount.fold_addi_setWidth_eq_card] at ec
    exact count_eq hn h t j hj ec
  · exact range_of d (fold_andi_univ er (h, t, d))
  · exact abs_lt_top (fold_andi_univ ex (0, t, e))
  · exact abs_lt_top (fold_andi_univ ew (o, e))

end Cert.Proof.PreI

end
-- ==== Proof.GatR.lean ====
/-
  The reference's gather: where the pair of indices at (h, t, d) is a head and a position, the row of the table at that head and position.
-/
module

public import proofs.«01_k».proof.Proof.Gen.ReferenceIdeal
public import Idealize.ShloMosaic.Lib.Pointwise
public import Idealize.ShloMosaic.Lib.StableHlo.Predicate

@[expose] public section

noncomputable section

namespace Cert.Proof.RefI

open Cert.ReferenceIdeal Cert.ReferenceIdeal.Gen Idealize.ShloMosaic

abbrev gd := gather_S1x16x2048x64_S16x2048x51x2_S1x16x2048x51x64_04_12_n_n_12_3_11164

theorem gather_apply {α : Type} (k : S1x16x2048x64.Idx → α) (ix : IVec S16x2048x51x2 32) (h : Fin 16) (t : Fin 2048) (d : Fin 51) (e : Fin 64)
    (p : Fin 16) (j : Fin 2048) (hp : ix (ix4 h t d 0) = BitVec.ofNat 32 p.val) (hj : ix (ix4 h t d 1) = BitVec.ofNat 32 j.val) :
    Host.gather gd k ix (ix5 0 h t d e) = k (ix4 0 p j e) := by
  unfold Host.gather
  refine congrArg k (funext fun a => Fin.ext ?_)
  have hbN : ∀ a', a' ∉ gd.operandBatchingDims := fun a' => List.not_mem_nil
  have hsK : gd.sKept = [0, 3] := by decide
  have hbD : gd.batchDims = [1, 2, 3] := by decide
  have hsi : ∀ (q : Fin 2), gd.siIdx (ix5 0 h t d e) (Fin.cast rfl q) = ix4 h t d q := by
    intro q
    funext b
    apply Fin.ext
    match b with
    | ⟨0, _⟩ => rfl
    | ⟨1, _⟩ => rfl
    | ⟨2, _⟩ => rfl
    | ⟨3, _⟩ => rfl
  have n0 : (⟨0, by decide⟩ : Fin S1x16x2048x64.rank) ∉ gd.startIndexMap := by decide
  have n1 : (⟨1, by decide⟩ : Fin S1x16x2048x64.rank) ∈ gd.startIndexMap := by decide
  have n2 : (⟨2, by decide⟩ : Fin S1x16x2048x64.rank) ∈ gd.startIndexMap := by decide
  have n3 : (⟨3, by decide⟩ : Fin S1x16x2048x64.rank) ∉ gd.startIndexMap := by decide
  have m1 : (⟨1, by decide⟩ : Fin S1x16x2048x64.rank) ∉ gd.sKept := by decide
  have m2 : (⟨2, by decide⟩ : Fin S1x16x2048x64.rank) ∉ gd.sKept := by decide
  have k3 : (⟨3, by decide⟩ : Fin S1x16x2048x64.rank) ∈ gd.sKept := by decide
  have hpl := p.isLt
  have hjl := j.isLt
  show gd.start (ix5 0 h t d e) ix a + gd.batchCoord (ix5 0 h t d e) a + gd.offCoord (ix5 0 h t d e) a = _
  rw [gd.batchCoord_eq_zero _ _ (hbN a)]
  match a with
  | ⟨0, _⟩ =>
    unfold GatherDims.start
    rw [dif_neg n0]
    rfl
  | ⟨1, _⟩ =>
    rw [gd.offCoord_eq_zero _ _ m1]
    unfold GatherDims.start
    rw [dif_pos n1]
    have e1 := hsi 0
    have e2 : (ix (gd.siIdx (ix5 0 h t d e) (Fin.cast rfl (0 : Fin 2)))).toInt = p.val := by
      rw [e1, hp, StableHlo.Predicate.toInt_ofNat_small _ (by omega)]
    show min (ix (gd.siIdx (ix5 0 h t d e) (Fin.cast rfl (0 : Fin 2)))).toInt.toNat (16 - 1) + 0 + 0 = p.val
    rw [e2]; omega
  | ⟨2, _⟩ =>
    rw [gd.offCoord_eq_zero _ _ m2]
    unfold GatherDims.start
    rw [dif_pos n2]
    have e1 := hsi 1
    have e2 : (ix (gd.siIdx (ix5 0 h t d e) (Fin.cast rfl (1 : Fin 2)))).toInt = j.val := by
      rw [e1, hj, StableHlo.Predicate.toInt_ofNat_small _ (by omega)]
    show min (ix (gd.siIdx (ix5 0 h t d e) (Fin.cast rfl (1 : Fin 2)))).toInt.toNat (2048 - 1) + 0 + 0 = j.val
    rw [e2]; omega
  | ⟨3, _⟩ =>
    unfold GatherDims.start
    rw [dif_neg n3]
    unfold GatherDims.offCoord
    rw [dif_pos k3]
    have o3 : gd.offsetDims[List.idxOf (⟨3, by decide⟩ : Fin S1x16x2048x64.rank) gd.sKept]'(by decide) = (⟨4, by decide⟩ : Fin S1x16x2048x51x64.rank) := by decide
    simp only [Nat.zero_add]
    exact congrArg (fun q : Fin S1x16x2048x51x64.rank => (ix5 0 h t d e q).val) o3

end Cert.Proof.RefI

end
-- ==== Proof.RefI.lean ====
/-
  The reference program's result, stage by stage, and each stage read at an index.
-/
module

public import proofs.«01_k».proof.Proof.Gen.ReferenceIdeal.Run
public import proofs.«01_k».proof.Proof.Sums
public import Idealize.ShloMosaic.Lib.Pointwise
public import Idealize.ShloMosaic.Lib.Tactic.WordOmega
public import Idealize.ShloMosaic.Lib.StableHlo.Predicate

@[expose] public section

noncomputable section

namespace Cert.Proof.RefI

open Cert.ReferenceIdeal Cert.ReferenceIdeal.Gen Cert.ReferenceIdeal.Value Idealize.ShloMosaic Idealize.ShloMosaic.TcCoe Idealize.SL.Sem Idealize.ShloMosaic.StableHlo

abbrev VX := FVec Ideal S1x2048x1024 .f32
abbrev VH := FVec Ideal S1x16x2048x64 .f32
abbrev VN := IVec S16x2048x51 32
abbrev VS := FVec Ideal S1x16x2048x51 .f32
abbrev VG := FVec Ideal S1x16x2048x51x64 .f32

def qkvR (x : VX) (w : FVec Ideal S3072x1024 .f32) : FVec Ideal S1x2048x3072 .f32 :=
  Host.dotGeneral dot_S1x2048x1024_S1024x3072_S1x2048x3072_2_0_01_1_n_n none x (transpose S1024x3072 [1, 0] w transposes_S3072x1024_S1024x3072_1_0)
def qR (a : FVec Ideal S1x2048x3072 .f32) : VH :=
  transpose S1x16x2048x64 [0, 2, 1, 3] (shapeCast S1x2048x16x64 (extractStridedSlice S1x2048x1024 ![0, 0, 0] a slices_S1x2048x3072_S1x2048x1024_0_0_0) shapeCasts_S1x2048x1024_S1x2048x16x64) transposes_S1x2048x16x64_S1x16x2048x64_0_2_1_3
def kR (a : FVec Ideal S1x2048x3072 .f32) : VH :=
  transpose S1x16x2048x64 [0, 2, 1, 3] (shapeCast S1x2048x16x64 (extractStridedSlice S1x2048x1024 ![0, 0, 1024] a slices_S1x2048x3072_S1x2048x1024_0_0_1024) shapeCasts_S1x2048x1024_S1x2048x16x64) transposes_S1x2048x16x64_S1x16x2048x64_0_2_1_3
def vR (a : FVec Ideal S1x2048x3072 .f32) : VH :=
  transpose S1x16x2048x64 [0, 2, 1, 3] (shapeCast S1x2048x16x64 (extractStridedSlice S1x2048x1024 ![0, 0, 2048] a slices_S1x2048x3072_S1x2048x1024_0_0_2048) shapeCasts_S1x2048x1024_S1x2048x16x64) transposes_S1x2048x16x64_S1x16x2048x64_0_2_1_3

def safeR (n : VN) : VN := maxsi n (broadcastInDim S16x2048x51 ![] bcast_S_S16x2048x51 (constantI S_ 32 0#32))
def maskR (n : VN) : IVec S16x2048x51 1 :=
  andi (cmpi .sge n (broadcastInDim S16x2048x51 ![] bcast_S_S16x2048x51 (constantI S_ 32 0#32)))
    (cmpi .sle (safeR n) (broadcastInDim S16x2048x51 ![0, 1, 2] bcast_S1x2048x1_S16x2048x51_0_1_2 (broadcastInDim S1x2048x1 ![1] bcast_S2048_S1x2048x1_1 (iotaInDim S2048 32 0))))
def mask4 (n : VN) : IVec S1x16x2048x51 1 := broadcastInDim S1x16x2048x51 ![1, 2, 3] bcast_S16x2048x51_S1x16x2048x51_1_2_3 (maskR n)

def headIx : IVec S16x1x1 32 := broadcastInDim S16x1x1 ![0] bcast_S16_S16x1x1_0 (iotaInDim S16 32 0)
def idxA : IVec S16x2048x51x1 32 :=
  broadcastInDim S16x2048x51x1 ![0, 1, 2] bcast_S16x2048x51_S16x2048x51x1_0_1_2 (broadcastInDim S16x2048x51 ![0, 1, 2] bcast_S16x1x1_S16x2048x51_0_1_2
    (select (cmpi .slt headIx (broadcastInDim S16x1x1 ![] bcast_S_S16x1x1 (constantI S_ 32 0#32))) (addi headIx (broadcastInDim S16x1x1 ![] bcast_S_S16x1x1 (constantI S_ 32 16#32))) headIx))
def idxB (n : VN) : IVec S16x2048x51x1 32 :=
  broadcastInDim S16x2048x51x1 ![0, 1, 2] bcast_S16x2048x51_S16x2048x51x1_0_1_2
    (select (cmpi .slt (safeR n) (broadcastInDim S16x2048x51 ![] bcast_S_S16x2048x51 (constantI S_ 32 0#32))) (addi (safeR n) (broadcastInDim S16x2048x51 ![] bcast_S_S16x2048x51 (constantI S_ 32 2048#32))) (safeR n))
def idxR (n : VN) : IVec S16x2048x51x2 32 :=
  concatenate S16x2048x51x2 3 [⟨S16x2048x51x1, idxA⟩, ⟨S16x2048x51x1, idxB n⟩] concatenates_S16x2048x51x1_S16x2048x51x1_S16x2048x51x2_d3
def gatR (k : VH) (n : VN) : VG := Host.gather gather_S1x16x2048x64_S16x2048x51x2_S1x16x2048x51x64_04_12_n_n_12_3_11164 k (idxR n)

def rootR : VS := broadcastInDim S1x16x2048x51 ![] bcast_S_S1x16x2048x51 (Host.sqrt (constant S_ .f32 0x42800000#32))
def scR (q : VH) (kn : VG) (n : VN) : VS :=
  select (mask4 n) (Host.divf (Host.dotGeneral dot_S1x16x2048x64_S1x16x2048x51x64_S1x16x2048x51_3_4_n_3_012_012 none q kn) rootR)
    (broadcastInDim S1x16x2048x51 ![] bcast_S_S1x16x2048x51 (id (constant S_ .f32 0xFF800000#32)))
def row4 (r : FVec Ideal S1x16x2048 .f32) : VS :=
  broadcastInDim S1x16x2048x51 ![0, 1, 2, 3] bcast_S1x16x2048x1_S1x16x2048x51_0_1_2_3 (broadcastInDim S1x16x2048x1 ![0, 1, 2] bcast_S1x16x2048_S1x16x2048x1_0_1_2 r)
def maxR (s : VS) : FVec Ideal S1x16x2048 .f32 :=
  maximumf (broadcastInDim S1x16x2048 ![] bcast_S_S1x16x2048 (constant S_ .f32 0xFF800000#32))
    (Host.reduce FloatOps.maximumf s (constant S_ .f32 0xFF800000#32) reducesTo_S1x16x2048x51_S1x16x2048_d3 h_S_)
def exR (s : VS) : VS := Host.exp (subf s (row4 (maxR s)))
def sumR (e : VS) : FVec Ideal S1x16x2048 .f32 := Host.reduceAdd e (constant S_ .f32 0x00000000#32) reducesTo_S1x16x2048x51_S1x16x2048_d3 h_S_
def attnR (s : VS) (n : VN) : VS :=
  select (mask4 n) (Host.divf (exR s) (row4 (sumR (exR s)))) (broadcastInDim S1x16x2048x51 ![] bcast_S_S1x16x2048x51 (id (constant S_ .f32 0x00000000#32)))
def yR (p : VS) (vn : VG) : VX :=
  shapeCast S1x2048x1024 (transpose S1x2048x16x64 [0, 2, 1, 3] (Host.dotGeneral dot_S1x16x2048x51_S1x16x2048x51x64_S1x16x2048x64_3_3_n_4_012_012 none p vn) transposes_S1x16x2048x64_S1x2048x16x64_0_2_1_3) shapeCasts_S1x2048x16x64_S1x2048x1024
def outR (y : VX) (w : FVec Ideal S1024x1024 .f32) : VX :=
  Host.dotGeneral dot_S1x2048x1024_S1024x1024_S1x2048x1024_2_0_01_1_n_n none y (transpose S1024x1024 [1, 0] w transposes_S1024x1024_S1024x1024_1_0)

def scoresR (x : VX) (w : FVec Ideal S3072x1024 .f32) (n : VN) : VS := scR (qR (qkvR x w)) (gatR (kR (qkvR x w)) n) n
def fullR (x : VX) (w : FVec Ideal S3072x1024 .f32) (wo : FVec Ideal S1024x1024 .f32) (n : VN) : VX :=
  outR (yR (attnR (scoresR x w n) n) (gatR (vR (qkvR x w)) n)) wo

set_option maxRecDepth 8192 in
theorem res_eq (m : (ℓ : Loc nD τ sig) → Buf (Elt Ideal) ℓ) (c : Dev nD) :
    res_main_v75 m c = fullR (m ((c.tc : Thread nD τ).loc main_arg0)) (m ((c.tc : Thread nD τ).loc main_arg1)) (m ((c.tc : Thread nD τ).loc main_arg2)) (m ((c.tc : Thread nD τ).loc main_arg4)) := by
  unfold res_main_v75
  rfl

/-! ## At an index -/

theorem qkvR_apply (x : VX) (w : FVec Ideal S3072x1024 .f32) (t : Fin 2048) (c : Fin 3072) :
    qkvR x w (ix3 0 t c) = ∑ e : Fin 1024, x (ix3 0 t e) * w (ix2 c e) := by
  pointwise [qkvR]

theorem qR_apply (a : FVec Ideal S1x2048x3072 .f32) (h : Fin 16) (t : Fin 2048) (e : Fin 64) :
    qR a (ix4 0 h t e) = a (ix3 0 t ⟨64 * h.val + e.val, by omega⟩) := by
  pointwise [qR]
  exact congrArg a (congrArg (ix3 0 t) (Fin.ext (by simp only []; omega)))

theorem kR_apply (a : FVec Ideal S1x2048x3072 .f32) (h : Fin 16) (t : Fin 2048) (e : Fin 64) :
    kR a (ix4 0 h t e) = a (ix3 0 t ⟨1024 + 64 * h.val + e.val, by omega⟩) := by
  pointwise [kR]
  exact congrArg a (congrArg (ix3 0 t) (Fin.ext (by simp only []; omega)))

theorem vR_apply (a : FVec Ideal S1x2048x3072 .f32) (h : Fin 16) (t : Fin 2048) (e : Fin 64) :
    vR a (ix4 0 h t e) = a (ix3 0 t ⟨2048 + 64 * h.val + e.val, by omega⟩) := by
  pointwise [vR]
  exact congrArg a (congrArg (ix3 0 t) (Fin.ext (by simp only []; omega)))

theorem mask4_apply (n : VN) (h : Fin 16) (t : Fin 2048) (d : Fin 51) : mask4 n (ix4 0 h t d) = maskR n (ix3 h t d) := by
  pointwise [mask4]

theorem maxsi_zero (w : BitVec 32) : IntOp.maxsi w 0#32 = if w.toInt < 0 then 0#32 else w := by
  unfold IntOp.maxsi
  simp only [BitVec.slt_iff_toInt_lt, BitVec.sle_iff_toInt_le]
  split <;> split <;> first | rfl | (rename_i h1 h2; simp at h1 h2; omega) | (rename_i h1 h2; simp at h1 h2; apply BitVec.eq_of_toInt_eq; simp; omega)

/-- The entry is a position not after its own. -/
def okR (n : VN) (h : Fin 16) (t : Fin 2048) (d : Fin 51) : Prop := 0 ≤ (n (ix3 h t d)).toInt ∧ (n (ix3 h t d)).toInt ≤ t.val

instance (n : VN) (h : Fin 16) (t : Fin 2048) : DecidablePred (okR n h t) := fun _ => inferInstanceAs (Decidable (_ ∧ _))

theorem maskR_apply (n : VN) (h : Fin 16) (t : Fin 2048) (d : Fin 51) : maskR n (ix3 h t d) = 1#1 ↔ okR n h t d := by
  pointwise [maskR, safeR]
  unfold okR
  rw [maxsi_zero]
  have ht := t.isLt
  have e : (BitVec.ofNat 32 t.val).toInt = t.val := StableHlo.Predicate.toInt_ofNat_small _ (by omega)
  generalize BitVec.ofNat 32 t.val = u at *
  word_omega

theorem idxR_apply0 (n : VN) (h : Fin 16) (t : Fin 2048) (d : Fin 51) : idxR n (ix4 h t d 0) = BitVec.ofNat 32 h.val := by
  pointwise [idxR, idxA, headIx]
  have hh := h.isLt
  have e : (BitVec.ofNat 32 h.val).toInt = h.val := StableHlo.Predicate.toInt_ofNat_small _ (by omega)
  generalize BitVec.ofNat 32 h.val = u at *
  word_omega

theorem idxR_apply1 (n : VN) (h : Fin 16) (t : Fin 2048) (d : Fin 51) : idxR n (ix4 h t d 1) = if (n (ix3 h t d)).toInt < 0 then 0#32 else n (ix3 h t d) := by
  pointwise [idxR, idxB, safeR]
  rw [maxsi_zero]
  generalize n (ix3 h t d) = u at *
  word_omega

theorem ninf : Ideal.ofBits FTy.f32 0xFF800000#32 = ⊥ := by
  simp [Ideal.ofBits, Ideal.ieee]
theorem root : Ideal.sqrt (Ideal.ofBits FTy.f32 0x42800000#32) = ((8 : ℝ) : EReal) := by
  have e : Ideal.ofBits FTy.f32 0x42800000#32 = ((64 : ℝ) : EReal) := by simp [Ideal.ofBits, Ideal.ieee, -EReal.coe_mul]; norm_num
  rw [e]
  show (if (64 : ℝ) < 0 then ⊥ else ((Real.sqrt 64 : ℝ) : EReal)) = _
  rw [if_neg (by norm_num), show (64 : ℝ) = 8 ^ 2 by norm_num, Real.sqrt_sq (by norm_num)]

theorem scR_apply (q : VH) (kn : VG) (n : VN) (h : Fin 16) (t : Fin 2048) (d : Fin 51) :
    scR q kn n (ix4 0 h t d) = if okR n h t d then Ideal.div (∑ e : Fin 64, q (ix4 0 h t e) * kn (ix5 0 h t d e)) ((8 : ℝ) : EReal) else ⊥ := by
  pointwise [scR, rootR, mask4]
  rw [root]
  unfold Scalar.select
  exact ite_congr (propext (maskR_apply n h t d)) (fun _ => rfl) fun _ => ninf

theorem maxR_apply (s : VS) (h : Fin 16) (t : Fin 2048) :
    maxR s (ix3 0 h t) = Finset.univ.sup fun d : Fin 51 => s (ix4 0 h t d) := by
  pointwise [maxR]
  rw [ninf, max_eq_right bot_le]
  rfl

theorem exR_apply (s : VS) (h : Fin 16) (t : Fin 2048) (d : Fin 51) :
    exR s (ix4 0 h t d) = Ideal.exp (s (ix4 0 h t d) - maxR s (ix3 0 h t)) := by
  pointwise [exR, row4]

theorem sumR_apply (e : VS) (h : Fin 16) (t : Fin 2048) : sumR e (ix3 0 h t) = ∑ d : Fin 51, e (ix4 0 h t d) := by
  pointwise [sumR]

theorem attnR_apply (s : VS) (n : VN) (h : Fin 16) (t : Fin 2048) (d : Fin 51) :
    attnR s n (ix4 0 h t d) = if okR n h t d then Ideal.div (exR s (ix4 0 h t d)) (sumR (exR s) (ix3 0 h t)) else 0 := by
  pointwise [attnR, mask4, row4]
  unfold Scalar.select
  exact ite_congr (propext (maskR_apply n h t d)) (fun _ => rfl) fun _ => Ideal.ofBits_zero_f32

theorem yR_apply (p : VS) (vn : VG) (h : Fin 16) (t : Fin 2048) (e : Fin 64) :
    yR p vn (ix3 0 t ⟨64 * h.val + e.val, by omega⟩) = ∑ d : Fin 51, p (ix4 0 h t d) * vn (ix5 0 h t d e) := by
  pointwise [yR]

theorem outR_apply (y : VX) (w : FVec Ideal S1024x1024 .f32) (t : Fin 2048) (c : Fin 1024) :
    outR y w (ix3 0 t c) = ∑ e : Fin 1024, y (ix3 0 t e) * w (ix2 c e) := by
  pointwise [outR]

end Cert.Proof.RefI

end
-- ==== Proof.RefValI.lean ====
/- The reference's result over the reals, and that it is the kernel's. -/
module

public import proofs.«01_k».proof.Proof.PreI
public import proofs.«01_k».proof.Proof.GatR
public import proofs.«01_k».proof.Proof.RefI

@[expose] public section

set_option maxRecDepth 16384

noncomputable section

namespace Cert.Proof.RefI

open Cert.ReferenceIdeal Cert.ReferenceIdeal.Gen Idealize.ShloMosaic
open Sums (att cnt den)
open Cert.Proof.TileI (proj InRange PA pA wantN score col scl attO attK)

/-- The position an entry of a list names. -/
def posR (n : VN) (h : Fin 16) (t : Fin 2048) (d : Fin 51) : Fin 2048 := ⟨(n (ix3 h t d)).toNat % 2048, by omega⟩

theorem posR_val {n : VN} {h : Fin 16} {t : Fin 2048} {d : Fin 51} (ho : okR n h t d) :
    (posR n h t d).val = (n (ix3 h t d)).toNat ∧ (n (ix3 h t d)).toNat ≤ t.val := by
  obtain ⟨h0, h1⟩ := ho
  have ht := t.isLt
  have hb := Cert.Proof.TileI.toNat_lt h0 (by omega)
  have : (n (ix3 h t d)).toInt = (n (ix3 h t d)).toNat := by rw [BitVec.toInt_eq_toNat_of_lt (by omega)]
  show (n (ix3 h t d)).toNat % 2048 = _ ∧ _
  omega

theorem gatR_apply (k : VH) {n : VN} {h : Fin 16} {t : Fin 2048} {d : Fin 51} (ho : okR n h t d) (e : Fin 64) :
    gatR k n (ix5 0 h t d e) = k (ix4 0 h (posR n h t d) e) := by
  refine gather_apply k _ h t d e h (posR n h t d) (idxR_apply0 n h t d) ((idxR_apply1 n h t d).trans ?_)
  rw [if_neg (by have := ho.1; omega), (posR_val ho).1, BitVec.ofNat_toNat, BitVec.setWidth_eq]

/-- The score as the reference takes it. -/
def scoreR (q k : VH) (h : Fin 16) (t j : Fin 2048) : EReal := Ideal.div (∑ e : Fin 64, q (ix4 0 h t e) * k (ix4 0 h j e)) ((8 : ℝ) : EReal)

theorem scores_apply (q k : VH) (n : VN) (h : Fin 16) (t : Fin 2048) (d : Fin 51) :
    scR q (gatR k n) n (ix4 0 h t d) = if okR n h t d then scoreR q k h t (posR n h t d) else (⊥ : EReal) := by
  rw [scR_apply]
  by_cases ho : okR n h t d
  · rw [if_pos ho, if_pos ho]
    unfold scoreR
    refine congrArg (fun z => Ideal.div z _) (Finset.sum_congr rfl fun e _ => ?_)
    rw [gatR_apply k ho]
  · rw [if_neg ho, if_neg ho]

theorem y_apply (q k v : VH) (n : VN) (h : Fin 16) (t : Fin 2048) (e : Fin 64)
    (hD : den (cnt (okR n h t) (posR n h t)) (scoreR q k h t) ≠ 0) :
    yR (attnR (scR q (gatR k n) n) n) (gatR v n) (ix3 0 t ⟨64 * h.val + e.val, by omega⟩)
      = att (cnt (okR n h t) (posR n h t)) (scoreR q k h t) fun j => v (ix4 0 h j e) := by
  rw [yR_apply]
  refine Eq.trans (Finset.sum_congr rfl fun d _ => ?_) (Sums.att_of_list (okR n h t) (posR n h t) (scoreR q k h t) (fun j => v (ix4 0 h j e))
    (fun d => scR q (gatR k n) n (ix4 0 h t d)) (fun d => gatR v n (ix5 0 h t d e)) _ _ (fun d => scores_apply q k n h t d)
    (fun d ho => gatR_apply v ho e) (maxR_apply _ h t) (sumR_apply _ h t |>.trans (Finset.sum_congr rfl fun d _ => exR_apply _ h t d)) hD)
  rw [attnR_apply, exR_apply]

/-! ## The same count, the same scores -/

theorem cnt_want {n : VN} (hn : InRange n) (h : Fin 16) (t : Fin 2048)
    (hl : ∀ j : Fin 2048, j.val ≤ t.val → (Finset.univ.filter fun d : Fin 51 => n (ix3 h t d) = BitVec.ofNat 32 j.val).card = wantN t (PA n 0 h t) (PA n 1 h t) (pA n 0 h t) (pA n 1 h t) j) :
    cnt (okR n h t) (posR n h t) = wantN t (PA n 0 h t) (PA n 1 h t) (pA n 0 h t) (pA n 1 h t) := by
  funext j
  by_cases hj : j.val ≤ t.val
  · rw [← hl j hj]
    unfold cnt
    refine congrArg Finset.card (Finset.filter_congr fun d _ => ⟨fun ⟨ho, hp⟩ => ?_, fun e => ?_⟩)
    · rw [← hp, (posR_val ho).1, BitVec.ofNat_toNat, BitVec.setWidth_eq]
    · have hb := j.isLt
      have ej : (BitVec.ofNat 32 j.val).toInt = j.val := StableHlo.Predicate.toInt_ofNat_small _ (by omega)
      have ho : okR n h t d := by unfold okR; rw [e, ej]; omega
      refine ⟨ho, Fin.ext ?_⟩
      rw [(posR_val ho).1, e, BitVec.toNat_ofNat]
      omega
  · have e0 : cnt (okR n h t) (posR n h t) j = 0 := by
      unfold cnt
      rw [Finset.card_eq_zero, Finset.filter_eq_empty_iff]
      rintro d _ ⟨ho, hp⟩
      have := posR_val ho
      rw [hp] at this
      omega
    have hk : ∀ k : Fin 2, ¬ (PA n k h t ∧ pA n k h t = j) := by
      rintro k ⟨hP, hp⟩
      have e := congrArg Fin.val hp
      have h1 := hP.1
      change (n (ix3 h t ⟨k.val, by omega⟩)).toNat % 2048 = j.val at e
      omega
    rw [e0]
    unfold wantN
    rw [if_neg (hk 0), if_neg (hk 1), if_neg (by omega), if_neg (by omega)]

theorem scl_val : scl = ((1 / 8 : ℝ) : EReal) := by
  simp [scl, Ideal.ofBits, Ideal.ieee, -EReal.coe_mul]; norm_num

/-- A value neither infinity. -/
def Fine (x : EReal) : Prop := x ≠ ⊤ ∧ x ≠ ⊥
theorem Fine.coe (r : ℝ) : Fine r := ⟨EReal.coe_ne_top r, EReal.coe_ne_bot r⟩
theorem Fine.lift {x : EReal} (h : Fine x) : ∃ r : ℝ, x = r := ⟨x.toReal, (EReal.coe_toReal h.1 h.2).symm⟩
theorem Fine.add {x y : EReal} (hx : Fine x) (hy : Fine y) : Fine (x + y) := by
  obtain ⟨a, rfl⟩ := hx.lift; obtain ⟨b, rfl⟩ := hy.lift
  rw [← EReal.coe_add]; exact .coe _
theorem Fine.mul {x y : EReal} (hx : Fine x) (hy : Fine y) : Fine (x * y) := by
  obtain ⟨a, rfl⟩ := hx.lift; obtain ⟨b, rfl⟩ := hy.lift
  rw [← EReal.coe_mul]; exact .coe _
theorem Fine.sum {ι : Type} (s : Finset ι) (f : ι → EReal) (h : ∀ i, Fine (f i)) : Fine (∑ i ∈ s, f i) := by
  classical
  induction s using Finset.induction_on with
  | empty => exact .coe 0
  | insert a s ha ih => rw [Finset.sum_insert ha]; exact (h a).add ih

theorem scoreR_eq (x : VX) (w : FVec Ideal S3072x1024 .f32) (q k : Cert.KernelIdeal.S2048x1024.Idx → EReal)
    (hq : ∀ (t : Fin 2048) (o : Fin 1024), q (ix2 t o) = proj x w t ⟨o.val, by omega⟩)
    (hk : ∀ (t : Fin 2048) (o : Fin 1024), k (ix2 t o) = proj x w t ⟨1024 + o.val, by omega⟩) (h : Fin 16) (t j : Fin 2048) :
    scoreR (qR (qkvR x w)) (kR (qkvR x w)) h t j = score q k h t j := by
  unfold scoreR score
  rw [Ideal.div_coe (by norm_num : (8 : ℝ) ≠ 0), scl_val]
  refine congrArg (fun z : EReal => z * _) (Finset.sum_congr rfl fun e _ => ?_)
  rw [hq, hk, qR_apply, kR_apply, qkvR_apply, qkvR_apply]
  unfold proj
  exact congrArg₂ (fun a b : EReal => a * b) rfl (Finset.sum_congr rfl fun e' _ => congrArg (fun o => x (ix3 0 j e') * w (ix2 o e')) (Fin.ext (by simp only [col]; omega)))

theorem ref_val (x : VX) (w : FVec Ideal S3072x1024 .f32) (wo : FVec Ideal S1024x1024 .f32) (n : VN) (q k v : Cert.KernelIdeal.S2048x1024.Idx → EReal)
    (hq : ∀ (t : Fin 2048) (o : Fin 1024), q (ix2 t o) = proj x w t ⟨o.val, by omega⟩)
    (hk : ∀ (t : Fin 2048) (o : Fin 1024), k (ix2 t o) = proj x w t ⟨1024 + o.val, by omega⟩)
    (hv : ∀ (t : Fin 2048) (o : Fin 1024), v (ix2 t o) = proj x w t ⟨2048 + o.val, by omega⟩)
    (hn : InRange n) (hx : ∀ t e, Fine (x (ix3 0 t e))) (hw : ∀ o e, Fine (w (ix2 o e)))
    (hl : ∀ (h : Fin 16) (t j : Fin 2048), j.val ≤ t.val → (Finset.univ.filter fun d : Fin 51 => n (ix3 h t d) = BitVec.ofNat 32 j.val).card = wantN t (PA n 0 h t) (PA n 1 h t) (pA n 0 h t) (pA n 1 h t) j)
    (t : Fin 2048) (o : Fin 1024) :
    fullR x w wo n (ix3 0 t o) = ∑ e : Fin 1024, attO q k v (PA n 0) (PA n 1) (pA n 0) (pA n 1) t e * wo (ix2 o e) := by
  unfold fullR
  rw [outR_apply]
  refine Finset.sum_congr rfl fun e _ => congrArg (fun z : EReal => z * _) ?_
  have hproj : ∀ t o, Fine (proj x w t o) := fun t o => Fine.sum _ _ fun e => (hx t e).mul (hw o e)
  obtain ⟨h, e', rfl⟩ : ∃ (h : Fin 16) (e' : Fin 64), e = ⟨64 * h.val + e'.val, by omega⟩ :=
    ⟨⟨e.val / 64, by omega⟩, ⟨e.val % 64, by omega⟩, Fin.ext (by simp only []; omega)⟩
  have h1 : (⟨(64 * h.val + e'.val) / 64, by omega⟩ : Fin 16) = h := Fin.ext (by simp only []; omega)
  have h2 : (⟨(64 * h.val + e'.val) % 64, by omega⟩ : Fin 64) = e' := Fin.ext (by simp only []; omega)
  have es : scoreR (qR (qkvR x w)) (kR (qkvR x w)) h t = score q k h t := funext fun j => scoreR_eq x w q k hq hk h t j
  have ec := cnt_want hn h t (hl h t)
  have ev : (fun j : Fin 2048 => (vR (qkvR x w) (ix4 0 h j e') : EReal)) = fun j => v (ix2 j (col h e')) := funext fun j => by
    rw [hv, vR_apply, qkvR_apply]
    unfold proj
    exact Finset.sum_congr rfl fun e₂ _ => congrArg (fun o => x (ix3 0 j e₂) * w (ix2 o e₂)) (Fin.ext (by simp only [col]; omega))
  have hD : den (cnt (okR n h t) (posR n h t)) (scoreR (qR (qkvR x w)) (kR (qkvR x w)) h t) ≠ 0 := by
    rw [ec, es]
    refine Sums.den_ne_zero _ _ (fun j => ?_) t ?_
    · have : Fine (score q k h t j) := by
        unfold score
        refine (Fine.sum _ _ fun e => ?_).mul (by rw [scl_val]; exact .coe _)
        rw [hq, hk]
        exact (hproj _ _).mul (hproj _ _)
      exact ⟨this.2, this.1⟩
    · unfold wantN
      rw [if_pos (by omega)]
      omega
  have ea : attO q k v (PA n 0) (PA n 1) (pA n 0) (pA n 1) t ⟨64 * h.val + e'.val, by omega⟩ = attK q k v (PA n 0) (PA n 1) (pA n 0) (pA n 1) h t e' :=
    congrArg₂ (fun a b => attK q k v (PA n 0) (PA n 1) (pA n 0) (pA n 1) a t b) h1 h2
  refine (y_apply _ _ _ n h t e' hD).trans ?_
  rw [ec, es, ev, ea]
  rfl

end Cert.Proof.RefI

end
-- ==== Proof.lean ====
/- The proof of the certificate's claims: the kernel's frame at the machine's floats and at the reals, the reference's
   frame, what the idealization preserves, and the equality of the two results over the reals. -/
module

public import proofs.«01_k».proof.Defs
public import proofs.«01_k».proof.Proof.LaunchK
public import proofs.«01_k».proof.Proof.LaunchI
public import proofs.«01_k».proof.Proof.IdxK
public import proofs.«01_k».proof.Proof.RefValI
public import proofs.«01_k».proof.Proof.Gen.Kernel.Points
public import proofs.«01_k».proof.Proof.Gen.Kernel.Skeleton
public import proofs.«01_k».proof.Proof.Gen.KernelIdeal.Points
public import proofs.«01_k».proof.Proof.Gen.KernelIdeal.Skeleton
public import Idealize.ShloMosaic.Adequacy
public import Idealize.ShloMosaic.Init

@[expose] public section

noncomputable section

namespace Cert.Proof

open Idealize.ShloMosaic Idealize.SL.Sem

theorem frame_k : Cert.quiescent_Kernel := fun m ρ hpre =>
  (θ_run Cert.Kernel.defs _ _).mono (fun _ h => ⟨fun c =>
      ⟨(h.1 c).1 _ (by decide), (h.1 c).1 _ (by decide), (h.1 c).1 _ (by decide), (h.1 c).1 _ (by decide), (h.1 c).1 _ (by decide)⟩, h.2⟩)
    (TileK.run_main (F := Bits) m ρ fun d => TileK.preIx_of m (TileK.in_range_at (hpre d)))

/-- The kernel over the reals runs on lists within range. -/
theorem frame_of (m : (ℓ : Loc Cert.KernelIdeal.nD Cert.KernelIdeal.τ Cert.KernelIdeal.sig) → Buf (Elt Ideal) ℓ) (ρ : Dev Cert.KernelIdeal.nD → PrngReg)
    (hn : ∀ d, TileI.InRange (TileI.nbr m d)) :
    θ_run (Cert.KernelIdeal.defs (F := Ideal)) (Cert.KernelIdeal.threads (F := Ideal)) ⟨m, fun _ => 0, ρ⟩ (TileI.QC m) :=
  TileI.run_main (F := Ideal) m ρ fun d => TileI.preIx_of m (hn d)

theorem frame_i : Cert.quiescent_KernelIdeal := fun m ρ hpre =>
  (θ_run Cert.KernelIdeal.defs _ _).mono (fun _ h => ⟨fun c =>
      ⟨(h.1 c).1 _ (by decide), (h.1 c).1 _ (by decide), (h.1 c).1 _ (by decide), (h.1 c).1 _ (by decide), (h.1 c).1 _ (by decide)⟩, h.2⟩)
    (frame_of m ρ fun d => TileI.in_range_at (hpre d))

theorem frame_il : Cert.quiescent_KernelIdeal_pre_listed := fun m ρ hpre =>
  (θ_run Cert.KernelIdeal.defs _ _).mono (fun _ h => ⟨fun c =>
      ⟨(h.1 c).1 _ (by decide), (h.1 c).1 _ (by decide), (h.1 c).1 _ (by decide), (h.1 c).1 _ (by decide), (h.1 c).1 _ (by decide)⟩, h.2⟩)
    (frame_of m ρ fun d => (PreI.listed_at (hpre d) 0 0 0).2.1)

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := IdealRules.named_const.statement _ _ _ _ _ rfl

/-- Over the reals the reference's result is the kernel's. -/
theorem values_eq (m : (ℓ : Loc Cert.KernelIdeal.nD Cert.KernelIdeal.τ Cert.KernelIdeal.sig) → Buf (Elt Ideal) ℓ) (c : Dev Cert.KernelIdeal.nD)
    (hpre : Cert.Pre_listed.fn (F := Ideal) (TileI.xA m c) (TileI.wA m c) (TileI.oA m c) (m ((c.tc : Thread Cert.KernelIdeal.nD Cert.KernelIdeal.τ).loc Cert.KernelIdeal.main_arg3)) (TileI.nbr m c) = fun _ => 1#1) :
    RefI.fullR (TileI.xA m c) (TileI.wA m c) (TileI.oA m c) (TileI.nbr m c) = TileI.W15 m c (Proc.devRef .tc Cert.KernelIdeal.main_v36) := by
  have hl := PreI.listed_at hpre
  have hn : TileI.InRange (TileI.nbr m c) := (hl 0 0 0).2.1
  funext x
  obtain ⟨x0, t, o, rfl⟩ : ∃ (x0 : Fin 1) (t : Fin 2048) (o : Fin 1024), x = ix3 x0 t o := ⟨x 0, x 1, x 2, eq_ix3 _⟩
  obtain rfl : x0 = 0 := Subsingleton.elim _ _
  exact (RefI.ref_val (TileI.xA m c) (TileI.wA m c) (TileI.oA m c) (TileI.nbr m c) _ _ _ (TileI.V11_v4 m c) (TileI.V11_v5 m c) (TileI.V11_v6 m c) hn
    (hl 0 0 0).2.2.1 (hl 0 0 0).2.2.2 (fun h t j hj => (hl h t j).1 hn hj) t o).trans (TileI.kernel_val m hn t o).symm

theorem algebraic : Cert.algebraic_KernelIdeal_ReferenceIdeal_pre_listed := by
  intro m ρ m' ρ' hpre hagree
  refine ⟨fun c => TileI.W15 m c (Proc.devRef .tc Cert.KernelIdeal.main_v36), ?_, ?_⟩
  · exact (θ_run Cert.KernelIdeal.defs _ _).mono (fun _ h c =>
        ⟨(h.1 c).2, (h.1 c).1 _ (by decide), (h.1 c).1 _ (by decide), (h.1 c).1 _ (by decide), (h.1 c).1 _ (by decide), (h.1 c).1 _ (by decide)⟩)
      (frame_of m ρ fun d => (PreI.listed_at (hpre d) 0 0 0).2.1)
  · refine (θ_run Cert.ReferenceIdeal.defs _ _).mono (fun _ h c => ⟨(h c).1.trans ?_, (h c).2⟩) (Cert.ReferenceIdeal.Value.run (F := Ideal) m' ρ')
    rw [RefI.res_eq, (hagree c).1, (hagree c).2.1, (hagree c).2.2.1, (hagree c).2.2.2.2]
    exact values_eq m c (hpre c)

theorem claim : Cert.Claim := ⟨Cert.Kernel.Gen.facts, Cert.KernelIdeal.Gen.facts, Cert.ReferenceIdeal.Gen.facts, Cert.Pre_in_range.Gen.facts, Cert.Pre_listed.Gen.facts,
  frame_k, frame_i, frame_il, frame_r, fun m ρ _ => frame_r m ρ trivial, preserves, algebraic⟩

end Cert.Proof

end
